-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v250)) (v1 : (c : Dev Cert.KernelIdeal.nD) → Buf (Elt Ideal) ((c.tc : Thread Cert.KernelIdeal.nD Cert.KernelIdeal.τ).loc Cert.KernelIdeal.main_arg9)) (v2 : (c : Dev Cert.KernelIdeal.nD) → Buf (Elt Ideal) ((c.tc : Thread Cert.KernelIdeal.nD Cert.KernelIdeal.τ).loc Cert.KernelIdeal.main_v251)) (v3 : (c : Dev Cert.KernelIdeal.nD) → Buf (Elt Ideal) ((c.tc : Thread Cert.KernelIdeal.nD Cert.KernelIdeal.τ).loc Cert.KernelIdeal.main_arg5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v250) = v0 c
          ∧ r.2.mem ((c.tc : Thread Cert.KernelIdeal.nD Cert.KernelIdeal.τ).loc Cert.KernelIdeal.main_arg9) = v1 c
          ∧ r.2.mem ((c.tc : Thread Cert.KernelIdeal.nD Cert.KernelIdeal.τ).loc Cert.KernelIdeal.main_v251) = v2 c
          ∧ r.2.mem ((c.tc : Thread Cert.KernelIdeal.nD Cert.KernelIdeal.τ).loc Cert.KernelIdeal.main_arg5) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219_1) = v0 c
          ∧ r.2.mem ((c.tc : Thread Cert.ReferenceIdeal.nD Cert.ReferenceIdeal.τ).loc Cert.ReferenceIdeal.main_arg9) = v1 c
          ∧ r.2.mem ((c.tc : Thread Cert.ReferenceIdeal.nD Cert.ReferenceIdeal.τ).loc Cert.ReferenceIdeal.main_v219_0) = v2 c
          ∧ r.2.mem ((c.tc : Thread Cert.ReferenceIdeal.nD Cert.ReferenceIdeal.τ).loc Cert.ReferenceIdeal.main_arg5) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S12x128x3584 : Shape := ⟨3, ![12, 128, 3584]⟩
abbrev S_ : Shape := ⟨0, ![]⟩
abbrev S3584x18944 : Shape := ⟨2, ![3584, 18944]⟩
abbrev S18944 : Shape := ⟨1, ![18944]⟩
abbrev S18944x3584 : Shape := ⟨2, ![18944, 3584]⟩
abbrev S3584 : Shape := ⟨1, ![3584]⟩
abbrev S277 : Shape := ⟨1, ![277]⟩
abbrev S1x277 : Shape := ⟨2, ![1, 277]⟩
abbrev S1536x3584 : Shape := ⟨2, ![1536, 3584]⟩
abbrev S18944x1 : Shape := ⟨2, ![18944, 1]⟩
abbrev S18944x277 : Shape := ⟨2, ![18944, 277]⟩
abbrev S1x18944 : Shape := ⟨2, ![1, 18944]⟩
abbrev S10x18944 : Shape := ⟨2, ![10, 18944]⟩
abbrev S3584x1 : Shape := ⟨2, ![3584, 1]⟩
abbrev S3584x277 : Shape := ⟨2, ![3584, 277]⟩
abbrev S1x3584 : Shape := ⟨2, ![1, 3584]⟩
abbrev S4x3584 : Shape := ⟨2, ![4, 3584]⟩
abbrev S1536x18944 : Shape := ⟨2, ![1536, 18944]⟩
abbrev S3584x512 : Shape := ⟨2, ![3584, 512]⟩
abbrev S10x512 : Shape := ⟨2, ![10, 512]⟩
abbrev S1536x512 : Shape := ⟨2, ![1536, 512]⟩
abbrev S1x512 : Shape := ⟨2, ![1, 512]⟩
abbrev S512x1792 : Shape := ⟨2, ![512, 1792]⟩
abbrev S4x1792 : Shape := ⟨2, ![4, 1792]⟩
abbrev S1536x1792 : Shape := ⟨2, ![1536, 1792]⟩
abbrev S1x1792 : Shape := ⟨2, ![1, 1792]⟩
abbrev S12x128x18944 : Shape := ⟨3, ![12, 128, 18944]⟩

abbrev nBuf : Space → Nat
  | .hbm => 358
  | .vmem => 17
  | .smem => 0
  | _ => 0

abbrev hbmTy0_0 (i : Nat) : BufTy := match i % 128 with
  | 0 => ⟨S12x128x3584, .i8⟩
  | 1 => ⟨S_, .f32⟩
  | 2 => ⟨S3584x18944, .i8⟩
  | 3 => ⟨S18944, .f32⟩
  | 4 => ⟨S18944, .i32⟩
  | 5 => ⟨S_, .f32⟩
  | 6 => ⟨S18944x3584, .i8⟩
  | 7 => ⟨S3584, .f32⟩
  | 8 => ⟨S3584, .i32⟩
  | 9 => ⟨S_, .f32⟩
  | 10 => ⟨S277, .f32⟩
  | 11 => ⟨S1x277, .f32⟩
  | 12 => ⟨S277, .f32⟩
  | 13 => ⟨S1x277, .f32⟩
  | 14 => ⟨S277, .f32⟩
  | 15 => ⟨S1x277, .f32⟩
  | 16 => ⟨S277, .f32⟩
  | 17 => ⟨S1x277, .f32⟩
  | 18 => ⟨S1536x3584, .i8⟩
  | 19 => ⟨S18944, .f32⟩
  | 20 => ⟨S18944, .f32⟩
  | 21 => ⟨S_, .f32⟩
  | 22 => ⟨S18944, .f32⟩
  | 23 => ⟨S18944, .f32⟩
  | 24 => ⟨S18944, .f32⟩
  | 25 => ⟨S18944x1, .f32⟩
  | 26 => ⟨S18944x277, .f32⟩
  | 27 => ⟨S18944x277, .f32⟩
  | 28 => ⟨S18944x277, .i1⟩
  | 29 => ⟨S18944x277, .i32⟩
  | 30 => ⟨S_, .i32⟩
  | 31 => ⟨S18944, .i32⟩
  | 32 => ⟨S_, .f32⟩
  | 33 => ⟨S18944, .f32⟩
  | 34 => ⟨S18944, .i1⟩
  | 35 => ⟨S18944, .f32⟩
  | 36 => ⟨S_, .f32⟩
  | 37 => ⟨S18944, .f32⟩
  | 38 => ⟨S18944, .i1⟩
  | 39 => ⟨S18944, .i1⟩
  | 40 => ⟨S_, .i32⟩
  | 41 => ⟨S18944, .i32⟩
  | 42 => ⟨S18944, .i32⟩
  | 43 => ⟨S_, .i32⟩
  | 44 => ⟨S_, .i32⟩
  | 45 => ⟨S18944, .i32⟩
  | 46 => ⟨S18944, .i32⟩
  | 47 => ⟨S18944, .i32⟩
  | 48 => ⟨S_, .i32⟩
  | 49 => ⟨S18944, .i32⟩
  | 50 => ⟨S18944, .i32⟩
  | 51 => ⟨S_, .i32⟩
  | 52 => ⟨S18944, .i32⟩
  | 53 => ⟨S18944, .i32⟩
  | 54 => ⟨S_, .i32⟩
  | 55 => ⟨S18944, .i32⟩
  | 56 => ⟨S18944, .i32⟩
  | 57 => ⟨S18944, .f32⟩
  | 58 => ⟨S18944, .f32⟩
  | 59 => ⟨S18944, .i32⟩
  | 60 => ⟨S_, .i32⟩
  | 61 => ⟨S18944, .i32⟩
  | 62 => ⟨S18944, .i32⟩
  | 63 => ⟨S_, .i32⟩
  | 64 => ⟨S18944, .i32⟩
  | 65 => ⟨S18944, .i32⟩
  | 66 => ⟨S18944, .f32⟩
  | 67 => ⟨S18944, .f32⟩
  | 68 => ⟨S_, .i32⟩
  | 69 => ⟨S18944, .i32⟩
  | 70 => ⟨S18944, .i32⟩
  | 71 => ⟨S_, .i32⟩
  | 72 => ⟨S18944, .i32⟩
  | 73 => ⟨S18944, .i32⟩
  | 74 => ⟨S_, .i32⟩
  | 75 => ⟨S18944, .i32⟩
  | 76 => ⟨S18944, .i32⟩
  | 77 => ⟨S_, .i32⟩
  | 78 => ⟨S18944, .i32⟩
  | 79 => ⟨S18944, .i32⟩
  | 80 => ⟨S18944, .f32⟩
  | 81 => ⟨S18944, .f32⟩
  | 82 => ⟨S18944, .i32⟩
  | 83 => ⟨S_, .i32⟩
  | 84 => ⟨S18944, .i32⟩
  | 85 => ⟨S18944, .i32⟩
  | 86 => ⟨S_, .i32⟩
  | 87 => ⟨S18944, .i32⟩
  | 88 => ⟨S18944, .i32⟩
  | 89 => ⟨S18944, .f32⟩
  | 90 => ⟨S18944, .f32⟩
  | 91 => ⟨S_, .f32⟩
  | 92 => ⟨S18944, .f32⟩
  | 93 => ⟨S18944, .f32⟩
  | 94 => ⟨S18944, .f32⟩
  | 95 => ⟨S18944, .i32⟩
  | 96 => ⟨S18944, .f32⟩
  | 97 => ⟨S_, .f32⟩
  | 98 => ⟨S18944, .f32⟩
  | 99 => ⟨S18944, .f32⟩
  | 100 => ⟨S18944, .f32⟩
  | 101 => ⟨S18944, .i32⟩
  | 102 => ⟨S18944, .f32⟩
  | 103 => ⟨S_, .f32⟩
  | 104 => ⟨S18944, .f32⟩
  | 105 => ⟨S18944, .f32⟩
  | 106 => ⟨S18944, .f32⟩
  | 107 => ⟨S18944x1, .f32⟩
  | 108 => ⟨S18944x277, .f32⟩
  | 109 => ⟨S18944x277, .f32⟩
  | 110 => ⟨S18944x277, .i1⟩
  | 111 => ⟨S18944x277, .i32⟩
  | 112 => ⟨S_, .i32⟩
  | 113 => ⟨S18944, .i32⟩
  | 114 => ⟨S_, .f32⟩
  | 115 => ⟨S18944, .f32⟩
  | 116 => ⟨S18944, .i1⟩
  | 117 => ⟨S18944, .f32⟩
  | 118 => ⟨S_, .f32⟩
  | 119 => ⟨S18944, .f32⟩
  | 120 => ⟨S18944, .i1⟩
  | 121 => ⟨S18944, .i1⟩
  | 122 => ⟨S_, .i32⟩
  | 123 => ⟨S18944, .i32⟩
  | 124 => ⟨S18944, .i32⟩
  | 125 => ⟨S_, .i32⟩
  | 126 => ⟨S_, .i32⟩
  | 127 => ⟨S18944, .i32⟩
  | _ => ⟨S12x128x3584, .i8⟩

abbrev hbmTy0_1 (i : Nat) : BufTy := match i % 128 with
  | 0 => ⟨S18944, .i32⟩
  | 1 => ⟨S18944, .i32⟩
  | 2 => ⟨S_, .i32⟩
  | 3 => ⟨S18944, .i32⟩
  | 4 => ⟨S18944, .i32⟩
  | 5 => ⟨S_, .i32⟩
  | 6 => ⟨S18944, .i32⟩
  | 7 => ⟨S18944, .i32⟩
  | 8 => ⟨S_, .i32⟩
  | 9 => ⟨S18944, .i32⟩
  | 10 => ⟨S18944, .i32⟩
  | 11 => ⟨S18944, .f32⟩
  | 12 => ⟨S18944, .f32⟩
  | 13 => ⟨S18944, .i32⟩
  | 14 => ⟨S_, .i32⟩
  | 15 => ⟨S18944, .i32⟩
  | 16 => ⟨S18944, .i32⟩
  | 17 => ⟨S_, .i32⟩
  | 18 => ⟨S18944, .i32⟩
  | 19 => ⟨S18944, .i32⟩
  | 20 => ⟨S18944, .f32⟩
  | 21 => ⟨S18944, .f32⟩
  | 22 => ⟨S_, .i32⟩
  | 23 => ⟨S18944, .i32⟩
  | 24 => ⟨S18944, .i32⟩
  | 25 => ⟨S_, .i32⟩
  | 26 => ⟨S18944, .i32⟩
  | 27 => ⟨S18944, .i32⟩
  | 28 => ⟨S_, .i32⟩
  | 29 => ⟨S18944, .i32⟩
  | 30 => ⟨S18944, .i32⟩
  | 31 => ⟨S_, .i32⟩
  | 32 => ⟨S18944, .i32⟩
  | 33 => ⟨S18944, .i32⟩
  | 34 => ⟨S18944, .f32⟩
  | 35 => ⟨S18944, .f32⟩
  | 36 => ⟨S18944, .i32⟩
  | 37 => ⟨S_, .i32⟩
  | 38 => ⟨S18944, .i32⟩
  | 39 => ⟨S18944, .i32⟩
  | 40 => ⟨S_, .i32⟩
  | 41 => ⟨S18944, .i32⟩
  | 42 => ⟨S18944, .i32⟩
  | 43 => ⟨S18944, .f32⟩
  | 44 => ⟨S18944, .f32⟩
  | 45 => ⟨S_, .f32⟩
  | 46 => ⟨S18944, .f32⟩
  | 47 => ⟨S18944, .f32⟩
  | 48 => ⟨S18944, .f32⟩
  | 49 => ⟨S18944, .i32⟩
  | 50 => ⟨S18944, .f32⟩
  | 51 => ⟨S_, .f32⟩
  | 52 => ⟨S18944, .f32⟩
  | 53 => ⟨S18944, .f32⟩
  | 54 => ⟨S18944, .f32⟩
  | 55 => ⟨S18944, .f32⟩
  | 56 => ⟨S18944, .f32⟩
  | 57 => ⟨S18944x1, .f32⟩
  | 58 => ⟨S18944x277, .f32⟩
  | 59 => ⟨S18944x277, .f32⟩
  | 60 => ⟨S18944x277, .i1⟩
  | 61 => ⟨S18944x277, .i32⟩
  | 62 => ⟨S_, .i32⟩
  | 63 => ⟨S18944, .i32⟩
  | 64 => ⟨S_, .f32⟩
  | 65 => ⟨S18944, .f32⟩
  | 66 => ⟨S18944, .i1⟩
  | 67 => ⟨S18944, .f32⟩
  | 68 => ⟨S_, .f32⟩
  | 69 => ⟨S18944, .f32⟩
  | 70 => ⟨S18944, .i1⟩
  | 71 => ⟨S18944, .i1⟩
  | 72 => ⟨S_, .i32⟩
  | 73 => ⟨S18944, .i32⟩
  | 74 => ⟨S18944, .i32⟩
  | 75 => ⟨S_, .i32⟩
  | 76 => ⟨S_, .i32⟩
  | 77 => ⟨S18944, .i32⟩
  | 78 => ⟨S18944, .i32⟩
  | 79 => ⟨S18944, .i32⟩
  | 80 => ⟨S_, .i32⟩
  | 81 => ⟨S18944, .i32⟩
  | 82 => ⟨S18944, .i32⟩
  | 83 => ⟨S_, .i32⟩
  | 84 => ⟨S18944, .i32⟩
  | 85 => ⟨S18944, .i32⟩
  | 86 => ⟨S_, .i32⟩
  | 87 => ⟨S18944, .i32⟩
  | 88 => ⟨S18944, .i32⟩
  | 89 => ⟨S18944, .f32⟩
  | 90 => ⟨S18944, .f32⟩
  | 91 => ⟨S18944, .i32⟩
  | 92 => ⟨S_, .i32⟩
  | 93 => ⟨S18944, .i32⟩
  | 94 => ⟨S18944, .i32⟩
  | 95 => ⟨S_, .i32⟩
  | 96 => ⟨S18944, .i32⟩
  | 97 => ⟨S18944, .i32⟩
  | 98 => ⟨S18944, .f32⟩
  | 99 => ⟨S18944, .f32⟩
  | 100 => ⟨S_, .f32⟩
  | 101 => ⟨S18944, .f32⟩
  | 102 => ⟨S18944, .f32⟩
  | 103 => ⟨S18944, .f32⟩
  | 104 => ⟨S18944, .i32⟩
  | 105 => ⟨S_, .i32⟩
  | 106 => ⟨S18944, .i32⟩
  | 107 => ⟨S18944, .i32⟩
  | 108 => ⟨S_, .i32⟩
  | 109 => ⟨S18944, .i32⟩
  | 110 => ⟨S18944, .i32⟩
  | 111 => ⟨S_, .i32⟩
  | 112 => ⟨S18944, .i32⟩
  | 113 => ⟨S18944, .i32⟩
  | 114 => ⟨S_, .i32⟩
  | 115 => ⟨S18944, .i32⟩
  | 116 => ⟨S18944, .i1⟩
  | 117 => ⟨S_, .i32⟩
  | 118 => ⟨S18944, .i32⟩
  | 119 => ⟨S18944, .i1⟩
  | 120 => ⟨S18944, .i1⟩
  | 121 => ⟨S_, .i32⟩
  | 122 => ⟨S_, .i32⟩
  | 123 => ⟨S18944, .i32⟩
  | 124 => ⟨S18944, .i32⟩
  | 125 => ⟨S18944, .i32⟩
  | 126 => ⟨S_, .i32⟩
  | 127 => ⟨S18944, .i32⟩
  | _ => ⟨S12x128x3584, .i8⟩

abbrev hbmTy0_2 (i : Nat) : BufTy := match i % 128 with
  | 0 => ⟨S18944, .i32⟩
  | 1 => ⟨S_, .i32⟩
  | 2 => ⟨S_, .i32⟩
  | 3 => ⟨S_, .i32⟩
  | 4 => ⟨S18944, .i32⟩
  | 5 => ⟨S18944, .i32⟩
  | 6 => ⟨S_, .i32⟩
  | 7 => ⟨S18944, .i32⟩
  | 8 => ⟨S18944, .i32⟩
  | 9 => ⟨S1x18944, .i32⟩
  | 10 => ⟨S1x18944, .i32⟩
  | 11 => ⟨S1x18944, .i32⟩
  | 12 => ⟨S1x18944, .i32⟩
  | 13 => ⟨S1x18944, .i32⟩
  | 14 => ⟨S1x18944, .i32⟩
  | 15 => ⟨S1x18944, .i32⟩
  | 16 => ⟨S1x18944, .i32⟩
  | 17 => ⟨S1x18944, .i32⟩
  | 18 => ⟨S1x18944, .i32⟩
  | 19 => ⟨S10x18944, .i32⟩
  | 20 => ⟨S3584, .f32⟩
  | 21 => ⟨S3584, .f32⟩
  | 22 => ⟨S3584, .f32⟩
  | 23 => ⟨S3584, .f32⟩
  | 24 => ⟨S3584, .f32⟩
  | 25 => ⟨S3584x1, .f32⟩
  | 26 => ⟨S3584x277, .f32⟩
  | 27 => ⟨S3584x277, .f32⟩
  | 28 => ⟨S3584x277, .i1⟩
  | 29 => ⟨S3584x277, .i32⟩
  | 30 => ⟨S_, .i32⟩
  | 31 => ⟨S3584, .i32⟩
  | 32 => ⟨S_, .f32⟩
  | 33 => ⟨S3584, .f32⟩
  | 34 => ⟨S3584, .i1⟩
  | 35 => ⟨S3584, .f32⟩
  | 36 => ⟨S_, .f32⟩
  | 37 => ⟨S3584, .f32⟩
  | 38 => ⟨S3584, .i1⟩
  | 39 => ⟨S3584, .i1⟩
  | 40 => ⟨S_, .i32⟩
  | 41 => ⟨S3584, .i32⟩
  | 42 => ⟨S3584, .i32⟩
  | 43 => ⟨S_, .i32⟩
  | 44 => ⟨S_, .i32⟩
  | 45 => ⟨S3584, .i32⟩
  | 46 => ⟨S3584, .i32⟩
  | 47 => ⟨S3584, .i32⟩
  | 48 => ⟨S_, .i32⟩
  | 49 => ⟨S3584, .i32⟩
  | 50 => ⟨S3584, .i32⟩
  | 51 => ⟨S_, .i32⟩
  | 52 => ⟨S3584, .i32⟩
  | 53 => ⟨S3584, .i32⟩
  | 54 => ⟨S_, .i32⟩
  | 55 => ⟨S3584, .i32⟩
  | 56 => ⟨S3584, .i32⟩
  | 57 => ⟨S3584, .f32⟩
  | 58 => ⟨S3584, .f32⟩
  | 59 => ⟨S3584, .i32⟩
  | 60 => ⟨S_, .i32⟩
  | 61 => ⟨S3584, .i32⟩
  | 62 => ⟨S3584, .i32⟩
  | 63 => ⟨S_, .i32⟩
  | 64 => ⟨S3584, .i32⟩
  | 65 => ⟨S3584, .i32⟩
  | 66 => ⟨S3584, .f32⟩
  | 67 => ⟨S3584, .f32⟩
  | 68 => ⟨S_, .f32⟩
  | 69 => ⟨S3584, .f32⟩
  | 70 => ⟨S3584, .f32⟩
  | 71 => ⟨S3584, .f32⟩
  | 72 => ⟨S3584, .i32⟩
  | 73 => ⟨S_, .i32⟩
  | 74 => ⟨S3584, .i32⟩
  | 75 => ⟨S3584, .i32⟩
  | 76 => ⟨S_, .i32⟩
  | 77 => ⟨S3584, .i32⟩
  | 78 => ⟨S3584, .i32⟩
  | 79 => ⟨S_, .i32⟩
  | 80 => ⟨S3584, .i32⟩
  | 81 => ⟨S3584, .i32⟩
  | 82 => ⟨S_, .i32⟩
  | 83 => ⟨S3584, .i32⟩
  | 84 => ⟨S3584, .i1⟩
  | 85 => ⟨S_, .i32⟩
  | 86 => ⟨S3584, .i32⟩
  | 87 => ⟨S3584, .i1⟩
  | 88 => ⟨S3584, .i1⟩
  | 89 => ⟨S_, .i32⟩
  | 90 => ⟨S_, .i32⟩
  | 91 => ⟨S3584, .i32⟩
  | 92 => ⟨S3584, .i32⟩
  | 93 => ⟨S1x3584, .i32⟩
  | 94 => ⟨S1x3584, .i32⟩
  | 95 => ⟨S1x3584, .i32⟩
  | 96 => ⟨S1x3584, .i32⟩
  | 97 => ⟨S4x3584, .i32⟩
  | 98 => ⟨S1536x18944, .i8⟩
  | 99 => ⟨S1536x3584, .i8⟩
  | 100 => ⟨S12x128x3584, .i8⟩
  | 101 => ⟨S12x128x18944, .i8⟩
  | _ => ⟨S12x128x3584, .i8⟩

abbrev hbmTy (i : Nat) : BufTy := match i / 128 with
  | 0 => hbmTy0_0 i
  | 1 => hbmTy0_1 i
  | 2 => hbmTy0_2 i
  | _ => ⟨S12x128x3584, .i8⟩

abbrev bufTy : (tb : Table) → Fin (tcTables nBuf tb) → BufTy
  | .hbm, ⟨i, _⟩ => hbmTy i
  | .local _ .vmem, ⟨0, _⟩ => ⟨S1536x3584, .i8⟩
  | .local _ .vmem, ⟨1, _⟩ => ⟨S3584x512, .i8⟩
  | .local _ .vmem, ⟨2, _⟩ => ⟨S3584x512, .i8⟩
  | .local _ .vmem, ⟨3, _⟩ => ⟨S10x512, .i32⟩
  | .local _ .vmem, ⟨4, _⟩ => ⟨S10x512, .i32⟩
  | .local _ .vmem, ⟨5, _⟩ => ⟨S1536x512, .i8⟩
  | .local _ .vmem, ⟨6, _⟩ => ⟨S1536x512, .i8⟩
  | .local _ .vmem, ⟨7, _⟩ => ⟨S1536x3584, .bf16⟩
  | .local _ .vmem, ⟨8, _⟩ => ⟨S1536x512, .i8⟩
  | .local _ .vmem, ⟨9, _⟩ => ⟨S1536x512, .i8⟩
  | .local _ .vmem, ⟨10, _⟩ => ⟨S512x1792, .i8⟩
  | .local _ .vmem, ⟨11, _⟩ => ⟨S512x1792, .i8⟩
  | .local _ .vmem, ⟨12, _⟩ => ⟨S4x1792, .i32⟩
  | .local _ .vmem, ⟨13, _⟩ => ⟨S4x1792, .i32⟩
  | .local _ .vmem, ⟨14, _⟩ => ⟨S1536x1792, .i8⟩
  | .local _ .vmem, ⟨15, _⟩ => ⟨S1536x1792, .i8⟩
  | .local _ .vmem, ⟨16, _⟩ => ⟨S1536x1792, .f32⟩
  | _, _ => ⟨S12x128x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_3 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_c : Ref sig .tc := ⟨.hbm, 30, rfl⟩
abbrev main_v15 : Ref sig .tc := ⟨.hbm, 31, rfl⟩
abbrev main_cst_4 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_6 : Ref sig .tc := ⟨.hbm, 40, rfl⟩
abbrev main_v22 : Ref sig .tc := ⟨.hbm, 41, rfl⟩
abbrev main_v23 : Ref sig .tc := ⟨.hbm, 42, rfl⟩
abbrev main_c_7 : Ref sig .tc := ⟨.hbm, 43, rfl⟩
abbrev main_call0_v0 : Ref sig .tc := ⟨.hbm, 44, rfl⟩
abbrev main_call0_v1 : Ref sig .tc := ⟨.hbm, 45, rfl⟩
abbrev main_v24 : Ref sig .tc := ⟨.hbm, 46, rfl⟩
abbrev main_v25 : Ref sig .tc := ⟨.hbm, 47, rfl⟩
abbrev main_c_8 : Ref sig .tc := ⟨.hbm, 48, rfl⟩
abbrev main_v26 : Ref sig .tc := ⟨.hbm, 49, rfl⟩
abbrev main_v27 : Ref sig .tc := ⟨.hbm, 50, rfl⟩
abbrev main_c_9 : Ref sig .tc := ⟨.hbm, 51, rfl⟩
abbrev main_v28 : Ref sig .tc := ⟨.hbm, 52, rfl⟩
abbrev main_v29 : Ref sig .tc := ⟨.hbm, 53, rfl⟩
abbrev main_c_10 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_c_11 : Ref sig .tc := ⟨.hbm, 60, rfl⟩
abbrev main_v35 : Ref sig .tc := ⟨.hbm, 61, rfl⟩
abbrev main_v36 : Ref sig .tc := ⟨.hbm, 62, rfl⟩
abbrev main_c_12 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_c_13 : Ref sig .tc := ⟨.hbm, 68, rfl⟩
abbrev main_v41 : Ref sig .tc := ⟨.hbm, 69, rfl⟩
abbrev main_v42 : Ref sig .tc := ⟨.hbm, 70, rfl⟩
abbrev main_c_14 : Ref sig .tc := ⟨.hbm, 71, rfl⟩
abbrev main_v43 : Ref sig .tc := ⟨.hbm, 72, rfl⟩
abbrev main_v44 : Ref sig .tc := ⟨.hbm, 73, rfl⟩
abbrev main_c_15 : Ref sig .tc := ⟨.hbm, 74, rfl⟩
abbrev main_v45 : Ref sig .tc := ⟨.hbm, 75, rfl⟩
abbrev main_v46 : Ref sig .tc := ⟨.hbm, 76, rfl⟩
abbrev main_c_16 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_c_17 : Ref sig .tc := ⟨.hbm, 83, rfl⟩
abbrev main_v52 : Ref sig .tc := ⟨.hbm, 84, rfl⟩
abbrev main_v53 : Ref sig .tc := ⟨.hbm, 85, rfl⟩
abbrev main_c_18 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_cst_19 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_cst_20 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_cst_21 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_c_22 : Ref sig .tc := ⟨.hbm, 112, rfl⟩
abbrev main_v76 : Ref sig .tc := ⟨.hbm, 113, rfl⟩
abbrev main_cst_23 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_24 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_c_25 : Ref sig .tc := ⟨.hbm, 122, rfl⟩
abbrev main_v83 : Ref sig .tc := ⟨.hbm, 123, rfl⟩
abbrev main_v84 : Ref sig .tc := ⟨.hbm, 124, rfl⟩
abbrev main_c_26 : Ref sig .tc := ⟨.hbm, 125, rfl⟩
abbrev main_call1_v0 : Ref sig .tc := ⟨.hbm, 126, rfl⟩
abbrev main_call1_v1 : Ref sig .tc := ⟨.hbm, 127, rfl⟩
abbrev main_v85 : Ref sig .tc := ⟨.hbm, 128, rfl⟩
abbrev main_v86 : Ref sig .tc := ⟨.hbm, 129, rfl⟩
abbrev main_c_27 : Ref sig .tc := ⟨.hbm, 130, rfl⟩
abbrev main_v87 : Ref sig .tc := ⟨.hbm, 131, rfl⟩
abbrev main_v88 : Ref sig .tc := ⟨.hbm, 132, rfl⟩
abbrev main_c_28 : Ref sig .tc := ⟨.hbm, 133, rfl⟩
abbrev main_v89 : Ref sig .tc := ⟨.hbm, 134, rfl⟩
abbrev main_v90 : Ref sig .tc := ⟨.hbm, 135, rfl⟩
abbrev main_c_29 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_v95 : Ref sig .tc := ⟨.hbm, 141, rfl⟩
abbrev main_c_30 : Ref sig .tc := ⟨.hbm, 142, rfl⟩
abbrev main_v96 : Ref sig .tc := ⟨.hbm, 143, rfl⟩
abbrev main_v97 : Ref sig .tc := ⟨.hbm, 144, rfl⟩
abbrev main_c_31 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_v101 : Ref sig .tc := ⟨.hbm, 149, rfl⟩
abbrev main_c_32 : Ref sig .tc := ⟨.hbm, 150, rfl⟩
abbrev main_v102 : Ref sig .tc := ⟨.hbm, 151, rfl⟩
abbrev main_v103 : Ref sig .tc := ⟨.hbm, 152, rfl⟩
abbrev main_c_33 : Ref sig .tc := ⟨.hbm, 153, rfl⟩
abbrev main_v104 : Ref sig .tc := ⟨.hbm, 154, rfl⟩
abbrev main_v105 : Ref sig .tc := ⟨.hbm, 155, rfl⟩
abbrev main_c_34 : Ref sig .tc := ⟨.hbm, 156, rfl⟩
abbrev main_v106 : Ref sig .tc := ⟨.hbm, 157, rfl⟩
abbrev main_v107 : Ref sig .tc := ⟨.hbm, 158, rfl⟩
abbrev main_c_35 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_v112 : Ref sig .tc := ⟨.hbm, 164, rfl⟩
abbrev main_c_36 : Ref sig .tc := ⟨.hbm, 165, rfl⟩
abbrev main_v113 : Ref sig .tc := ⟨.hbm, 166, rfl⟩
abbrev main_v114 : Ref sig .tc := ⟨.hbm, 167, rfl⟩
abbrev main_c_37 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_v118 : Ref sig .tc := ⟨.hbm, 172, rfl⟩
abbrev main_cst_38 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_v123 : Ref sig .tc := ⟨.hbm, 178, rfl⟩
abbrev main_cst_39 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_v133 : Ref sig .tc := ⟨.hbm, 189, rfl⟩
abbrev main_c_40 : Ref sig .tc := ⟨.hbm, 190, rfl⟩
abbrev main_v134 : Ref sig .tc := ⟨.hbm, 191, rfl⟩
abbrev main_cst_41 : Ref sig .tc := ⟨.hbm, 192, rfl⟩
abbrev main_v135 : Ref sig .tc := ⟨.hbm, 193, rfl⟩
abbrev main_v136 : Ref sig .tc := ⟨.hbm, 194, rfl⟩
abbrev main_v137 : Ref sig .tc := ⟨.hbm, 195, rfl⟩
abbrev main_cst_42 : Ref sig .tc := ⟨.hbm, 196, rfl⟩
abbrev main_v138 : Ref sig .tc := ⟨.hbm, 197, rfl⟩
abbrev main_v139 : Ref sig .tc := ⟨.hbm, 198, rfl⟩
abbrev main_v140 : Ref sig .tc := ⟨.hbm, 199, rfl⟩
abbrev main_c_43 : Ref sig .tc := ⟨.hbm, 200, rfl⟩
abbrev main_v141 : Ref sig .tc := ⟨.hbm, 201, rfl⟩
abbrev main_v142 : Ref sig .tc := ⟨.hbm, 202, rfl⟩
abbrev main_c_44 : Ref sig .tc := ⟨.hbm, 203, rfl⟩
abbrev main_call2_v0 : Ref sig .tc := ⟨.hbm, 204, rfl⟩
abbrev main_call2_v1 : Ref sig .tc := ⟨.hbm, 205, rfl⟩
abbrev main_v143 : Ref sig .tc := ⟨.hbm, 206, rfl⟩
abbrev main_v144 : Ref sig .tc := ⟨.hbm, 207, rfl⟩
abbrev main_c_45 : Ref sig .tc := ⟨.hbm, 208, rfl⟩
abbrev main_v145 : Ref sig .tc := ⟨.hbm, 209, rfl⟩
abbrev main_v146 : Ref sig .tc := ⟨.hbm, 210, rfl⟩
abbrev main_c_46 : Ref sig .tc := ⟨.hbm, 211, rfl⟩
abbrev main_v147 : Ref sig .tc := ⟨.hbm, 212, rfl⟩
abbrev main_v148 : Ref sig .tc := ⟨.hbm, 213, rfl⟩
abbrev main_c_47 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_v153 : Ref sig .tc := ⟨.hbm, 219, rfl⟩
abbrev main_c_48 : Ref sig .tc := ⟨.hbm, 220, rfl⟩
abbrev main_v154 : Ref sig .tc := ⟨.hbm, 221, rfl⟩
abbrev main_v155 : Ref sig .tc := ⟨.hbm, 222, rfl⟩
abbrev main_c_49 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_v159 : Ref sig .tc := ⟨.hbm, 227, rfl⟩
abbrev main_cst_50 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_v163 : Ref sig .tc := ⟨.hbm, 232, rfl⟩
abbrev main_c_51 : Ref sig .tc := ⟨.hbm, 233, rfl⟩
abbrev main_v164 : Ref sig .tc := ⟨.hbm, 234, rfl⟩
abbrev main_v165 : Ref sig .tc := ⟨.hbm, 235, rfl⟩
abbrev main_c_52 : Ref sig .tc := ⟨.hbm, 236, rfl⟩
abbrev main_v166 : Ref sig .tc := ⟨.hbm, 237, rfl⟩
abbrev main_v167 : Ref sig .tc := ⟨.hbm, 238, rfl⟩
abbrev main_c_53 : Ref sig .tc := ⟨.hbm, 239, rfl⟩
abbrev main_v168 : Ref sig .tc := ⟨.hbm, 240, rfl⟩
abbrev main_v169 : Ref sig .tc := ⟨.hbm, 241, rfl⟩
abbrev main_c_54 : Ref sig .tc := ⟨.hbm, 242, rfl⟩
abbrev main_v170 : Ref sig .tc := ⟨.hbm, 243, rfl⟩
abbrev main_v171 : Ref sig .tc := ⟨.hbm, 244, rfl⟩
abbrev main_c_55 : Ref sig .tc := ⟨.hbm, 245, rfl⟩
abbrev main_v172 : Ref sig .tc := ⟨.hbm, 246, rfl⟩
abbrev main_v173 : Ref sig .tc := ⟨.hbm, 247, rfl⟩
abbrev main_v174 : Ref sig .tc := ⟨.hbm, 248, rfl⟩
abbrev main_c_56 : Ref sig .tc := ⟨.hbm, 249, rfl⟩
abbrev main_call4_v0 : Ref sig .tc := ⟨.hbm, 250, rfl⟩
abbrev main_call4_v1 : Ref sig .tc := ⟨.hbm, 251, rfl⟩
abbrev main_v175 : Ref sig .tc := ⟨.hbm, 252, rfl⟩
abbrev main_v176 : Ref sig .tc := ⟨.hbm, 253, rfl⟩
abbrev main_c_57 : Ref sig .tc := ⟨.hbm, 254, rfl⟩
abbrev main_v177 : Ref sig .tc := ⟨.hbm, 255, rfl⟩
abbrev main_v178 : Ref sig .tc := ⟨.hbm, 256, rfl⟩
abbrev main_c_58 : Ref sig .tc := ⟨.hbm, 257, rfl⟩
abbrev main_c_59 : Ref sig .tc := ⟨.hbm, 258, rfl⟩
abbrev main_call5_v0 : Ref sig .tc := ⟨.hbm, 259, rfl⟩
abbrev main_call5_v1 : Ref sig .tc := ⟨.hbm, 260, rfl⟩
abbrev main_call5_v2 : Ref sig .tc := ⟨.hbm, 261, rfl⟩
abbrev main_call5_v3 : Ref sig .tc := ⟨.hbm, 262, rfl⟩
abbrev main_call5_v4 : Ref sig .tc := ⟨.hbm, 263, rfl⟩
abbrev main_v179 : Ref sig .tc := ⟨.hbm, 264, rfl⟩
abbrev main_v180 : Ref sig .tc := ⟨.hbm, 265, rfl⟩
abbrev main_v181 : Ref sig .tc := ⟨.hbm, 266, rfl⟩
abbrev main_v182 : Ref sig .tc := ⟨.hbm, 267, rfl⟩
abbrev main_v183 : Ref sig .tc := ⟨.hbm, 268, rfl⟩
abbrev main_v184 : Ref sig .tc := ⟨.hbm, 269, rfl⟩
abbrev main_v185 : Ref sig .tc := ⟨.hbm, 270, rfl⟩
abbrev main_v186 : Ref sig .tc := ⟨.hbm, 271, rfl⟩
abbrev main_v187 : Ref sig .tc := ⟨.hbm, 272, rfl⟩
abbrev main_v188 : Ref sig .tc := ⟨.hbm, 273, rfl⟩
abbrev main_v189 : Ref sig .tc := ⟨.hbm, 274, rfl⟩
abbrev main_v190 : Ref sig .tc := ⟨.hbm, 275, rfl⟩
abbrev main_v191 : Ref sig .tc := ⟨.hbm, 276, rfl⟩
abbrev main_v192 : Ref sig .tc := ⟨.hbm, 277, rfl⟩
abbrev main_v193 : Ref sig .tc := ⟨.hbm, 278, rfl⟩
abbrev main_v194 : Ref sig .tc := ⟨.hbm, 279, rfl⟩
abbrev main_v195 : Ref sig .tc := ⟨.hbm, 280, rfl⟩
abbrev main_v196 : Ref sig .tc := ⟨.hbm, 281, rfl⟩
abbrev main_v197 : Ref sig .tc := ⟨.hbm, 282, rfl⟩
abbrev main_v198 : Ref sig .tc := ⟨.hbm, 283, rfl⟩
abbrev main_v199 : Ref sig .tc := ⟨.hbm, 284, rfl⟩
abbrev main_v200 : Ref sig .tc := ⟨.hbm, 285, rfl⟩
abbrev main_c_60 : Ref sig .tc := ⟨.hbm, 286, rfl⟩
abbrev main_v201 : Ref sig .tc := ⟨.hbm, 287, rfl⟩
abbrev main_cst_61 : Ref sig .tc := ⟨.hbm, 288, rfl⟩
abbrev main_v202 : Ref sig .tc := ⟨.hbm, 289, rfl⟩
abbrev main_v203 : Ref sig .tc := ⟨.hbm, 290, rfl⟩
abbrev main_v204 : Ref sig .tc := ⟨.hbm, 291, rfl⟩
abbrev main_cst_62 : Ref sig .tc := ⟨.hbm, 292, rfl⟩
abbrev main_v205 : Ref sig .tc := ⟨.hbm, 293, rfl⟩
abbrev main_v206 : Ref sig .tc := ⟨.hbm, 294, rfl⟩
abbrev main_v207 : Ref sig .tc := ⟨.hbm, 295, rfl⟩
abbrev main_c_63 : Ref sig .tc := ⟨.hbm, 296, rfl⟩
abbrev main_v208 : Ref sig .tc := ⟨.hbm, 297, rfl⟩
abbrev main_v209 : Ref sig .tc := ⟨.hbm, 298, rfl⟩
abbrev main_c_64 : Ref sig .tc := ⟨.hbm, 299, rfl⟩
abbrev main_call6_v0 : Ref sig .tc := ⟨.hbm, 300, rfl⟩
abbrev main_call6_v1 : Ref sig .tc := ⟨.hbm, 301, rfl⟩
abbrev main_v210 : Ref sig .tc := ⟨.hbm, 302, rfl⟩
abbrev main_v211 : Ref sig .tc := ⟨.hbm, 303, rfl⟩
abbrev main_c_65 : Ref sig .tc := ⟨.hbm, 304, rfl⟩
abbrev main_v212 : Ref sig .tc := ⟨.hbm, 305, rfl⟩
abbrev main_v213 : Ref sig .tc := ⟨.hbm, 306, rfl⟩
abbrev main_c_66 : Ref sig .tc := ⟨.hbm, 307, rfl⟩
abbrev main_v214 : Ref sig .tc := ⟨.hbm, 308, rfl⟩
abbrev main_v215 : Ref sig .tc := ⟨.hbm, 309, rfl⟩
abbrev main_c_67 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_v220 : Ref sig .tc := ⟨.hbm, 315, rfl⟩
abbrev main_c_68 : Ref sig .tc := ⟨.hbm, 316, rfl⟩
abbrev main_v221 : Ref sig .tc := ⟨.hbm, 317, rfl⟩
abbrev main_v222 : Ref sig .tc := ⟨.hbm, 318, rfl⟩
abbrev main_c_69 : Ref sig .tc := ⟨.hbm, 319, rfl⟩
abbrev main_v223 : Ref sig .tc := ⟨.hbm, 320, rfl⟩
abbrev main_v224 : Ref sig .tc := ⟨.hbm, 321, rfl⟩
abbrev main_v225 : Ref sig .tc := ⟨.hbm, 322, rfl⟩
abbrev main_v226 : Ref sig .tc := ⟨.hbm, 323, rfl⟩
abbrev main_cst_70 : Ref sig .tc := ⟨.hbm, 324, rfl⟩
abbrev main_v227 : Ref sig .tc := ⟨.hbm, 325, rfl⟩
abbrev main_v228 : Ref sig .tc := ⟨.hbm, 326, rfl⟩
abbrev main_v229 : Ref sig .tc := ⟨.hbm, 327, rfl⟩
abbrev main_v230 : Ref sig .tc := ⟨.hbm, 328, rfl⟩
abbrev main_c_71 : Ref sig .tc := ⟨.hbm, 329, rfl⟩
abbrev main_v231 : Ref sig .tc := ⟨.hbm, 330, rfl⟩
abbrev main_v232 : Ref sig .tc := ⟨.hbm, 331, rfl⟩
abbrev main_c_72 : Ref sig .tc := ⟨.hbm, 332, rfl⟩
abbrev main_v233 : Ref sig .tc := ⟨.hbm, 333, rfl⟩
abbrev main_v234 : Ref sig .tc := ⟨.hbm, 334, rfl⟩
abbrev main_c_73 : Ref sig .tc := ⟨.hbm, 335, rfl⟩
abbrev main_v235 : Ref sig .tc := ⟨.hbm, 336, rfl⟩
abbrev main_v236 : Ref sig .tc := ⟨.hbm, 337, rfl⟩
abbrev main_c_74 : Ref sig .tc := ⟨.hbm, 338, rfl⟩
abbrev main_v237 : Ref sig .tc := ⟨.hbm, 339, rfl⟩
abbrev main_v238 : Ref sig .tc := ⟨.hbm, 340, rfl⟩
abbrev main_c_75 : Ref sig .tc := ⟨.hbm, 341, rfl⟩
abbrev main_v239 : Ref sig .tc := ⟨.hbm, 342, rfl⟩
abbrev main_v240 : Ref sig .tc := ⟨.hbm, 343, rfl⟩
abbrev main_v241 : Ref sig .tc := ⟨.hbm, 344, rfl⟩
abbrev main_c_76 : Ref sig .tc := ⟨.hbm, 345, rfl⟩
abbrev main_call8_v0 : Ref sig .tc := ⟨.hbm, 346, rfl⟩
abbrev main_call8_v1 : Ref sig .tc := ⟨.hbm, 347, rfl⟩
abbrev main_v242 : Ref sig .tc := ⟨.hbm, 348, rfl⟩
abbrev main_v243 : Ref sig .tc := ⟨.hbm, 349, rfl⟩
abbrev main_v244 : Ref sig .tc := ⟨.hbm, 350, rfl⟩
abbrev main_v245 : Ref sig .tc := ⟨.hbm, 351, rfl⟩
abbrev main_v246 : Ref sig .tc := ⟨.hbm, 352, rfl⟩
abbrev main_v247 : Ref sig .tc := ⟨.hbm, 353, rfl⟩
abbrev main_v248 : Ref sig .tc := ⟨.hbm, 354, rfl⟩
abbrev main_v249 : Ref sig .tc := ⟨.hbm, 355, rfl⟩
abbrev main_v250 : Ref sig .tc := ⟨.hbm, 356, rfl⟩
abbrev main_v251 : Ref sig .tc := ⟨.hbm, 357, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg1_1 : Ref sig .tc := ⟨.vmem, 11, rfl⟩
abbrev cc1_stg2_0 : Ref sig .tc := ⟨.vmem, 12, rfl⟩
abbrev cc1_stg2_1 : Ref sig .tc := ⟨.vmem, 13, rfl⟩
abbrev cc1_stg3_0 : Ref sig .tc := ⟨.vmem, 14, rfl⟩
abbrev cc1_stg3_1 : Ref sig .tc := ⟨.vmem, 15, rfl⟩
abbrev cc1_scratch0 : Ref sig .tc := ⟨.vmem, 16, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14

abbrev nD : Nat := 1
abbrev τ : Topo := Topo.v7x

variable {F : FTy → Type} [FloatOps F]

abbrev grid0 : Pipeline.Grid := ⟨1, ![37], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x3584 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3584x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1536x512 .i8 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![2, 37], ![false, false]⟩

def k1_cond2 (i : grid1.Coords) : BitVec 1 :=
  let arg1 : BitVec 32 := BitVec.ofNat 32 (i 1).val
  let c36_i32 : BitVec 32 := 36#32
  let v14 : BitVec 1 := Scalar.cmpi .eq arg1 c36_i32
  let v15 : BitVec 32 := Scalar.extui v14
  let c0_i32_8 : BitVec 32 := 0#32
  let v16 : BitVec 1 := Scalar.cmpi .ne v15 c0_i32_8
  v16

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage1_0 : Fin 2 → Memref sig .tc .vmem S1536x512 .i8 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S512x1792 .i8 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S4x1792 .i32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1536x1792 .i8 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]
-- ==== ReferenceIdeal.lean ====
abbrev S12x128x3584 : Shape := ⟨3, ![12, 128, 3584]⟩
abbrev S_ : Shape := ⟨0, ![]⟩
abbrev S3584x18944 : Shape := ⟨2, ![3584, 18944]⟩
abbrev S18944 : Shape := ⟨1, ![18944]⟩
abbrev S18944x3584 : Shape := ⟨2, ![18944, 3584]⟩
abbrev S3584 : Shape := ⟨1, ![3584]⟩
abbrev S277 : Shape := ⟨1, ![277]⟩
abbrev S1x277 : Shape := ⟨2, ![1, 277]⟩
abbrev S18944x1 : Shape := ⟨2, ![18944, 1]⟩
abbrev S18944x277 : Shape := ⟨2, ![18944, 277]⟩
abbrev S3584x1 : Shape := ⟨2, ![3584, 1]⟩
abbrev S3584x277 : Shape := ⟨2, ![3584, 277]⟩
abbrev S1536x3584 : Shape := ⟨2, ![1536, 3584]⟩
abbrev S1x18944 : Shape := ⟨2, ![1, 18944]⟩
abbrev S1x3584 : Shape := ⟨2, ![1, 3584]⟩
abbrev S12x128x18944 : Shape := ⟨3, ![12, 128, 18944]⟩
abbrev S1536x18944 : Shape := ⟨2, ![1536, 18944]⟩

abbrev nBuf : Space → Nat
  | .hbm => 305
  | .vmem => 16
  | .smem => 0
  | _ => 0

abbrev hbmTy0_0 (i : Nat) : BufTy := match i % 128 with
  | 0 => ⟨S12x128x3584, .i8⟩
  | 1 => ⟨S_, .f32⟩
  | 2 => ⟨S3584x18944, .i8⟩
  | 3 => ⟨S18944, .f32⟩
  | 4 => ⟨S18944, .i32⟩
  | 5 => ⟨S_, .f32⟩
  | 6 => ⟨S18944x3584, .i8⟩
  | 7 => ⟨S3584, .f32⟩
  | 8 => ⟨S3584, .i32⟩
  | 9 => ⟨S_, .f32⟩
  | 10 => ⟨S277, .f32⟩
  | 11 => ⟨S1x277, .f32⟩
  | 12 => ⟨S277, .f32⟩
  | 13 => ⟨S1x277, .f32⟩
  | 14 => ⟨S277, .f32⟩
  | 15 => ⟨S1x277, .f32⟩
  | 16 => ⟨S277, .f32⟩
  | 17 => ⟨S1x277, .f32⟩
  | 18 => ⟨S18944, .f32⟩
  | 19 => ⟨S18944, .f32⟩
  | 20 => ⟨S_, .f32⟩
  | 21 => ⟨S18944, .f32⟩
  | 22 => ⟨S18944, .f32⟩
  | 23 => ⟨S18944, .f32⟩
  | 24 => ⟨S18944x1, .f32⟩
  | 25 => ⟨S18944x277, .f32⟩
  | 26 => ⟨S18944x277, .f32⟩
  | 27 => ⟨S18944x277, .i1⟩
  | 28 => ⟨S18944x277, .i32⟩
  | 29 => ⟨S_, .f32⟩
  | 30 => ⟨S18944, .f32⟩
  | 31 => ⟨S18944, .i1⟩
  | 32 => ⟨S18944, .f32⟩
  | 33 => ⟨S_, .f32⟩
  | 34 => ⟨S18944, .f32⟩
  | 35 => ⟨S18944, .i1⟩
  | 36 => ⟨S18944, .i1⟩
  | 37 => ⟨S_, .i32⟩
  | 38 => ⟨S18944, .i32⟩
  | 39 => ⟨S_, .i32⟩
  | 40 => ⟨S18944, .i32⟩
  | 41 => ⟨S18944, .i32⟩
  | 42 => ⟨S_, .i32⟩
  | 43 => ⟨S_, .i32⟩
  | 44 => ⟨S18944, .i32⟩
  | 45 => ⟨S18944, .i32⟩
  | 46 => ⟨S18944, .i32⟩
  | 47 => ⟨S_, .i32⟩
  | 48 => ⟨S18944, .i32⟩
  | 49 => ⟨S18944, .i32⟩
  | 50 => ⟨S_, .i32⟩
  | 51 => ⟨S18944, .i32⟩
  | 52 => ⟨S18944, .i32⟩
  | 53 => ⟨S_, .i32⟩
  | 54 => ⟨S18944, .i32⟩
  | 55 => ⟨S18944, .i32⟩
  | 56 => ⟨S18944, .f32⟩
  | 57 => ⟨S18944, .f32⟩
  | 58 => ⟨S18944, .i32⟩
  | 59 => ⟨S_, .i32⟩
  | 60 => ⟨S18944, .i32⟩
  | 61 => ⟨S18944, .i32⟩
  | 62 => ⟨S_, .i32⟩
  | 63 => ⟨S18944, .i32⟩
  | 64 => ⟨S18944, .i32⟩
  | 65 => ⟨S18944, .f32⟩
  | 66 => ⟨S18944, .f32⟩
  | 67 => ⟨S_, .i32⟩
  | 68 => ⟨S18944, .i32⟩
  | 69 => ⟨S18944, .i32⟩
  | 70 => ⟨S_, .i32⟩
  | 71 => ⟨S18944, .i32⟩
  | 72 => ⟨S18944, .i32⟩
  | 73 => ⟨S_, .i32⟩
  | 74 => ⟨S18944, .i32⟩
  | 75 => ⟨S18944, .i32⟩
  | 76 => ⟨S_, .i32⟩
  | 77 => ⟨S18944, .i32⟩
  | 78 => ⟨S18944, .i32⟩
  | 79 => ⟨S18944, .f32⟩
  | 80 => ⟨S18944, .f32⟩
  | 81 => ⟨S18944, .i32⟩
  | 82 => ⟨S_, .i32⟩
  | 83 => ⟨S18944, .i32⟩
  | 84 => ⟨S18944, .i32⟩
  | 85 => ⟨S_, .i32⟩
  | 86 => ⟨S18944, .i32⟩
  | 87 => ⟨S18944, .i32⟩
  | 88 => ⟨S18944, .f32⟩
  | 89 => ⟨S18944, .f32⟩
  | 90 => ⟨S_, .f32⟩
  | 91 => ⟨S18944, .f32⟩
  | 92 => ⟨S18944, .f32⟩
  | 93 => ⟨S18944, .f32⟩
  | 94 => ⟨S18944, .i32⟩
  | 95 => ⟨S18944, .f32⟩
  | 96 => ⟨S_, .f32⟩
  | 97 => ⟨S18944, .f32⟩
  | 98 => ⟨S18944, .f32⟩
  | 99 => ⟨S18944, .f32⟩
  | 100 => ⟨S18944, .i32⟩
  | 101 => ⟨S18944, .f32⟩
  | 102 => ⟨S_, .f32⟩
  | 103 => ⟨S18944, .f32⟩
  | 104 => ⟨S18944, .f32⟩
  | 105 => ⟨S18944, .f32⟩
  | 106 => ⟨S18944x1, .f32⟩
  | 107 => ⟨S18944x277, .f32⟩
  | 108 => ⟨S18944x277, .f32⟩
  | 109 => ⟨S18944x277, .i1⟩
  | 110 => ⟨S18944x277, .i32⟩
  | 111 => ⟨S_, .f32⟩
  | 112 => ⟨S18944, .f32⟩
  | 113 => ⟨S18944, .i1⟩
  | 114 => ⟨S18944, .f32⟩
  | 115 => ⟨S_, .f32⟩
  | 116 => ⟨S18944, .f32⟩
  | 117 => ⟨S18944, .i1⟩
  | 118 => ⟨S18944, .i1⟩
  | 119 => ⟨S_, .i32⟩
  | 120 => ⟨S18944, .i32⟩
  | 121 => ⟨S_, .i32⟩
  | 122 => ⟨S18944, .i32⟩
  | 123 => ⟨S18944, .i32⟩
  | 124 => ⟨S_, .i32⟩
  | 125 => ⟨S_, .i32⟩
  | 126 => ⟨S18944, .i32⟩
  | 127 => ⟨S18944, .i32⟩
  | _ => ⟨S12x128x3584, .i8⟩

abbrev hbmTy0_1 (i : Nat) : BufTy := match i % 128 with
  | 0 => ⟨S18944, .i32⟩
  | 1 => ⟨S_, .i32⟩
  | 2 => ⟨S18944, .i32⟩
  | 3 => ⟨S18944, .i32⟩
  | 4 => ⟨S_, .i32⟩
  | 5 => ⟨S18944, .i32⟩
  | 6 => ⟨S18944, .i32⟩
  | 7 => ⟨S_, .i32⟩
  | 8 => ⟨S18944, .i32⟩
  | 9 => ⟨S18944, .i32⟩
  | 10 => ⟨S18944, .f32⟩
  | 11 => ⟨S18944, .f32⟩
  | 12 => ⟨S18944, .i32⟩
  | 13 => ⟨S_, .i32⟩
  | 14 => ⟨S18944, .i32⟩
  | 15 => ⟨S18944, .i32⟩
  | 16 => ⟨S_, .i32⟩
  | 17 => ⟨S18944, .i32⟩
  | 18 => ⟨S18944, .i32⟩
  | 19 => ⟨S18944, .f32⟩
  | 20 => ⟨S18944, .f32⟩
  | 21 => ⟨S_, .i32⟩
  | 22 => ⟨S18944, .i32⟩
  | 23 => ⟨S18944, .i32⟩
  | 24 => ⟨S_, .i32⟩
  | 25 => ⟨S18944, .i32⟩
  | 26 => ⟨S18944, .i32⟩
  | 27 => ⟨S_, .i32⟩
  | 28 => ⟨S18944, .i32⟩
  | 29 => ⟨S18944, .i32⟩
  | 30 => ⟨S_, .i32⟩
  | 31 => ⟨S18944, .i32⟩
  | 32 => ⟨S18944, .i32⟩
  | 33 => ⟨S18944, .f32⟩
  | 34 => ⟨S18944, .f32⟩
  | 35 => ⟨S18944, .i32⟩
  | 36 => ⟨S_, .i32⟩
  | 37 => ⟨S18944, .i32⟩
  | 38 => ⟨S18944, .i32⟩
  | 39 => ⟨S_, .i32⟩
  | 40 => ⟨S18944, .i32⟩
  | 41 => ⟨S18944, .i32⟩
  | 42 => ⟨S18944, .f32⟩
  | 43 => ⟨S18944, .f32⟩
  | 44 => ⟨S_, .f32⟩
  | 45 => ⟨S18944, .f32⟩
  | 46 => ⟨S18944, .f32⟩
  | 47 => ⟨S18944, .f32⟩
  | 48 => ⟨S18944, .i32⟩
  | 49 => ⟨S18944, .f32⟩
  | 50 => ⟨S_, .f32⟩
  | 51 => ⟨S18944, .f32⟩
  | 52 => ⟨S18944, .f32⟩
  | 53 => ⟨S18944, .f32⟩
  | 54 => ⟨S18944, .f32⟩
  | 55 => ⟨S18944, .f32⟩
  | 56 => ⟨S18944x1, .f32⟩
  | 57 => ⟨S18944x277, .f32⟩
  | 58 => ⟨S18944x277, .f32⟩
  | 59 => ⟨S18944x277, .i1⟩
  | 60 => ⟨S18944x277, .i32⟩
  | 61 => ⟨S_, .f32⟩
  | 62 => ⟨S18944, .f32⟩
  | 63 => ⟨S18944, .i1⟩
  | 64 => ⟨S18944, .f32⟩
  | 65 => ⟨S_, .f32⟩
  | 66 => ⟨S18944, .f32⟩
  | 67 => ⟨S18944, .i1⟩
  | 68 => ⟨S18944, .i1⟩
  | 69 => ⟨S_, .i32⟩
  | 70 => ⟨S18944, .i32⟩
  | 71 => ⟨S_, .i32⟩
  | 72 => ⟨S18944, .i32⟩
  | 73 => ⟨S18944, .i32⟩
  | 74 => ⟨S_, .i32⟩
  | 75 => ⟨S_, .i32⟩
  | 76 => ⟨S18944, .i32⟩
  | 77 => ⟨S18944, .i32⟩
  | 78 => ⟨S18944, .i32⟩
  | 79 => ⟨S_, .i32⟩
  | 80 => ⟨S18944, .i32⟩
  | 81 => ⟨S18944, .i32⟩
  | 82 => ⟨S_, .i32⟩
  | 83 => ⟨S18944, .i32⟩
  | 84 => ⟨S18944, .i32⟩
  | 85 => ⟨S_, .i32⟩
  | 86 => ⟨S18944, .i32⟩
  | 87 => ⟨S18944, .i32⟩
  | 88 => ⟨S18944, .f32⟩
  | 89 => ⟨S18944, .f32⟩
  | 90 => ⟨S18944, .i32⟩
  | 91 => ⟨S_, .i32⟩
  | 92 => ⟨S18944, .i32⟩
  | 93 => ⟨S18944, .i32⟩
  | 94 => ⟨S_, .i32⟩
  | 95 => ⟨S18944, .i32⟩
  | 96 => ⟨S18944, .i32⟩
  | 97 => ⟨S18944, .f32⟩
  | 98 => ⟨S18944, .f32⟩
  | 99 => ⟨S_, .f32⟩
  | 100 => ⟨S18944, .f32⟩
  | 101 => ⟨S18944, .f32⟩
  | 102 => ⟨S18944, .f32⟩
  | 103 => ⟨S18944, .i32⟩
  | 104 => ⟨S_, .i32⟩
  | 105 => ⟨S18944, .i32⟩
  | 106 => ⟨S18944, .i32⟩
  | 107 => ⟨S3584, .f32⟩
  | 108 => ⟨S3584, .f32⟩
  | 109 => ⟨S3584, .f32⟩
  | 110 => ⟨S3584, .f32⟩
  | 111 => ⟨S3584, .f32⟩
  | 112 => ⟨S3584x1, .f32⟩
  | 113 => ⟨S3584x277, .f32⟩
  | 114 => ⟨S3584x277, .f32⟩
  | 115 => ⟨S3584x277, .i1⟩
  | 116 => ⟨S3584x277, .i32⟩
  | 117 => ⟨S_, .f32⟩
  | 118 => ⟨S3584, .f32⟩
  | 119 => ⟨S3584, .i1⟩
  | 120 => ⟨S3584, .f32⟩
  | 121 => ⟨S_, .f32⟩
  | 122 => ⟨S3584, .f32⟩
  | 123 => ⟨S3584, .i1⟩
  | 124 => ⟨S3584, .i1⟩
  | 125 => ⟨S_, .i32⟩
  | 126 => ⟨S3584, .i32⟩
  | 127 => ⟨S_, .i32⟩
  | _ => ⟨S12x128x3584, .i8⟩

abbrev hbmTy0_2 (i : Nat) : BufTy := match i % 128 with
  | 0 => ⟨S3584, .i32⟩
  | 1 => ⟨S3584, .i32⟩
  | 2 => ⟨S_, .i32⟩
  | 3 => ⟨S_, .i32⟩
  | 4 => ⟨S3584, .i32⟩
  | 5 => ⟨S3584, .i32⟩
  | 6 => ⟨S3584, .i32⟩
  | 7 => ⟨S_, .i32⟩
  | 8 => ⟨S3584, .i32⟩
  | 9 => ⟨S3584, .i32⟩
  | 10 => ⟨S_, .i32⟩
  | 11 => ⟨S3584, .i32⟩
  | 12 => ⟨S3584, .i32⟩
  | 13 => ⟨S_, .i32⟩
  | 14 => ⟨S3584, .i32⟩
  | 15 => ⟨S3584, .i32⟩
  | 16 => ⟨S3584, .f32⟩
  | 17 => ⟨S3584, .f32⟩
  | 18 => ⟨S3584, .i32⟩
  | 19 => ⟨S_, .i32⟩
  | 20 => ⟨S3584, .i32⟩
  | 21 => ⟨S3584, .i32⟩
  | 22 => ⟨S_, .i32⟩
  | 23 => ⟨S3584, .i32⟩
  | 24 => ⟨S3584, .i32⟩
  | 25 => ⟨S3584, .f32⟩
  | 26 => ⟨S3584, .f32⟩
  | 27 => ⟨S_, .f32⟩
  | 28 => ⟨S3584, .f32⟩
  | 29 => ⟨S3584, .f32⟩
  | 30 => ⟨S3584, .f32⟩
  | 31 => ⟨S3584, .i32⟩
  | 32 => ⟨S_, .i32⟩
  | 33 => ⟨S3584, .i32⟩
  | 34 => ⟨S3584, .i32⟩
  | 35 => ⟨S1536x3584, .i8⟩
  | 36 => ⟨S1x18944, .i32⟩
  | 37 => ⟨S1x18944, .i32⟩
  | 38 => ⟨S1x18944, .i32⟩
  | 39 => ⟨S1x18944, .i32⟩
  | 40 => ⟨S1x18944, .i32⟩
  | 41 => ⟨S1x18944, .i32⟩
  | 42 => ⟨S1x18944, .i32⟩
  | 43 => ⟨S1x18944, .i32⟩
  | 44 => ⟨S1x3584, .i32⟩
  | 45 => ⟨S1x3584, .i32⟩
  | 46 => ⟨S1x3584, .i32⟩
  | 47 => ⟨S12x128x18944, .i8⟩
  | 48 => ⟨S12x128x3584, .i8⟩
  | _ => ⟨S12x128x3584, .i8⟩

abbrev hbmTy (i : Nat) : BufTy := match i / 128 with
  | 0 => hbmTy0_0 i
  | 1 => hbmTy0_1 i
  | 2 => hbmTy0_2 i
  | _ => ⟨S12x128x3584, .i8⟩

abbrev bufTy : (tb : Table) → Fin (tcTables nBuf tb) → BufTy
  | .hbm, ⟨i, _⟩ => hbmTy i
  | .local _ .vmem, ⟨0, _⟩ => ⟨S1536x3584, .i8⟩
  | .local _ .vmem, ⟨1, _⟩ => ⟨S3584x18944, .i8⟩
  | .local _ .vmem, ⟨2, _⟩ => ⟨S1x18944, .i32⟩
  | .local _ .vmem, ⟨3, _⟩ => ⟨S1x18944, .i32⟩
  | .local _ .vmem, ⟨4, _⟩ => ⟨S1x18944, .i32⟩
  | .local _ .vmem, ⟨5, _⟩ => ⟨S1x18944, .i32⟩
  | .local _ .vmem, ⟨6, _⟩ => ⟨S1x18944, .i32⟩
  | .local _ .vmem, ⟨7, _⟩ => ⟨S1x18944, .i32⟩
  | .local _ .vmem, ⟨8, _⟩ => ⟨S1x18944, .i32⟩
  | .local _ .vmem, ⟨9, _⟩ => ⟨S1x18944, .i32⟩
  | .local _ .vmem, ⟨10, _⟩ => ⟨S18944x3584, .i8⟩
  | .local _ .vmem, ⟨11, _⟩ => ⟨S1x3584, .i32⟩
  | .local _ .vmem, ⟨12, _⟩ => ⟨S1x3584, .i32⟩
  | .local _ .vmem, ⟨13, _⟩ => ⟨S1x3584, .i32⟩
  | .local _ .vmem, ⟨14, _⟩ => ⟨S12x128x18944, .i8⟩
  | .local _ .vmem, ⟨15, _⟩ => ⟨S12x128x3584, .i8⟩
  | _, _ => ⟨S12x128x3584, .i8⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_cst_0 : Ref sig .tc := ⟨.hbm, 12, rfl⟩
abbrev main_v1 : Ref sig .tc := ⟨.hbm, 13, rfl⟩
abbrev main_cst_1 : Ref sig .tc := ⟨.hbm, 14, rfl⟩
abbrev main_v2 : Ref sig .tc := ⟨.hbm, 15, rfl⟩
abbrev main_cst_2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_cst_3 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_5 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_c : Ref sig .tc := ⟨.hbm, 37, rfl⟩
abbrev main_v20 : Ref sig .tc := ⟨.hbm, 38, rfl⟩
abbrev main_c_6 : Ref sig .tc := ⟨.hbm, 39, rfl⟩
abbrev main_v21 : Ref sig .tc := ⟨.hbm, 40, rfl⟩
abbrev main_v22 : Ref sig .tc := ⟨.hbm, 41, rfl⟩
abbrev main_c_7 : Ref sig .tc := ⟨.hbm, 42, rfl⟩
abbrev main_call0_v0 : Ref sig .tc := ⟨.hbm, 43, rfl⟩
abbrev main_call0_v1 : Ref sig .tc := ⟨.hbm, 44, rfl⟩
abbrev main_v23 : Ref sig .tc := ⟨.hbm, 45, rfl⟩
abbrev main_v24 : Ref sig .tc := ⟨.hbm, 46, rfl⟩
abbrev main_c_8 : Ref sig .tc := ⟨.hbm, 47, rfl⟩
abbrev main_v25 : Ref sig .tc := ⟨.hbm, 48, rfl⟩
abbrev main_v26 : Ref sig .tc := ⟨.hbm, 49, rfl⟩
abbrev main_c_9 : Ref sig .tc := ⟨.hbm, 50, rfl⟩
abbrev main_v27 : Ref sig .tc := ⟨.hbm, 51, rfl⟩
abbrev main_v28 : Ref sig .tc := ⟨.hbm, 52, rfl⟩
abbrev main_c_10 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_c_11 : Ref sig .tc := ⟨.hbm, 59, rfl⟩
abbrev main_v34 : Ref sig .tc := ⟨.hbm, 60, rfl⟩
abbrev main_v35 : Ref sig .tc := ⟨.hbm, 61, rfl⟩
abbrev main_c_12 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_c_13 : Ref sig .tc := ⟨.hbm, 67, rfl⟩
abbrev main_v40 : Ref sig .tc := ⟨.hbm, 68, rfl⟩
abbrev main_v41 : Ref sig .tc := ⟨.hbm, 69, rfl⟩
abbrev main_c_14 : Ref sig .tc := ⟨.hbm, 70, rfl⟩
abbrev main_v42 : Ref sig .tc := ⟨.hbm, 71, rfl⟩
abbrev main_v43 : Ref sig .tc := ⟨.hbm, 72, rfl⟩
abbrev main_c_15 : Ref sig .tc := ⟨.hbm, 73, rfl⟩
abbrev main_v44 : Ref sig .tc := ⟨.hbm, 74, rfl⟩
abbrev main_v45 : Ref sig .tc := ⟨.hbm, 75, rfl⟩
abbrev main_c_16 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_c_17 : Ref sig .tc := ⟨.hbm, 82, rfl⟩
abbrev main_v51 : Ref sig .tc := ⟨.hbm, 83, rfl⟩
abbrev main_v52 : Ref sig .tc := ⟨.hbm, 84, rfl⟩
abbrev main_c_18 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_cst_19 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_cst_20 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_cst_21 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_cst_22 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_cst_23 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_c_24 : Ref sig .tc := ⟨.hbm, 119, rfl⟩
abbrev main_v81 : Ref sig .tc := ⟨.hbm, 120, rfl⟩
abbrev main_c_25 : Ref sig .tc := ⟨.hbm, 121, rfl⟩
abbrev main_v82 : Ref sig .tc := ⟨.hbm, 122, rfl⟩
abbrev main_v83 : Ref sig .tc := ⟨.hbm, 123, rfl⟩
abbrev main_c_26 : Ref sig .tc := ⟨.hbm, 124, rfl⟩
abbrev main_call1_v0 : Ref sig .tc := ⟨.hbm, 125, rfl⟩
abbrev main_call1_v1 : Ref sig .tc := ⟨.hbm, 126, rfl⟩
abbrev main_v84 : Ref sig .tc := ⟨.hbm, 127, rfl⟩
abbrev main_v85 : Ref sig .tc := ⟨.hbm, 128, rfl⟩
abbrev main_c_27 : Ref sig .tc := ⟨.hbm, 129, rfl⟩
abbrev main_v86 : Ref sig .tc := ⟨.hbm, 130, rfl⟩
abbrev main_v87 : Ref sig .tc := ⟨.hbm, 131, rfl⟩
abbrev main_c_28 : Ref sig .tc := ⟨.hbm, 132, rfl⟩
abbrev main_v88 : Ref sig .tc := ⟨.hbm, 133, rfl⟩
abbrev main_v89 : Ref sig .tc := ⟨.hbm, 134, rfl⟩
abbrev main_c_29 : Ref sig .tc := ⟨.hbm, 135, rfl⟩
abbrev main_v90 : Ref sig .tc := ⟨.hbm, 136, rfl⟩
abbrev main_v91 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_c_30 : Ref sig .tc := ⟨.hbm, 141, rfl⟩
abbrev main_v95 : Ref sig .tc := ⟨.hbm, 142, rfl⟩
abbrev main_v96 : Ref sig .tc := ⟨.hbm, 143, rfl⟩
abbrev main_c_31 : Ref sig .tc := ⟨.hbm, 144, rfl⟩
abbrev main_v97 : Ref sig .tc := ⟨.hbm, 145, rfl⟩
abbrev main_v98 : Ref sig .tc := ⟨.hbm, 146, rfl⟩
abbrev main_v99 : Ref sig .tc := ⟨.hbm, 147, rfl⟩
abbrev main_v100 : Ref sig .tc := ⟨.hbm, 148, rfl⟩
abbrev main_c_32 : Ref sig .tc := ⟨.hbm, 149, rfl⟩
abbrev main_v101 : Ref sig .tc := ⟨.hbm, 150, rfl⟩
abbrev main_v102 : Ref sig .tc := ⟨.hbm, 151, rfl⟩
abbrev main_c_33 : Ref sig .tc := ⟨.hbm, 152, rfl⟩
abbrev main_v103 : Ref sig .tc := ⟨.hbm, 153, rfl⟩
abbrev main_v104 : Ref sig .tc := ⟨.hbm, 154, rfl⟩
abbrev main_c_34 : Ref sig .tc := ⟨.hbm, 155, rfl⟩
abbrev main_v105 : Ref sig .tc := ⟨.hbm, 156, rfl⟩
abbrev main_v106 : Ref sig .tc := ⟨.hbm, 157, rfl⟩
abbrev main_c_35 : Ref sig .tc := ⟨.hbm, 158, rfl⟩
abbrev main_v107 : Ref sig .tc := ⟨.hbm, 159, rfl⟩
abbrev main_v108 : Ref sig .tc := ⟨.hbm, 160, rfl⟩
abbrev main_v109 : Ref sig .tc := ⟨.hbm, 161, rfl⟩
abbrev main_v110 : Ref sig .tc := ⟨.hbm, 162, rfl⟩
abbrev main_v111 : Ref sig .tc := ⟨.hbm, 163, rfl⟩
abbrev main_c_36 : Ref sig .tc := ⟨.hbm, 164, rfl⟩
abbrev main_v112 : Ref sig .tc := ⟨.hbm, 165, rfl⟩
abbrev main_v113 : Ref sig .tc := ⟨.hbm, 166, rfl⟩
abbrev main_c_37 : Ref sig .tc := ⟨.hbm, 167, rfl⟩
abbrev main_v114 : Ref sig .tc := ⟨.hbm, 168, rfl⟩
abbrev main_v115 : Ref sig .tc := ⟨.hbm, 169, rfl⟩
abbrev main_v116 : Ref sig .tc := ⟨.hbm, 170, rfl⟩
abbrev main_v117 : Ref sig .tc := ⟨.hbm, 171, rfl⟩
abbrev main_cst_38 : Ref sig .tc := ⟨.hbm, 172, rfl⟩
abbrev main_v118 : Ref sig .tc := ⟨.hbm, 173, rfl⟩
abbrev main_v119 : Ref sig .tc := ⟨.hbm, 174, rfl⟩
abbrev main_v120 : Ref sig .tc := ⟨.hbm, 175, rfl⟩
abbrev main_v121 : Ref sig .tc := ⟨.hbm, 176, rfl⟩
abbrev main_v122 : Ref sig .tc := ⟨.hbm, 177, rfl⟩
abbrev main_cst_39 : Ref sig .tc := ⟨.hbm, 178, rfl⟩
abbrev main_v123 : Ref sig .tc := ⟨.hbm, 179, rfl⟩
abbrev main_v124 : Ref sig .tc := ⟨.hbm, 180, rfl⟩
abbrev main_v125 : Ref sig .tc := ⟨.hbm, 181, rfl⟩
abbrev main_v126 : Ref sig .tc := ⟨.hbm, 182, rfl⟩
abbrev main_v127 : Ref sig .tc := ⟨.hbm, 183, rfl⟩
abbrev main_v128 : Ref sig .tc := ⟨.hbm, 184, rfl⟩
abbrev main_v129 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_40 : Ref sig .tc := ⟨.hbm, 189, rfl⟩
abbrev main_v133 : Ref sig .tc := ⟨.hbm, 190, rfl⟩
abbrev main_v134 : Ref sig .tc := ⟨.hbm, 191, rfl⟩
abbrev main_v135 : Ref sig .tc := ⟨.hbm, 192, rfl⟩
abbrev main_cst_41 : Ref sig .tc := ⟨.hbm, 193, rfl⟩
abbrev main_v136 : Ref sig .tc := ⟨.hbm, 194, rfl⟩
abbrev main_v137 : Ref sig .tc := ⟨.hbm, 195, rfl⟩
abbrev main_v138 : Ref sig .tc := ⟨.hbm, 196, rfl⟩
abbrev main_c_42 : Ref sig .tc := ⟨.hbm, 197, rfl⟩
abbrev main_v139 : Ref sig .tc := ⟨.hbm, 198, rfl⟩
abbrev main_c_43 : Ref sig .tc := ⟨.hbm, 199, rfl⟩
abbrev main_v140 : Ref sig .tc := ⟨.hbm, 200, rfl⟩
abbrev main_v141 : Ref sig .tc := ⟨.hbm, 201, rfl⟩
abbrev main_c_44 : Ref sig .tc := ⟨.hbm, 202, rfl⟩
abbrev main_call2_v0 : Ref sig .tc := ⟨.hbm, 203, rfl⟩
abbrev main_call2_v1 : Ref sig .tc := ⟨.hbm, 204, rfl⟩
abbrev main_v142 : Ref sig .tc := ⟨.hbm, 205, rfl⟩
abbrev main_v143 : Ref sig .tc := ⟨.hbm, 206, rfl⟩
abbrev main_c_45 : Ref sig .tc := ⟨.hbm, 207, rfl⟩
abbrev main_v144 : Ref sig .tc := ⟨.hbm, 208, rfl⟩
abbrev main_v145 : Ref sig .tc := ⟨.hbm, 209, rfl⟩
abbrev main_c_46 : Ref sig .tc := ⟨.hbm, 210, rfl⟩
abbrev main_v146 : Ref sig .tc := ⟨.hbm, 211, rfl⟩
abbrev main_v147 : Ref sig .tc := ⟨.hbm, 212, rfl⟩
abbrev main_c_47 : Ref sig .tc := ⟨.hbm, 213, rfl⟩
abbrev main_v148 : Ref sig .tc := ⟨.hbm, 214, rfl⟩
abbrev main_v149 : Ref sig .tc := ⟨.hbm, 215, rfl⟩
abbrev main_v150 : Ref sig .tc := ⟨.hbm, 216, rfl⟩
abbrev main_v151 : Ref sig .tc := ⟨.hbm, 217, rfl⟩
abbrev main_v152 : Ref sig .tc := ⟨.hbm, 218, rfl⟩
abbrev main_c_48 : Ref sig .tc := ⟨.hbm, 219, rfl⟩
abbrev main_v153 : Ref sig .tc := ⟨.hbm, 220, rfl⟩
abbrev main_v154 : Ref sig .tc := ⟨.hbm, 221, rfl⟩
abbrev main_c_49 : Ref sig .tc := ⟨.hbm, 222, rfl⟩
abbrev main_v155 : Ref sig .tc := ⟨.hbm, 223, rfl⟩
abbrev main_v156 : Ref sig .tc := ⟨.hbm, 224, rfl⟩
abbrev main_v157 : Ref sig .tc := ⟨.hbm, 225, rfl⟩
abbrev main_v158 : Ref sig .tc := ⟨.hbm, 226, rfl⟩
abbrev main_cst_50 : Ref sig .tc := ⟨.hbm, 227, rfl⟩
abbrev main_v159 : Ref sig .tc := ⟨.hbm, 228, rfl⟩
abbrev main_v160 : Ref sig .tc := ⟨.hbm, 229, rfl⟩
abbrev main_v161 : Ref sig .tc := ⟨.hbm, 230, rfl⟩
abbrev main_v162 : Ref sig .tc := ⟨.hbm, 231, rfl⟩
abbrev main_c_51 : Ref sig .tc := ⟨.hbm, 232, rfl⟩
abbrev main_v163 : Ref sig .tc := ⟨.hbm, 233, rfl⟩
abbrev main_v164 : Ref sig .tc := ⟨.hbm, 234, rfl⟩
abbrev main_v165 : Ref sig .tc := ⟨.hbm, 235, rfl⟩
abbrev main_v166 : Ref sig .tc := ⟨.hbm, 236, rfl⟩
abbrev main_v167 : Ref sig .tc := ⟨.hbm, 237, rfl⟩
abbrev main_v168 : Ref sig .tc := ⟨.hbm, 238, rfl⟩
abbrev main_v169 : Ref sig .tc := ⟨.hbm, 239, rfl⟩
abbrev main_v170 : Ref sig .tc := ⟨.hbm, 240, rfl⟩
abbrev main_v171 : Ref sig .tc := ⟨.hbm, 241, rfl⟩
abbrev main_v172 : Ref sig .tc := ⟨.hbm, 242, rfl⟩
abbrev main_v173 : Ref sig .tc := ⟨.hbm, 243, rfl⟩
abbrev main_v174 : Ref sig .tc := ⟨.hbm, 244, rfl⟩
abbrev main_cst_52 : Ref sig .tc := ⟨.hbm, 245, rfl⟩
abbrev main_v175 : Ref sig .tc := ⟨.hbm, 246, rfl⟩
abbrev main_v176 : Ref sig .tc := ⟨.hbm, 247, rfl⟩
abbrev main_v177 : Ref sig .tc := ⟨.hbm, 248, rfl⟩
abbrev main_cst_53 : Ref sig .tc := ⟨.hbm, 249, rfl⟩
abbrev main_v178 : Ref sig .tc := ⟨.hbm, 250, rfl⟩
abbrev main_v179 : Ref sig .tc := ⟨.hbm, 251, rfl⟩
abbrev main_v180 : Ref sig .tc := ⟨.hbm, 252, rfl⟩
abbrev main_c_54 : Ref sig .tc := ⟨.hbm, 253, rfl⟩
abbrev main_v181 : Ref sig .tc := ⟨.hbm, 254, rfl⟩
abbrev main_c_55 : Ref sig .tc := ⟨.hbm, 255, rfl⟩
abbrev main_v182 : Ref sig .tc := ⟨.hbm, 256, rfl⟩
abbrev main_v183 : Ref sig .tc := ⟨.hbm, 257, rfl⟩
abbrev main_c_56 : Ref sig .tc := ⟨.hbm, 258, rfl⟩
abbrev main_call4_v0 : Ref sig .tc := ⟨.hbm, 259, rfl⟩
abbrev main_call4_v1 : Ref sig .tc := ⟨.hbm, 260, rfl⟩
abbrev main_v184 : Ref sig .tc := ⟨.hbm, 261, rfl⟩
abbrev main_v185 : Ref sig .tc := ⟨.hbm, 262, rfl⟩
abbrev main_c_57 : Ref sig .tc := ⟨.hbm, 263, rfl⟩
abbrev main_v186 : Ref sig .tc := ⟨.hbm, 264, rfl⟩
abbrev main_v187 : Ref sig .tc := ⟨.hbm, 265, rfl⟩
abbrev main_c_58 : Ref sig .tc := ⟨.hbm, 266, rfl⟩
abbrev main_v188 : Ref sig .tc := ⟨.hbm, 267, rfl⟩
abbrev main_v189 : Ref sig .tc := ⟨.hbm, 268, rfl⟩
abbrev main_c_59 : Ref sig .tc := ⟨.hbm, 269, rfl⟩
abbrev main_v190 : Ref sig .tc := ⟨.hbm, 270, rfl⟩
abbrev main_v191 : Ref sig .tc := ⟨.hbm, 271, rfl⟩
abbrev main_v192 : Ref sig .tc := ⟨.hbm, 272, rfl⟩
abbrev main_v193 : Ref sig .tc := ⟨.hbm, 273, rfl⟩
abbrev main_v194 : Ref sig .tc := ⟨.hbm, 274, rfl⟩
abbrev main_c_60 : Ref sig .tc := ⟨.hbm, 275, rfl⟩
abbrev main_v195 : Ref sig .tc := ⟨.hbm, 276, rfl⟩
abbrev main_v196 : Ref sig .tc := ⟨.hbm, 277, rfl⟩
abbrev main_c_61 : Ref sig .tc := ⟨.hbm, 278, rfl⟩
abbrev main_v197 : Ref sig .tc := ⟨.hbm, 279, rfl⟩
abbrev main_v198 : Ref sig .tc := ⟨.hbm, 280, rfl⟩
abbrev main_v199 : Ref sig .tc := ⟨.hbm, 281, rfl⟩
abbrev main_v200 : Ref sig .tc := ⟨.hbm, 282, rfl⟩
abbrev main_cst_62 : Ref sig .tc := ⟨.hbm, 283, rfl⟩
abbrev main_v201 : Ref sig .tc := ⟨.hbm, 284, rfl⟩
abbrev main_v202 : Ref sig .tc := ⟨.hbm, 285, rfl⟩
abbrev main_v203 : Ref sig .tc := ⟨.hbm, 286, rfl⟩
abbrev main_v204 : Ref sig .tc := ⟨.hbm, 287, rfl⟩
abbrev main_c_63 : Ref sig .tc := ⟨.hbm, 288, rfl⟩
abbrev main_v205 : Ref sig .tc := ⟨.hbm, 289, rfl⟩
abbrev main_v206 : Ref sig .tc := ⟨.hbm, 290, rfl⟩
abbrev main_v207 : Ref sig .tc := ⟨.hbm, 291, rfl⟩
abbrev main_v208 : Ref sig .tc := ⟨.hbm, 292, rfl⟩
abbrev main_v209 : Ref sig .tc := ⟨.hbm, 293, rfl⟩
abbrev main_v210 : Ref sig .tc := ⟨.hbm, 294, rfl⟩
abbrev main_v211 : Ref sig .tc := ⟨.hbm, 295, rfl⟩
abbrev main_v212 : Ref sig .tc := ⟨.hbm, 296, rfl⟩
abbrev main_v213 : Ref sig .tc := ⟨.hbm, 297, rfl⟩
abbrev main_v214 : Ref sig .tc := ⟨.hbm, 298, rfl⟩
abbrev main_v215 : Ref sig .tc := ⟨.hbm, 299, rfl⟩
abbrev main_v216 : Ref sig .tc := ⟨.hbm, 300, rfl⟩
abbrev main_v217 : Ref sig .tc := ⟨.hbm, 301, rfl⟩
abbrev main_v218 : Ref sig .tc := ⟨.hbm, 302, rfl⟩
abbrev main_v219_0 : Ref sig .tc := ⟨.hbm, 303, rfl⟩
abbrev main_v219_1 : Ref sig .tc := ⟨.hbm, 304, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S1536x3584 .i8 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3584x18944 .i8 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x18944 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x18944 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x18944 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x18944 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x18944 .i32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x18944 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x18944 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x18944 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S18944x3584 .i8 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x3584 .i32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x3584 .i32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x3584 .i32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S12x128x18944 .i8 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S12x128x3584 .i8 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== Proof.WholeBitsUpRuns.lean ====
/- Region 0 of the whole kernel: its windows' blocks, its branch conditions, its scratch and the body's run in each case, at any entry contents. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents: the structural look recurses once per coordinate
set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, e0]
    word_cmp
   : ∀ t : Fin grid0.N, cond0_0 (grid0.coords t) ↔ t.val % 37 = 0)

/-! ## The kernel body on any staging memrefs: a subtype the run finds -/

/-- One staging buffer of output window 3, through which its contents are stated (`View.read_writes_of_cover`: the
    choice does not matter). -/
abbrev VO0_3 : View sig .tc .vmem S1536x512 .i8 := (Memref.whole cc0_stg3_0 : Memref sig .tc .vmem S1536x512 .i8).view
/-- Each window's current staging memref at point `t`, spelled as the pipeline passes it (`bodyAt0`), and its wholeness. -/
abbrev ms0_0 (t : Fin cfg0.N) : Memref sig .tc .vmem S1536x3584 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x512 .i8 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S1536x3584 .bf16 := Memref.whole cc0_scratch0
/-- The scratch `arg5` the kernel carries between points, as a view: what it holds is stated through it. -/
abbrev VS0_0 : View sig .tc .vmem S1536x3584 .bf16 := scM0_0.view

/-- What rides beside the carried scratch through region 0: the other scoped buffers at anything and the generator register
    at some state. -/
def side0 (c : Dev nD) : sProp 𝕄 :=
  iprop(iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r))

/-- The invariant before region 0's first point: the carried scratch at anything, the rest beside it. -/
def start0 (c : Dev nD) : sProp 𝕄 :=
  iprop((∃ d, owns (c : Thread nD τ) scM0_0 fullShare d) ∗ side0 c)

theorem PhiA0_eq (c : Dev nD) :
    (start0 c : sProp 𝕄) = iprop((∃ d, owns (c : Thread nD τ) scM0_0 fullShare d) ∗ side0 c) := rfl

/-- What the launch hands the region (every scoped buffer it does not stage and the register) is the invariant's start. -/
theorem start0_of (c : Dev nD) : (Pipeline.ΦA spec0 c : sProp 𝕄) ⊢ start0 c := by
  unfold Pipeline.ΦA start0 side0; rw [scopedRest0_eq]; simp only [scM0_0, owns_whole]
  iintro ⟨⟨HS0, HR0, HR1, HR2, HR3, HR4, HR5, HR6, HR7, HR8⟩, Hg⟩
  isplitl [HS0]; · iexact HS0
  isplitl [HR0 HR1 HR2 HR3 HR4 HR5 HR6 HR7 HR8]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexact HR8
  iexact Hg

/-- The invariant's start hands those buffers back. -/
theorem of_start0 (c : Dev nD) : (start0 c : sProp 𝕄) ⊢ Pipeline.ΦA spec0 c := by
  unfold Pipeline.ΦA start0 side0; rw [scopedRest0_eq]; simp only [scM0_0, owns_whole]
  iintro ⟨HS0, ⟨HR0, HR1, HR2, HR3, HR4, HR5, HR6, HR7, HR8⟩, Hg⟩
  isplitl [HS0 HR0 HR1 HR2 HR3 HR4 HR5 HR6 HR7 HR8]
  · isplitl [HS0]; · iexact HS0
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexact HR8
  iexact Hg

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : cond0_0 i)
    (x0 : Vec F S1536x3584 .i8) (x1 : Vec F S3584x512 .i8) (x2 : Vec F S10x512 .i32) :
    Σ' (L3 : List (View.Piece (Elt F) S1536x512 .i8)), { LS0 : List (View.Piece (Elt F) S1536x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0_up i arg1 harg1 arg2 harg2 arg3 harg3 arg4 harg4 arg5 harg5) K } := by
  refine ⟨?_, ?_, fun E K => ?run⟩
  case run =>
    simp only [cc0_up_eq_skeleton]; unfold cc0_up_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

-- (the run's proof term is large: the definition's epilogue — `abstractNestedProofs` — walks it past the default budget)
set_option maxHeartbeats 1000000 in
/-- What the body's stores leave in each output's staging memref, as pieces (last first) IN CASE B (`scf.if` 0 not taken: points 1, 2, … 36: 36 of 37), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : ¬cond0_0 i)
    (x0 : Vec F S1536x3584 .i8) (x1 : Vec F S3584x512 .i8) (x2 : Vec F S10x512 .i32) (xs0 : Vec F S1536x3584 .bf16) :
    Σ' (L3 : List (View.Piece (Elt F) S1536x512 .i8)), { LS0 : List (View.Piece (Elt F) S1536x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xs0) -∗ K ⟨⟩))
          ⊢ wp frame (wpE (defs₀ (F := F)) Variants.none c none) E (cc0_up i arg1 harg1 arg2 harg2 arg3 harg3 arg4 harg4 arg5 harg5) K } := by
  refine ⟨?_, [], fun E K => ?run⟩
  case run =>
    simp only [cc0_up_eq_skeleton]; unfold cc0_up_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact HS0

end Cert.Kernel.Whole

end
-- ==== Proof.WholeBitsUp.lean ====
/- Region 0 of the whole kernel, whose scratch is carried from point to point: what the output and the scratch hold after each point, the proof data and the body's obligation, at any entry contents. -/
module

public import proofs.«01_k».proof.Proof.WholeBitsUpRuns

@[expose] public section

-- membership in a rectangle of production extents: the structural look recurses once per coordinate
set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-- Case A's pieces for output 3 tile its block (1 store of `S1536x512`, checked by the kernel's evaluation: Lib/Ring.lean `Piece.tiledL`, linear in the pieces, through a loop's `@[irreducible]` trip theorem too), so they cover it. -/
theorem cover0_A_3 (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : cond0_0 i)
    (x0 : Vec F S1536x3584 .i8) (x1 : Vec F S3584x512 .i8) (x2 : Vec F S10x512 .i32) (y : S1536x512.Idx) :
    ∃ pc ∈ (kernelRun0_A c i arg1 harg1 arg2 harg2 arg3 harg3 arg4 harg4 arg5 harg5 hc0 x0 x1 x2).1, y ∈ pc.1.set :=
  View.cover_of_tiledL (kernelRun0_A c i arg1 harg1 arg2 harg2 arg3 harg3 arg4 harg4 arg5 harg5 hc0 x0 x1 x2).1 S1536x512.size (by sl_kernel_rfl) y

/-- What case A leaves in output 3's staging buffer: its pieces read back over junk. -/
def out0_A_3 (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : cond0_0 i)
    (x0 : Vec F S1536x3584 .i8) (x1 : Vec F S3584x512 .i8) (x2 : Vec F S10x512 .i32) : Vec F S1536x512 .i8 :=
  VO0_3.read (Elt F) (VO0_3.writes (Elt F) VO0_3.junk (kernelRun0_A c i arg1 harg1 arg2 harg2 arg3 harg3 arg4 harg4 arg5 harg5 hc0 x0 x1 x2).1)

/-- Case A's pieces for scratch `arg5`, which the kernel carries between points, cover it: 1 piece of `S1536x3584` tiling it (Lib/Ring.lean `Piece.tiledL`). -/
theorem scover0_A_0 (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : cond0_0 i)
    (x0 : Vec F S1536x3584 .i8) (x1 : Vec F S3584x512 .i8) (x2 : Vec F S10x512 .i32) (y : S1536x3584.Idx) :
    ∃ pc ∈ (kernelRun0_A c i arg1 harg1 arg2 harg2 arg3 harg3 arg4 harg4 arg5 harg5 hc0 x0 x1 x2).2.1, y ∈ pc.1.set :=
  View.cover_of_tiledL (kernelRun0_A c i arg1 harg1 arg2 harg2 arg3 harg3 arg4 harg4 arg5 harg5 hc0 x0 x1 x2).2.1 S1536x3584.size (by sl_kernel_rfl) y

/-- What case A leaves in scratch `arg5`: its pieces read back over junk. -/
def sout0_A_0 (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : cond0_0 i)
    (x0 : Vec F S1536x3584 .i8) (x1 : Vec F S3584x512 .i8) (x2 : Vec F S10x512 .i32) : Vec F S1536x3584 .bf16 :=
  VS0_0.read (Elt F) (VS0_0.writes (Elt F) VS0_0.junk (kernelRun0_A c i arg1 harg1 arg2 harg2 arg3 harg3 arg4 harg4 arg5 harg5 hc0 x0 x1 x2).2.1)

/-- Case B's pieces for output 3 tile its block (1 store of `S1536x512`, checked by the kernel's evaluation: Lib/Ring.lean `Piece.tiledL`, linear in the pieces, through a loop's `@[irreducible]` trip theorem too), so they cover it. -/
theorem cover0_B_3 (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : ¬cond0_0 i)
    (x0 : Vec F S1536x3584 .i8) (x1 : Vec F S3584x512 .i8) (x2 : Vec F S10x512 .i32) (xs0 : Vec F S1536x3584 .bf16) (y : S1536x512.Idx) :
    ∃ pc ∈ (kernelRun0_B c i arg1 harg1 arg2 harg2 arg3 harg3 arg4 harg4 arg5 harg5 hc0 x0 x1 x2 xs0).1, y ∈ pc.1.set :=
  View.cover_of_tiledL (kernelRun0_B c i arg1 harg1 arg2 harg2 arg3 harg3 arg4 harg4 arg5 harg5 hc0 x0 x1 x2 xs0).1 S1536x512.size (by sl_kernel_rfl) y

/-- What case B leaves in output 3's staging buffer: its pieces read back over junk. -/
def out0_B_3 (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : ¬cond0_0 i)
    (x0 : Vec F S1536x3584 .i8) (x1 : Vec F S3584x512 .i8) (x2 : Vec F S10x512 .i32) (xs0 : Vec F S1536x3584 .bf16) : Vec F S1536x512 .i8 :=
  VO0_3.read (Elt F) (VO0_3.writes (Elt F) VO0_3.junk (kernelRun0_B c i arg1 harg1 arg2 harg2 arg3 harg3 arg4 harg4 arg5 harg5 hc0 x0 x1 x2 xs0).1)

/-- Case B stores nothing into scratch `arg5`: it holds what the point before left. -/
def sout0_B_0 (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : ¬cond0_0 i)
    (x0 : Vec F S1536x3584 .i8) (x1 : Vec F S3584x512 .i8) (x2 : Vec F S10x512 .i32) (xs0 : Vec F S1536x3584 .bf16) : Vec F S1536x3584 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1536x512 .i8 × Vec F S1536x3584 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 37 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a point of case A: that case's contents. -/
theorem outsAt0_A (c : Dev nD) (t : Fin cfg0.N) (h0 : t.val % 37 = 0) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) (iblk0 V c 1 t) (iblk0 V c 2 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 37 = 0) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS0 (c : Dev nD) : (n : ℕ) → n ≤ cfg0.N → sProp 𝕄
  | 0, _ => start0 c
  | n + 1, hn => iprop(iprop(owns (c : Thread nD τ) scM0_0 fullShare ((outsAt0 V c n hn).2)) ∗ side0 c)

theorem PhiS0_zero (c : Dev nD) (n : ℕ) (h : n ≤ cfg0.N) (hz : n = 0) : PhiS0 V c n h = start0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2)) ∗ side0 c) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2)) ∗ side0 c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS0_pos`; at anything at the first point, `PhiS0_zero`), the other scratch buffers and the generator register at some state, and takes the carried scratch back at this point's contents (`PhiS0_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    after0_0, after0_1, after0_2, after0_3]
  rw [show (dat0 V c).Φ t.succ = PhiS0 V c (t.val + 1) t.isLt from rfl, PhiS0_succ]
  have hN : t.val < 37 := lt_of_lt_of_eq t.isLt (show cfg0.N = 37 from N_0)
  by_cases h0 : t.val % 37 = 0
  · by_cases hz : t.val = 0
    · rw [PhiS0_castSucc V c t, PhiS0_zero V c _ _ hz, PhiA0_eq]
      rw [outsAt0_A V c t h0]
      unfold out0_A_3 sout0_A_0; (try dsimp only)
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _)
    · exfalso; have hN : t.val < 37 := lt_of_lt_of_eq t.isLt (show cfg0.N = 37 from N_0); omega
  · by_cases hz : t.val = 0
    · exfalso; have hN : t.val < 37 := lt_of_lt_of_eq t.isLt (show cfg0.N = 37 from N_0); omega
    · rw [PhiS0_castSucc V c t, PhiS0_pos V c _ _ hz]
      rw [outsAt0_B V c t h0]
      unfold out0_B_3 sout0_B_0; (try dsimp only)
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : start0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ start0 c := by
  rw [show (dat0 V c).Φ t = PhiS0 V c t.val (Nat.le_of_lt_succ t.isLt) from rfl, PhiS0_pos V c _ _ ht, PhiA0_eq]
  iintro ⟨HS0, Hg⟩
  isplitl [HS0]
  · iexists _; iexact HS0
  iexact Hg

/-- The same after the last point. -/
theorem hout0 (c : Dev nD) : (dat0 V c).Φ (Fin.last cfg0.N) ⊢ start0 c :=
  Phi_out0 V c _ (by rw [Fin.val_last]; have : cfg0.N = 37 := N_0; omega)

end Cert.Kernel.Whole

end
-- ==== Proof.WholeBitsDownRuns.lean ====
/- Region 1 of the whole kernel: its windows' blocks, its branch conditions, its scratch and the body's run in each case, at any entry contents. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents: the structural look recurses once per coordinate
set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 37) — by arithmetic of the point. -/
theorem hcond1_0 : ∀ t : Fin cfg1.N, cond1_0 (grid1.coords t) ↔ t.val % 37 = 0 :=
  (fun t => by
    have ht : t.val < 74 := Nat.lt_of_lt_of_eq t.isLt N_1
    have e0 : (grid1.coords t 0).val = t.val / 37 % 2 := Pipeline.Grid.coords_val t 0 (by decide) rfl
    have e1 : (grid1.coords t 1).val = t.val / 1 % 37 := Pipeline.Grid.coords_val t 1 (by decide) rfl
    simp only [cond1_0, e0, e1]
    word_cmp
   : ∀ t : Fin grid1.N, cond1_0 (grid1.coords t) ↔ t.val % 37 = 0)

/-- The condition of the body's `scf.if` 1 (`k1_h2`), from the grid coordinates (the skeleton's scalar
    chain substituted). -/
abbrev cond1_1 (i : grid1.Coords) : Prop := k1_cond2 i = 1#1
/-- It holds at the points ≡ 36 (mod 37) — by arithmetic of the point. -/
theorem hcond1_1 : ∀ t : Fin cfg1.N, cond1_1 (grid1.coords t) ↔ t.val % 37 = 36 :=
  (fun t => by
    have ht : t.val < 74 := Nat.lt_of_lt_of_eq t.isLt N_1
    have e0 : (grid1.coords t 0).val = t.val / 37 % 2 := Pipeline.Grid.coords_val t 0 (by decide) rfl
    have e1 : (grid1.coords t 1).val = t.val / 1 % 37 := Pipeline.Grid.coords_val t 1 (by decide) rfl
    simp only [cond1_1, k1_cond2, e0, e1]
    word_cmp
   : ∀ t : Fin grid1.N, cond1_1 (grid1.coords t) ↔ t.val % 37 = 36)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- At the points of case A the printed configuration (`Cfg.idle`) calls output 3 idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B the printed configuration (`Cfg.idle`) calls output 3 idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C the printed configuration (`Cfg.idle`) calls output 3 live: the case stores into it. -/
theorem liveAt1_3_C : ∀ t : Fin cfg1.N, ¬cond1_0 (grid1.coords t) → cond1_1 (grid1.coords t) → cfg1.idle 3 (grid1.coords t) = false := by decide +kernel

/-! ## The kernel body on any staging memrefs: a subtype the run finds -/

/-- One staging buffer of output window 3, through which its contents are stated (`View.read_writes_of_cover`: the
    choice does not matter). -/
abbrev VO1_3 : View sig .tc .vmem S1536x1792 .i8 := (Memref.whole cc1_stg3_0 : Memref sig .tc .vmem S1536x1792 .i8).view
/-- Each window's current staging memref at point `t`, spelled as the pipeline passes it (`bodyAt1`), and its wholeness. -/
abbrev ms1_0 (t : Fin cfg1.N) : Memref sig .tc .vmem S1536x512 .i8 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1792 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x1792 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1536x1792 .i8 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S1536x1792 .f32 := Memref.whole cc1_scratch0
/-- The scratch `arg6` the kernel carries between points, as a view: what it holds is stated through it. -/
abbrev VS1_0 : View sig .tc .vmem S1536x1792 .f32 := scM1_0.view

/-- What rides beside the carried scratch through region 1: the other scoped buffers at anything and the generator register
    at some state. -/
def side1 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f)) ∗ (∃ r, prngReg c r))

/-- The invariant before region 1's first point: the carried scratch at anything, the rest beside it. -/
def start1 (c : Dev nD) : sProp 𝕄 :=
  iprop((∃ d, owns (c : Thread nD τ) scM1_0 fullShare d) ∗ side1 c)

theorem PhiA1_eq (c : Dev nD) :
    (start1 c : sProp 𝕄) = iprop((∃ d, owns (c : Thread nD τ) scM1_0 fullShare d) ∗ side1 c) := rfl

/-- What the launch hands the region (every scoped buffer it does not stage and the register) is the invariant's start. -/
theorem start1_of (c : Dev nD) : (Pipeline.ΦA spec1 c : sProp 𝕄) ⊢ start1 c := by
  unfold Pipeline.ΦA start1 side1; rw [scopedRest1_eq]; simp only [scM1_0, owns_whole]
  iintro ⟨⟨HR0, HR1, HR2, HR3, HR4, HR5, HR6, HR7, HS0⟩, Hg⟩
  isplitl [HS0]; · iexact HS0
  isplitl [HR0 HR1 HR2 HR3 HR4 HR5 HR6 HR7]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexact HR7
  iexact Hg

/-- The invariant's start hands those buffers back. -/
theorem of_start1 (c : Dev nD) : (start1 c : sProp 𝕄) ⊢ Pipeline.ΦA spec1 c := by
  unfold Pipeline.ΦA start1 side1; rw [scopedRest1_eq]; simp only [scM1_0, owns_whole]
  iintro ⟨HS0, ⟨HR0, HR1, HR2, HR3, HR4, HR5, HR6, HR7⟩, Hg⟩
  isplitl [HS0 HR0 HR1 HR2 HR3 HR4 HR5 HR6 HR7]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexact HS0
  iexact Hg

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 37), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : cond1_0 i) (hc1 : ¬cond1_1 i)
    (x0 : Vec F S1536x512 .i8) (x1 : Vec F S512x1792 .i8) (x2 : Vec F S4x1792 .i32) :
    Σ' (L3 : List (View.Piece (Elt F) S1536x1792 .i8)), { LS0 : List (View.Piece (Elt F) S1536x1792 .f32) //
      ∀ (xi3 : Vec F S1536x1792 .i8) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_down i arg2 harg2 arg3 harg3 arg4 harg4 arg5 harg5 arg6 harg6) K } := by
  refine ⟨[], ?_, fun xi3 E K => ?run⟩
  case run =>
    simp only [cc1_down_eq_skeleton]; unfold cc1_down_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 72: 70 of 74), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : ¬cond1_1 i)
    (x0 : Vec F S1536x512 .i8) (x1 : Vec F S512x1792 .i8) (x2 : Vec F S4x1792 .i32) (xs0 : Vec F S1536x1792 .f32) :
    Σ' (L3 : List (View.Piece (Elt F) S1536x1792 .i8)), { LS0 : List (View.Piece (Elt F) S1536x1792 .f32) //
      ∀ (xi3 : Vec F S1536x1792 .i8) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_down i arg2 harg2 arg3 harg3 arg4 harg4 arg5 harg5 arg6 harg6) K } := by
  refine ⟨[], ?_, fun xi3 E K => ?run⟩
  case run =>
    simp only [cc1_down_eq_skeleton]; unfold cc1_down_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken: points 36, 73), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : cond1_1 i)
    (x0 : Vec F S1536x512 .i8) (x1 : Vec F S512x1792 .i8) (x2 : Vec F S4x1792 .i32) (xs0 : Vec F S1536x1792 .f32) :
    Σ' (L3 : List (View.Piece (Elt F) S1536x1792 .i8)), { LS0 : List (View.Piece (Elt F) S1536x1792 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_down i arg2 harg2 arg3 harg3 arg4 harg4 arg5 harg5 arg6 harg6) K } := by
  refine ⟨?_, ?_, fun E K => ?run⟩
  case run =>
    simp only [cc1_down_eq_skeleton]; unfold cc1_down_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Whole

end
-- ==== Proof.WholeBitsDown.lean ====
/- Region 1 of the whole kernel, whose scratch is carried from point to point: what the output and the scratch hold after each point, the proof data and the body's obligation, at any entry contents. -/
module

public import proofs.«01_k».proof.Proof.WholeBitsDownRuns

@[expose] public section

-- membership in a rectangle of production extents: the structural look recurses once per coordinate
set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-- Case A stores nothing into output 3 (the window is idle at its points and not written back there):
    no pieces — a placeholder (junk read back) that nothing consults, since at these points the window is neither
    written back nor read at the next point (Lib/Pipeline.lean "Idle points"). -/
def out1_A_3 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : cond1_0 i) (hc1 : ¬cond1_1 i)
    (x0 : Vec F S1536x512 .i8) (x1 : Vec F S512x1792 .i8) (x2 : Vec F S4x1792 .i32) : Vec F S1536x1792 .i8 :=
  VO1_3.read (Elt F) (VO1_3.writes (Elt F) VO1_3.junk (kernelRun1_A c i arg2 harg2 arg3 harg3 arg4 harg4 arg5 harg5 arg6 harg6 hc0 hc1 x0 x1 x2).1)

/-- Case A's pieces for scratch `arg6`, which the kernel carries between points, cover it: 2 pieces of `S1536x1792` tiling it (Lib/Ring.lean `Piece.tiledL`). -/
theorem scover1_A_0 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : cond1_0 i) (hc1 : ¬cond1_1 i)
    (x0 : Vec F S1536x512 .i8) (x1 : Vec F S512x1792 .i8) (x2 : Vec F S4x1792 .i32) (y : S1536x1792.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1536x1792.size (by sl_kernel_rfl) y

/-- What case A leaves in scratch `arg6`: its pieces read back over junk. -/
def sout1_A_0 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : cond1_0 i) (hc1 : ¬cond1_1 i)
    (x0 : Vec F S1536x512 .i8) (x1 : Vec F S512x1792 .i8) (x2 : Vec F S4x1792 .i32) : Vec F S1536x1792 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into output 3 (the window is idle at its points and not written back there):
    no pieces — a placeholder (junk read back) that nothing consults, since at these points the window is neither
    written back nor read at the next point (Lib/Pipeline.lean "Idle points"). -/
def out1_B_3 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : ¬cond1_1 i)
    (x0 : Vec F S1536x512 .i8) (x1 : Vec F S512x1792 .i8) (x2 : Vec F S4x1792 .i32) (xs0 : Vec F S1536x1792 .f32) : Vec F S1536x1792 .i8 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for scratch `arg6`, which the kernel carries between points, cover it: 1 piece of `S1536x1792` tiling it (Lib/Ring.lean `Piece.tiledL`). -/
theorem scover1_B_0 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : ¬cond1_1 i)
    (x0 : Vec F S1536x512 .i8) (x1 : Vec F S512x1792 .i8) (x2 : Vec F S4x1792 .i32) (xs0 : Vec F S1536x1792 .f32) (y : S1536x1792.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1536x1792.size (by sl_kernel_rfl) y

/-- What case B leaves in scratch `arg6`: its pieces read back over junk. -/
def sout1_B_0 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : ¬cond1_1 i)
    (x0 : Vec F S1536x512 .i8) (x1 : Vec F S512x1792 .i8) (x2 : Vec F S4x1792 .i32) (xs0 : Vec F S1536x1792 .f32) : Vec F S1536x1792 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's pieces for output 3 tile its block (1 store of `S1536x1792`, checked by the kernel's evaluation: Lib/Ring.lean `Piece.tiledL`, linear in the pieces, through a loop's `@[irreducible]` trip theorem too), so they cover it. -/
theorem cover1_C_3 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : cond1_1 i)
    (x0 : Vec F S1536x512 .i8) (x1 : Vec F S512x1792 .i8) (x2 : Vec F S4x1792 .i32) (xs0 : Vec F S1536x1792 .f32) (y : S1536x1792.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1536x1792.size (by sl_kernel_rfl) y

/-- What case C leaves in output 3's staging buffer: its pieces read back over junk. -/
def out1_C_3 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : cond1_1 i)
    (x0 : Vec F S1536x512 .i8) (x1 : Vec F S512x1792 .i8) (x2 : Vec F S4x1792 .i32) (xs0 : Vec F S1536x1792 .f32) : Vec F S1536x1792 .i8 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for scratch `arg6`, which the kernel carries between points, cover it: 1 piece of `S1536x1792` tiling it (Lib/Ring.lean `Piece.tiledL`). -/
theorem scover1_C_0 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : cond1_1 i)
    (x0 : Vec F S1536x512 .i8) (x1 : Vec F S512x1792 .i8) (x2 : Vec F S4x1792 .i32) (xs0 : Vec F S1536x1792 .f32) (y : S1536x1792.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1536x1792.size (by sl_kernel_rfl) y

/-- What case C leaves in scratch `arg6`: its pieces read back over junk. -/
def sout1_C_0 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : cond1_1 i)
    (x0 : Vec F S1536x512 .i8) (x1 : Vec F S512x1792 .i8) (x2 : Vec F S4x1792 .i32) (xs0 : Vec F S1536x1792 .f32) : Vec F S1536x1792 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1536x1792 .i8 × Vec F S1536x1792 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 37 = 0 then
      if h1 : (n + 1) % 37 = 36 then
        False.elim (by have hN : n + 1 < 74 := lt_of_lt_of_eq hn (show cfg1.N = 74 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 37 = 36 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 37 = 0) (h1 : ¬t.val % 37 = 36) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 37 = 0) (h1 : ¬t.val % 37 = 36) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 37 = 0) (h1 : t.val % 37 = 36) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => start1 c
  | n + 1, hn => iprop(iprop(owns (c : Thread nD τ) scM1_0 fullShare ((outsAt1 V c n hn).2)) ∗ side1 c)

theorem PhiS1_zero (c : Dev nD) (n : ℕ) (h : n ≤ cfg1.N) (hz : n = 0) : PhiS1 V c n h = start1 c := by
  subst hz; rfl

/-- After point `n` (before point `n + 1`): the carried scratch at that point's contents. -/
theorem PhiS1_succ (c : Dev nD) (n : ℕ) (hn : n < cfg1.N) :
    PhiS1 V c (n + 1) hn = iprop(iprop(owns (c : Thread nD τ) scM1_0 fullShare ((outsAt1 V c n hn).2)) ∗ side1 c) := rfl

/-- Before a point that is not the first: the carried scratch at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2)) ∗ side1 c) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 74 := lt_of_lt_of_eq t.isLt (show cfg1.N = 74 from N_1)
  by_cases h0 : t.val % 37 = 0
  · by_cases h1 : t.val % 37 = 36
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      by_cases hz : t.val = 0
      · rw [PhiS1_castSucc V c t, PhiS1_zero V c _ _ hz, PhiA1_eq]
        rw [outsAt1_A V c t h0 h1]
        unfold sout1_A_0; (try dsimp only)
        iintro ⟨⟨HS0, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        rw [outsAt1_A V c t h0 h1]
        unfold sout1_A_0; (try dsimp only)
        iintro ⟨⟨HS0, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 37 = 36
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_C t (fun h => h0 ((hcond1_0 t).mp h)) ((hcond1_1 t).mpr h1)], after1_3]
      by_cases hz : t.val = 0
      · exfalso; have hN : t.val < 74 := lt_of_lt_of_eq t.isLt (show cfg1.N = 74 from N_1); omega
      · rw [PhiS1_castSucc V c t, PhiS1_pos V c _ _ hz]
        rw [outsAt1_C V c t h0 h1]
        unfold out1_C_3 sout1_C_0; (try dsimp only)
        iintro ⟨⟨HS0, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      by_cases hz : t.val = 0
      · exfalso; have hN : t.val < 74 := lt_of_lt_of_eq t.isLt (show cfg1.N = 74 from N_1); omega
      · rw [PhiS1_castSucc V c t, PhiS1_pos V c _ _ hz]
        rw [outsAt1_B V c t h0 h1]
        unfold sout1_B_0; (try dsimp only)
        iintro ⟨⟨HS0, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : start1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ start1 c := by
  rw [show (dat1 V c).Φ t = PhiS1 V c t.val (Nat.le_of_lt_succ t.isLt) from rfl, PhiS1_pos V c _ _ ht, PhiA1_eq]
  iintro ⟨HS0, Hg⟩
  isplitl [HS0]
  · iexists _; iexact HS0
  iexact Hg

/-- The same after the last point. -/
theorem hout1 (c : Dev nD) : (dat1 V c).Φ (Fin.last cfg1.N) ⊢ start1 c :=
  Phi_out1 V c _ (by rw [Fin.val_last]; have : cfg1.N = 74 := N_1; omega)

end Cert.Kernel.Whole

end
-- ==== Proof.WholeBitsRun.lean ====
/- The whole kernel run: the host stretches and the two regions from the launch to the return, every buffer's contents at each boundary, and the frame. -/
module

public import proofs.«01_k».proof.Proof.WholeBitsUp
public import proofs.«01_k».proof.Proof.WholeBitsDown

@[expose] public section

-- membership in a rectangle of production extents: the structural look recurses once per coordinate
set_option maxRecDepth 16384

noncomputable section

namespace Cert.Kernel.Whole

open Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_v0, main_cst_0, main_v1, main_cst_1, main_v2, main_cst_2, main_v3, main_v4, main_v5, main_v6, main_cst_3, main_v7, main_v8, main_v9, main_v10, main_v11, main_v12, main_v13, main_v14, main_c, main_v15, main_cst_4, main_v16, main_v17, main_v18, main_cst_5, main_v19, main_v20, main_v21, main_c_6, main_v22, main_v23, main_c_7]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_v24]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v25, main_c_8, main_v26, main_v27, main_c_9, main_v28, main_v29, main_c_10, main_v30, main_v31, main_v32, main_v33, main_v34, main_c_11, main_v35, main_v36, main_c_12, main_v37, main_v38, main_v39, main_v40, main_c_13, main_v41, main_v42, main_c_14, main_v43, main_v44, main_c_15, main_v45, main_v46, main_c_16, main_v47, main_v48, main_v49, main_v50, main_v51, main_c_17, main_v52, main_v53, main_c_18, main_v54, main_v55, main_v56, main_v57, main_cst_19, main_v58, main_v59, main_v60, main_v61, main_v62, main_cst_20, main_v63, main_v64, main_v65, main_v66, main_v67, main_cst_21, main_v68, main_v69, main_v70, main_v71, main_v72, main_v73, main_v74, main_v75, main_c_22, main_v76, main_cst_23, main_v77, main_v78, main_v79, main_cst_24, main_v80, main_v81, main_v82, main_c_25, main_v83, main_v84, main_c_26]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_call1_v1, main_v85]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays (checked: each argument against each reference it writes). -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_v86, main_c_27, main_v87, main_v88, main_c_28, main_v89, main_v90, main_c_29, main_v91, main_v92, main_v93, main_v94, main_v95, main_c_30, main_v96, main_v97, main_c_31, main_v98, main_v99, main_v100, main_v101, main_c_32, main_v102, main_v103, main_c_33, main_v104, main_v105, main_c_34, main_v106, main_v107, main_c_35, main_v108, main_v109, main_v110, main_v111, main_v112, main_c_36, main_v113, main_v114, main_c_37, main_v115, main_v116, main_v117, main_v118, main_cst_38, main_v119, main_v120, main_v121, main_v122, main_v123, main_cst_39, main_v124, main_v125, main_v126, main_v127, main_v128, main_v129, main_v130, main_v131, main_v132, main_v133, main_c_40, main_v134, main_cst_41, main_v135, main_v136, main_v137, main_cst_42, main_v138, main_v139, main_v140, main_c_43, main_v141, main_v142, main_c_44]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays (checked: each argument against each reference it writes). -/
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- The reference each operation of `hostOps0_5` writes, in order. -/
abbrev hostOps0_5_W : List (Ref sig .tc) := [main_call2_v0, main_call2_v1, main_v143]
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes none of the argument arrays (checked: each argument against each reference it writes). -/
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- The reference each operation of `hostOps0_6` writes, in order. -/
abbrev hostOps0_6_W : List (Ref sig .tc) := [main_v144, main_c_45, main_v145, main_v146, main_c_46, main_v147, main_v148, main_c_47, main_v149, main_v150, main_v151, main_v152, main_v153, main_c_48, main_v154, main_v155, main_c_49, main_v156, main_v157, main_v158, main_v159, main_cst_50, main_v160, main_v161]
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes none of the argument arrays (checked: each argument against each reference it writes). -/
theorem hostOps0_6_args : ∀ a ∈ argRefs, a ∉ hostOps0_6_W := ListAll.forall_mem_of_all_decide (by decide +kernel)

/-- No operation of `hostOps0_7` allocates a buffer. -/
theorem hostOps0_7_fresh : (hostOps0_7 : List (HloOp τ sig (Elt F))).Forall fun op => op.fresh = ∅ := by
  simp only [List.Forall]; repeat' constructor
/-- The reference each operation of `hostOps0_7` writes, in order. -/
abbrev hostOps0_7_W : List (Ref sig .tc) := [main_v162]
theorem hostOps0_7_writes : (hostOps0_7 : List (HloOp τ sig (Elt F))).Forall fun op => op.writes ⊆ (hostOps0_7_W.map (Proc.devRef (τ := τ) .tc)).toFinset :=
  StableHlo.forall_writes_sub_of_map rfl
/-- `hostOps0_7` writes none of the argument arrays (checked: each argument against each reference it writes). -/
theorem hostOps0_7_args : ∀ a ∈ argRefs, a ∉ hostOps0_7_W := ListAll.forall_mem_of_all_decide (by decide +kernel)

/-- No operation of `hostOps0_8` allocates a buffer. -/
theorem hostOps0_8_fresh : (hostOps0_8 : List (HloOp τ sig (Elt F))).Forall fun op => op.fresh = ∅ := by
  simp only [List.Forall]; repeat' constructor
/-- The reference each operation of `hostOps0_8` writes, in order. -/
abbrev hostOps0_8_W : List (Ref sig .tc) := [main_v163, main_c_51, main_v164, main_v165, main_c_52, main_v166, main_v167, main_c_53, main_v168, main_v169, main_c_54, main_v170, main_v171, main_c_55, main_v172, main_v173, main_v174, main_c_56]
theorem hostOps0_8_writes : (hostOps0_8 : List (HloOp τ sig (Elt F))).Forall fun op => op.writes ⊆ (hostOps0_8_W.map (Proc.devRef (τ := τ) .tc)).toFinset :=
  StableHlo.forall_writes_sub_of_map rfl
/-- `hostOps0_8` writes none of the argument arrays (checked: each argument against each reference it writes). -/
theorem hostOps0_8_args : ∀ a ∈ argRefs, a ∉ hostOps0_8_W := ListAll.forall_mem_of_all_decide (by decide +kernel)

/-- No operation of `hostOps0_9` allocates a buffer. -/
theorem hostOps0_9_fresh : (hostOps0_9 : List (HloOp τ sig (Elt F))).Forall fun op => op.fresh = ∅ := by
  simp only [List.Forall]; repeat' constructor
/-- The reference each operation of `hostOps0_9` writes, in order. -/
abbrev hostOps0_9_W : List (Ref sig .tc) := [main_call4_v0, main_call4_v1, main_v175]
theorem hostOps0_9_writes : (hostOps0_9 : List (HloOp τ sig (Elt F))).Forall fun op => op.writes ⊆ (hostOps0_9_W.map (Proc.devRef (τ := τ) .tc)).toFinset :=
  StableHlo.forall_writes_sub_of_map rfl
/-- `hostOps0_9` writes none of the argument arrays (checked: each argument against each reference it writes). -/
theorem hostOps0_9_args : ∀ a ∈ argRefs, a ∉ hostOps0_9_W := ListAll.forall_mem_of_all_decide (by decide +kernel)

/-- No operation of `hostOps0_10` allocates a buffer. -/
theorem hostOps0_10_fresh : (hostOps0_10 : List (HloOp τ sig (Elt F))).Forall fun op => op.fresh = ∅ := by
  simp only [List.Forall]; repeat' constructor
/-- The reference each operation of `hostOps0_10` writes, in order. -/
abbrev hostOps0_10_W : List (Ref sig .tc) := [main_v176, main_c_57, main_v177, main_v178, main_c_58, main_c_59]
theorem hostOps0_10_writes : (hostOps0_10 : List (HloOp τ sig (Elt F))).Forall fun op => op.writes ⊆ (hostOps0_10_W.map (Proc.devRef (τ := τ) .tc)).toFinset :=
  StableHlo.forall_writes_sub_of_map rfl
/-- `hostOps0_10` writes none of the argument arrays (checked: each argument against each reference it writes). -/
theorem hostOps0_10_args : ∀ a ∈ argRefs, a ∉ hostOps0_10_W := ListAll.forall_mem_of_all_decide (by decide +kernel)

/-- No operation of `hostOps0_11` allocates a buffer. -/
theorem hostOps0_11_fresh : (hostOps0_11 : List (HloOp τ sig (Elt F))).Forall fun op => op.fresh = ∅ := by
  simp only [List.Forall]; repeat' constructor
/-- The reference each operation of `hostOps0_11` writes, in order. -/
abbrev hostOps0_11_W : List (Ref sig .tc) := [main_call5_v0, main_call5_v1, main_call5_v2, main_call5_v3, main_call5_v4, main_v179]
theorem hostOps0_11_writes : (hostOps0_11 : List (HloOp τ sig (Elt F))).Forall fun op => op.writes ⊆ (hostOps0_11_W.map (Proc.devRef (τ := τ) .tc)).toFinset :=
  StableHlo.forall_writes_sub_of_map rfl
/-- `hostOps0_11` writes none of the argument arrays (checked: each argument against each reference it writes). -/
theorem hostOps0_11_args : ∀ a ∈ argRefs, a ∉ hostOps0_11_W := ListAll.forall_mem_of_all_decide (by decide +kernel)

/-- No operation of `hostOps0_12` allocates a buffer. -/
theorem hostOps0_12_fresh : (hostOps0_12 : List (HloOp τ sig (Elt F))).Forall fun op => op.fresh = ∅ := by
  simp only [List.Forall]; repeat' constructor
/-- The reference each operation of `hostOps0_12` writes, in order. -/
abbrev hostOps0_12_W : List (Ref sig .tc) := [main_v180, main_v181, main_v182, main_v183, main_v184, main_v185, main_v186, main_v187, main_v188, main_v189, main_v190, main_v191, main_v192, main_v193, main_v194, main_v195, main_v196, main_v197, main_v198, main_v199, main_v200, main_c_60, main_v201, main_cst_61, main_v202, main_v203, main_v204, main_cst_62, main_v205, main_v206, main_v207, main_c_63, main_v208, main_v209, main_c_64]
theorem hostOps0_12_writes : (hostOps0_12 : List (HloOp τ sig (Elt F))).Forall fun op => op.writes ⊆ (hostOps0_12_W.map (Proc.devRef (τ := τ) .tc)).toFinset :=
  StableHlo.forall_writes_sub_of_map rfl
/-- `hostOps0_12` writes none of the argument arrays (checked: each argument against each reference it writes). -/
theorem hostOps0_12_args : ∀ a ∈ argRefs, a ∉ hostOps0_12_W := ListAll.forall_mem_of_all_decide (by decide +kernel)

/-- No operation of `hostOps0_13` allocates a buffer. -/
theorem hostOps0_13_fresh : (hostOps0_13 : List (HloOp τ sig (Elt F))).Forall fun op => op.fresh = ∅ := by
  simp only [List.Forall]; repeat' constructor
/-- The reference each operation of `hostOps0_13` writes, in order. -/
abbrev hostOps0_13_W : List (Ref sig .tc) := [main_call6_v0, main_call6_v1, main_v210]
theorem hostOps0_13_writes : (hostOps0_13 : List (HloOp τ sig (Elt F))).Forall fun op => op.writes ⊆ (hostOps0_13_W.map (Proc.devRef (τ := τ) .tc)).toFinset :=
  StableHlo.forall_writes_sub_of_map rfl
/-- `hostOps0_13` writes none of the argument arrays (checked: each argument against each reference it writes). -/
theorem hostOps0_13_args : ∀ a ∈ argRefs, a ∉ hostOps0_13_W := ListAll.forall_mem_of_all_decide (by decide +kernel)

/-- No operation of `hostOps0_14` allocates a buffer. -/
theorem hostOps0_14_fresh : (hostOps0_14 : List (HloOp τ sig (Elt F))).Forall fun op => op.fresh = ∅ := by
  simp only [List.Forall]; repeat' constructor
/-- The reference each operation of `hostOps0_14` writes, in order. -/
abbrev hostOps0_14_W : List (Ref sig .tc) := [main_v211, main_c_65, main_v212, main_v213, main_c_66, main_v214, main_v215, main_c_67, main_v216, main_v217, main_v218, main_v219, main_v220, main_c_68, main_v221, main_v222, main_c_69, main_v223, main_v224, main_v225, main_v226, main_cst_70, main_v227, main_v228]
theorem hostOps0_14_writes : (hostOps0_14 : List (HloOp τ sig (Elt F))).Forall fun op => op.writes ⊆ (hostOps0_14_W.map (Proc.devRef (τ := τ) .tc)).toFinset :=
  StableHlo.forall_writes_sub_of_map rfl
/-- `hostOps0_14` writes none of the argument arrays (checked: each argument against each reference it writes). -/
theorem hostOps0_14_args : ∀ a ∈ argRefs, a ∉ hostOps0_14_W := ListAll.forall_mem_of_all_decide (by decide +kernel)

/-- No operation of `hostOps0_15` allocates a buffer. -/
theorem hostOps0_15_fresh : (hostOps0_15 : List (HloOp τ sig (Elt F))).Forall fun op => op.fresh = ∅ := by
  simp only [List.Forall]; repeat' constructor
/-- The reference each operation of `hostOps0_15` writes, in order. -/
abbrev hostOps0_15_W : List (Ref sig .tc) := [main_v229]
theorem hostOps0_15_writes : (hostOps0_15 : List (HloOp τ sig (Elt F))).Forall fun op => op.writes ⊆ (hostOps0_15_W.map (Proc.devRef (τ := τ) .tc)).toFinset :=
  StableHlo.forall_writes_sub_of_map rfl
/-- `hostOps0_15` writes none of the argument arrays (checked: each argument against each reference it writes). -/
theorem hostOps0_15_args : ∀ a ∈ argRefs, a ∉ hostOps0_15_W := ListAll.forall_mem_of_all_decide (by decide +kernel)

/-- No operation of `hostOps0_16` allocates a buffer. -/
theorem hostOps0_16_fresh : (hostOps0_16 : List (HloOp τ sig (Elt F))).Forall fun op => op.fresh = ∅ := by
  simp only [List.Forall]; repeat' constructor
/-- The reference each operation of `hostOps0_16` writes, in order. -/
abbrev hostOps0_16_W : List (Ref sig .tc) := [main_v230, main_c_71, main_v231, main_v232, main_c_72, main_v233, main_v234, main_c_73, main_v235, main_v236, main_c_74, main_v237, main_v238, main_c_75, main_v239, main_v240, main_v241, main_c_76]
theorem hostOps0_16_writes : (hostOps0_16 : List (HloOp τ sig (Elt F))).Forall fun op => op.writes ⊆ (hostOps0_16_W.map (Proc.devRef (τ := τ) .tc)).toFinset :=
  StableHlo.forall_writes_sub_of_map rfl
/-- `hostOps0_16` writes none of the argument arrays (checked: each argument against each reference it writes). -/
theorem hostOps0_16_args : ∀ a ∈ argRefs, a ∉ hostOps0_16_W := ListAll.forall_mem_of_all_decide (by decide +kernel)

/-- No operation of `hostOps0_17` allocates a buffer. -/
theorem hostOps0_17_fresh : (hostOps0_17 : List (HloOp τ sig (Elt F))).Forall fun op => op.fresh = ∅ := by
  simp only [List.Forall]; repeat' constructor
/-- The reference each operation of `hostOps0_17` writes, in order. -/
abbrev hostOps0_17_W : List (Ref sig .tc) := [main_call8_v0, main_call8_v1, main_v242]
theorem hostOps0_17_writes : (hostOps0_17 : List (HloOp τ sig (Elt F))).Forall fun op => op.writes ⊆ (hostOps0_17_W.map (Proc.devRef (τ := τ) .tc)).toFinset :=
  StableHlo.forall_writes_sub_of_map rfl
/-- `hostOps0_17` writes none of the argument arrays (checked: each argument against each reference it writes). -/
theorem hostOps0_17_args : ∀ a ∈ argRefs, a ∉ hostOps0_17_W := ListAll.forall_mem_of_all_decide (by decide +kernel)

/-- No operation of `hostOps0_18` allocates a buffer. -/
theorem hostOps0_18_fresh : (hostOps0_18 : List (HloOp τ sig (Elt F))).Forall fun op => op.fresh = ∅ := by
  simp only [List.Forall]; repeat' constructor
/-- The reference each operation of `hostOps0_18` writes, in order. -/
abbrev hostOps0_18_W : List (Ref sig .tc) := [main_v243, main_v244, main_v245, main_v246, main_v247]
theorem hostOps0_18_writes : (hostOps0_18 : List (HloOp τ sig (Elt F))).Forall fun op => op.writes ⊆ (hostOps0_18_W.map (Proc.devRef (τ := τ) .tc)).toFinset :=
  StableHlo.forall_writes_sub_of_map rfl
/-- `hostOps0_18` writes none of the argument arrays (checked: each argument against each reference it writes). -/
theorem hostOps0_18_args : ∀ a ∈ argRefs, a ∉ hostOps0_18_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v250, main_v251]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6`. -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- After `hostOps0_7`. -/
abbrev W8 : Dev nD → Valuation τ sig (Elt F) := fun c => StableHlo.after hostOps0_7 (W7 m ρ c)
/-- A reference `hostOps0_7` does not write keeps its contents across it. -/
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
/-- After `hostOps0_8`. -/
abbrev W9 : Dev nD → Valuation τ sig (Elt F) := fun c => StableHlo.after hostOps0_8 (W8 m ρ c)
/-- A reference `hostOps0_8` does not write keeps its contents across it. -/
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)
/-- After `hostOps0_9`. -/
abbrev W10 : Dev nD → Valuation τ sig (Elt F) := fun c => StableHlo.after hostOps0_9 (W9 m ρ c)
/-- A reference `hostOps0_9` does not write keeps its contents across it. -/
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W10_args (c : Dev nD) : ∀ a ∈ argRefs, W10 m ρ c (Proc.devRef .tc a) = m ((c : Thread nD τ).loc a) :=
  fun a ha => (W10_of m ρ c a (hostOps0_9_args a ha)).trans (W9_args m ρ c a ha)
/-- After `hostOps0_10`. -/
abbrev W11 : Dev nD → Valuation τ sig (Elt F) := fun c => StableHlo.after hostOps0_10 (W10 m ρ c)
/-- A reference `hostOps0_10` does not write keeps its contents across it. -/
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W11_args (c : Dev nD) : ∀ a ∈ argRefs, W11 m ρ c (Proc.devRef .tc a) = m ((c : Thread nD τ).loc a) :=
  fun a ha => (W11_of m ρ c a (hostOps0_10_args a ha)).trans (W10_args m ρ c a ha)
/-- After `hostOps0_11`. -/
abbrev W12 : Dev nD → Valuation τ sig (Elt F) := fun c => StableHlo.after hostOps0_11 (W11 m ρ c)
/-- A reference `hostOps0_11` does not write keeps its contents across it. -/
theorem W12_of (c : Dev nD) (r : Ref sig .tc) (h : r ∉ hostOps0_11_W) : W12 m ρ c (Proc.devRef .tc r) = W11 m ρ c (Proc.devRef .tc r) :=
  StableHlo.after_of_writes_sub hostOps0_11 _ hostOps0_11_writes h
theorem W12_args (c : Dev nD) : ∀ a ∈ argRefs, W12 m ρ c (Proc.devRef .tc a) = m ((c : Thread nD τ).loc a) :=
  fun a ha => (W12_of m ρ c a (hostOps0_11_args a ha)).trans (W11_args m ρ c a ha)
/-- After `hostOps0_12`. -/
abbrev W13 : Dev nD → Valuation τ sig (Elt F) := fun c => StableHlo.after hostOps0_12 (W12 m ρ c)
/-- A reference `hostOps0_12` does not write keeps its contents across it. -/
theorem W13_of (c : Dev nD) (r : Ref sig .tc) (h : r ∉ hostOps0_12_W) : W13 m ρ c (Proc.devRef .tc r) = W12 m ρ c (Proc.devRef .tc r) :=
  StableHlo.after_of_writes_sub hostOps0_12 _ hostOps0_12_writes h
theorem W13_args (c : Dev nD) : ∀ a ∈ argRefs, W13 m ρ c (Proc.devRef .tc a) = m ((c : Thread nD τ).loc a) :=
  fun a ha => (W13_of m ρ c a (hostOps0_12_args a ha)).trans (W12_args m ρ c a ha)
/-- After `hostOps0_13`. -/
abbrev W14 : Dev nD → Valuation τ sig (Elt F) := fun c => StableHlo.after hostOps0_13 (W13 m ρ c)
/-- A reference `hostOps0_13` does not write keeps its contents across it. -/
theorem W14_of (c : Dev nD) (r : Ref sig .tc) (h : r ∉ hostOps0_13_W) : W14 m ρ c (Proc.devRef .tc r) = W13 m ρ c (Proc.devRef .tc r) :=
  StableHlo.after_of_writes_sub hostOps0_13 _ hostOps0_13_writes h
theorem W14_args (c : Dev nD) : ∀ a ∈ argRefs, W14 m ρ c (Proc.devRef .tc a) = m ((c : Thread nD τ).loc a) :=
  fun a ha => (W14_of m ρ c a (hostOps0_13_args a ha)).trans (W13_args m ρ c a ha)
/-- After `hostOps0_14`. -/
abbrev W15 : Dev nD → Valuation τ sig (Elt F) := fun c => StableHlo.after hostOps0_14 (W14 m ρ c)
/-- A reference `hostOps0_14` does not write keeps its contents across it. -/
theorem W15_of (c : Dev nD) (r : Ref sig .tc) (h : r ∉ hostOps0_14_W) : W15 m ρ c (Proc.devRef .tc r) = W14 m ρ c (Proc.devRef .tc r) :=
  StableHlo.after_of_writes_sub hostOps0_14 _ hostOps0_14_writes h
theorem W15_args (c : Dev nD) : ∀ a ∈ argRefs, W15 m ρ c (Proc.devRef .tc a) = m ((c : Thread nD τ).loc a) :=
  fun a ha => (W15_of m ρ c a (hostOps0_14_args a ha)).trans (W14_args m ρ c a ha)
/-- After `hostOps0_15`. -/
abbrev W16 : Dev nD → Valuation τ sig (Elt F) := fun c => StableHlo.after hostOps0_15 (W15 m ρ c)
/-- A reference `hostOps0_15` does not write keeps its contents across it. -/
theorem W16_of (c : Dev nD) (r : Ref sig .tc) (h : r ∉ hostOps0_15_W) : W16 m ρ c (Proc.devRef .tc r) = W15 m ρ c (Proc.devRef .tc r) :=
  StableHlo.after_of_writes_sub hostOps0_15 _ hostOps0_15_writes h
theorem W16_args (c : Dev nD) : ∀ a ∈ argRefs, W16 m ρ c (Proc.devRef .tc a) = m ((c : Thread nD τ).loc a) :=
  fun a ha => (W16_of m ρ c a (hostOps0_15_args a ha)).trans (W15_args m ρ c a ha)
/-- After `hostOps0_16`. -/
abbrev W17 : Dev nD → Valuation τ sig (Elt F) := fun c => StableHlo.after hostOps0_16 (W16 m ρ c)
/-- A reference `hostOps0_16` does not write keeps its contents across it. -/
theorem W17_of (c : Dev nD) (r : Ref sig .tc) (h : r ∉ hostOps0_16_W) : W17 m ρ c (Proc.devRef .tc r) = W16 m ρ c (Proc.devRef .tc r) :=
  StableHlo.after_of_writes_sub hostOps0_16 _ hostOps0_16_writes h
theorem W17_args (c : Dev nD) : ∀ a ∈ argRefs, W17 m ρ c (Proc.devRef .tc a) = m ((c : Thread nD τ).loc a) :=
  fun a ha => (W17_of m ρ c a (hostOps0_16_args a ha)).trans (W16_args m ρ c a ha)
/-- After `hostOps0_17`. -/
abbrev W18 : Dev nD → Valuation τ sig (Elt F) := fun c => StableHlo.after hostOps0_17 (W17 m ρ c)
/-- A reference `hostOps0_17` does not write keeps its contents across it. -/
theorem W18_of (c : Dev nD) (r : Ref sig .tc) (h : r ∉ hostOps0_17_W) : W18 m ρ c (Proc.devRef .tc r) = W17 m ρ c (Proc.devRef .tc r) :=
  StableHlo.after_of_writes_sub hostOps0_17 _ hostOps0_17_writes h
theorem W18_args (c : Dev nD) : ∀ a ∈ argRefs, W18 m ρ c (Proc.devRef .tc a) = m ((c : Thread nD τ).loc a) :=
  fun a ha => (W18_of m ρ c a (hostOps0_17_args a ha)).trans (W17_args m ρ c a ha)
/-- After `hostOps0_18` (region 0's entry). -/
abbrev W19 : Dev nD → Valuation τ sig (Elt F) := fun c => StableHlo.after hostOps0_18 (W18 m ρ c)
/-- A reference `hostOps0_18` does not write keeps its contents across it. -/
theorem W19_of (c : Dev nD) (r : Ref sig .tc) (h : r ∉ hostOps0_18_W) : W19 m ρ c (Proc.devRef .tc r) = W18 m ρ c (Proc.devRef .tc r) :=
  StableHlo.after_of_writes_sub hostOps0_18 _ hostOps0_18_writes h
theorem W19_args (c : Dev nD) : ∀ a ∈ argRefs, W19 m ρ c (Proc.devRef .tc a) = m ((c : Thread nD τ).loc a) :=
  fun a ha => (W19_of m ρ c a (hostOps0_18_args a ha)).trans (W18_args m ρ c a ha)
/-- The same read at the TensorCore's references (what region 0's proof data take). -/
abbrev V19 : (c : Dev nD) → (b : Ref sig .tc) → Buf (Elt F) ((c : Thread nD τ).loc b) := fun c b => W19 m ρ c b
/-- At region 0's exit: its arrays at what the pipeline leaves (the inputs as entered, each output's write-backs
    folded: `Dat.arrAt … N`), every other buffer as entered (Lib/Pipeline/FrameSuffix.lean `withArrays`) (region 1's entry). -/
def W20 (c : Dev nD) : Valuation τ sig (Elt F) :=
  Pipeline.withArrays spec0 c (W19 m ρ c) fun w => (dat0 (V19 m ρ) c).arrAt w cfg0.N
theorem W20_arr (c : Dev nD) (w : Fin cfg0.W) :
    W20 m ρ c (Proc.devRef .tc (Pipeline.arrRef spec0 w)) = (dat0 (V19 m ρ) c).arrAt w cfg0.N := by
  unfold W20; exact Pipeline.withArrays_arr spec0 launch0.win.arr_inj c _ _ w
theorem W20_of_ne (c : Dev nD) (b : Ref sig .tc) (hb : ∀ w, Pipeline.arrRef spec0 w ≠ b) :
    W20 m ρ c (Proc.devRef .tc b) = W19 m ρ c (Proc.devRef .tc b) := by
  unfold W20; exact Pipeline.withArrays_of_ne spec0 c _ _ b hb
/-- A reference that is none of region 0's OUTPUT arrays keeps its entry contents across it: an input window's
    array is never written back (`Dat.arrAt_in`, `A_eq0`); any other buffer is left as is. -/
theorem W20_of (c : Dev nD) (r : Ref sig .tc) (h : ∀ w : Fin cfg0.W, Pipeline.arrRef spec0 w = r → (cfg0.win w).isOut = false) :
    W20 m ρ c (Proc.devRef .tc r) = W19 m ρ c (Proc.devRef .tc r) := by
  by_cases hw : ∃ w : Fin cfg0.W, Pipeline.arrRef spec0 w = r
  · obtain ⟨w, rfl⟩ := hw
    exact (W20_arr m ρ c w).trans (((dat0 (V19 m ρ) c).arrAt_in w (h w rfl) _).trans (A_eq0 (V19 m ρ) c w))
  · exact W20_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W20_args (c : Dev nD) : ∀ a ∈ argRefs, W20 m ρ c (Proc.devRef .tc a) = m ((c : Thread nD τ).loc a) :=
  fun a ha => (W20_of m ρ c a (argsIn0 a ha)).trans (W19_args m ρ c a ha)
/-- The same read at the TensorCore's references (region 0's exit contents). -/
abbrev V20 : (c : Dev nD) → (b : Ref sig .tc) → Buf (Elt F) ((c : Thread nD τ).loc b) := fun c b => W20 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V19 m ρ) c).arrAt w cfg0.N = V20 m ρ c (Pipeline.arrRef spec0 w) :=
  (W20_arr m ρ c w).symm
theorem hrest0 (c : Dev nD) : ∀ b, b ∉ Finset.univ.image (Pipeline.arrRef spec0) → V20 m ρ c b = V19 m ρ c b :=
  fun b hb => W20_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W21 (c : Dev nD) : Valuation τ sig (Elt F) :=
  Pipeline.withArrays spec1 c (W20 m ρ c) fun w => (dat1 (V20 m ρ) c).arrAt w cfg1.N
theorem W21_arr (c : Dev nD) (w : Fin cfg1.W) :
    W21 m ρ c (Proc.devRef .tc (Pipeline.arrRef spec1 w)) = (dat1 (V20 m ρ) c).arrAt w cfg1.N := by
  unfold W21; exact Pipeline.withArrays_arr spec1 launch1.win.arr_inj c _ _ w
theorem W21_of_ne (c : Dev nD) (b : Ref sig .tc) (hb : ∀ w, Pipeline.arrRef spec1 w ≠ b) :
    W21 m ρ c (Proc.devRef .tc b) = W20 m ρ c (Proc.devRef .tc b) := by
  unfold W21; exact Pipeline.withArrays_of_ne spec1 c _ _ b hb
/-- A reference that is none of region 1's OUTPUT arrays keeps its entry contents across it: an input window's
    array is never written back (`Dat.arrAt_in`, `A_eq1`); any other buffer is left as is. -/
theorem W21_of (c : Dev nD) (r : Ref sig .tc) (h : ∀ w : Fin cfg1.W, Pipeline.arrRef spec1 w = r → (cfg1.win w).isOut = false) :
    W21 m ρ c (Proc.devRef .tc r) = W20 m ρ c (Proc.devRef .tc r) := by
  by_cases hw : ∃ w : Fin cfg1.W, Pipeline.arrRef spec1 w = r
  · obtain ⟨w, rfl⟩ := hw
    exact (W21_arr m ρ c w).trans (((dat1 (V20 m ρ) c).arrAt_in w (h w rfl) _).trans (A_eq1 (V20 m ρ) c w))
  · exact W21_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W21_args (c : Dev nD) : ∀ a ∈ argRefs, W21 m ρ c (Proc.devRef .tc a) = m ((c : Thread nD τ).loc a) :=
  fun a ha => (W21_of m ρ c a (argsIn1 a ha)).trans (W20_args m ρ c a ha)
/-- The same read at the TensorCore's references (region 1's exit contents). -/
abbrev V21 : (c : Dev nD) → (b : Ref sig .tc) → Buf (Elt F) ((c : Thread nD τ).loc b) := fun c b => W21 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V20 m ρ) c).arrAt w cfg1.N = V21 m ρ c (Pipeline.arrRef spec1 w) :=
  (W21_arr m ρ c w).symm
theorem hrest1 (c : Dev nD) : ∀ b, b ∉ Finset.univ.image (Pipeline.arrRef spec1) → V21 m ρ c b = V20 m ρ c b :=
  fun b hb => W21_of_ne m ρ c b fun w e => hb (Finset.mem_image.mpr ⟨w, Finset.mem_univ _, e⟩)

/-- After `hostOps2`. -/
abbrev W22 : Dev nD → Valuation τ sig (Elt F) := fun c => StableHlo.after hostOps2 (W21 m ρ c)
/-- A reference `hostOps2` does not write keeps its contents across it. -/
theorem W22_of (c : Dev nD) (r : Ref sig .tc) (h : r ∉ hostOps2_W) : W22 m ρ c (Proc.devRef .tc r) = W21 m ρ c (Proc.devRef .tc r) :=
  StableHlo.after_of_writes_sub hostOps2 _ hostOps2_writes h
theorem W22_args (c : Dev nD) : ∀ a ∈ argRefs, W22 m ρ c (Proc.devRef .tc a) = m ((c : Thread nD τ).loc a) :=
  fun a ha => (W22_of m ρ c a (hostOps2_args a ha)).trans (W21_args m ρ c a ha)

/-! ### The arguments end as launched: no host stretch writes one and no region may change one (a region reads it
    through an input window or bypasses it) -/

theorem W22_main_arg0 (c : Dev nD) : W22 m ρ c (Proc.devRef .tc main_arg0) = m ((c : Thread nD τ).loc main_arg0) :=
  W22_args m ρ c main_arg0 (by decide)
theorem W22_main_arg1 (c : Dev nD) : W22 m ρ c (Proc.devRef .tc main_arg1) = m ((c : Thread nD τ).loc main_arg1) :=
  W22_args m ρ c main_arg1 (by decide)
theorem W22_main_arg2 (c : Dev nD) : W22 m ρ c (Proc.devRef .tc main_arg2) = m ((c : Thread nD τ).loc main_arg2) :=
  W22_args m ρ c main_arg2 (by decide)
theorem W22_main_arg3 (c : Dev nD) : W22 m ρ c (Proc.devRef .tc main_arg3) = m ((c : Thread nD τ).loc main_arg3) :=
  W22_args m ρ c main_arg3 (by decide)
theorem W22_main_arg4 (c : Dev nD) : W22 m ρ c (Proc.devRef .tc main_arg4) = m ((c : Thread nD τ).loc main_arg4) :=
  W22_args m ρ c main_arg4 (by decide)
theorem W22_main_arg5 (c : Dev nD) : W22 m ρ c (Proc.devRef .tc main_arg5) = m ((c : Thread nD τ).loc main_arg5) :=
  W22_args m ρ c main_arg5 (by decide)
theorem W22_main_arg6 (c : Dev nD) : W22 m ρ c (Proc.devRef .tc main_arg6) = m ((c : Thread nD τ).loc main_arg6) :=
  W22_args m ρ c main_arg6 (by decide)
theorem W22_main_arg7 (c : Dev nD) : W22 m ρ c (Proc.devRef .tc main_arg7) = m ((c : Thread nD τ).loc main_arg7) :=
  W22_args m ρ c main_arg7 (by decide)
theorem W22_main_arg8 (c : Dev nD) : W22 m ρ c (Proc.devRef .tc main_arg8) = m ((c : Thread nD τ).loc main_arg8) :=
  W22_args m ρ c main_arg8 (by decide)
theorem W22_main_arg9 (c : Dev nD) : W22 m ρ c (Proc.devRef .tc main_arg9) = m ((c : Thread nD τ).loc main_arg9) :=
  W22_args m ρ c main_arg9 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V19 m ρ) c
  | ⟨1, _⟩ => fun c => dat1 (V20 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W22`, the generator register at some state. -/
abbrev Tₙ (c : Dev nD) : sProp 𝕄 := iprop(StableHlo.held (c : Thread nD τ) (Pipeline.ucRefs τ sig) (W22 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W19`, left at `W20`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V19 m ρ) c).loose
  hwaits := Pipeline.hwaits_of_owed_zero _ _ _ _ L lv 0 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec0 c (V19 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V19 m ρ c) (A_eq0 (V19 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : (Pipeline.ΦA spec0 c : sProp 𝕄) ⊢ (pdats m ρ 0 c).Φ 0 := (start0_of c).trans (hin0 (V19 m ρ) c)
    unfold Pipeline.ΦA at hΦ
    iintro ⟨Hp, -, Hr⟩
    iapply hΦ
    isplitl [Hr]; · iexact Hr
    iexact Hp
  hout c := by
    have hΦ : (pdats m ρ 0 c).Φ (Fin.last cfg0.N) ⊢ (Pipeline.ΦA spec0 c : sProp 𝕄) := (hout0 (V19 m ρ) c).trans (of_start0 c)
    unfold Pipeline.ΦA at hΦ
    rw [Pipeline.ownSems0_none]
    iintro HΦ
    ihave H := hΦ $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V19 m ρ c) (V20 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W20`, left at `W21`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V20 m ρ) c).loose
  hwaits := Pipeline.hwaits_of_owed_zero _ _ _ _ L lv 1 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec1 c (V20 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V20 m ρ c) (A_eq1 (V20 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : (Pipeline.ΦA spec1 c : sProp 𝕄) ⊢ (pdats m ρ 1 c).Φ 0 := (start1_of c).trans (hin1 (V20 m ρ) c)
    unfold Pipeline.ΦA at hΦ
    iintro ⟨Hp, -, Hr⟩
    iapply hΦ
    isplitl [Hr]; · iexact Hr
    iexact Hp
  hout c := by
    have hΦ : (pdats m ρ 1 c).Φ (Fin.last cfg1.N) ⊢ (Pipeline.ΦA spec1 c : sProp 𝕄) := (hout1 (V20 m ρ) c).trans (of_start1 c)
    unfold Pipeline.ΦA at hΦ
    rw [Pipeline.ownSems0_none]
    iintro HΦ
    ihave H := hΦ $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V20 m ρ c) (V21 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 22 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .host (hseg hostOps0_14 hostOps0_14_sub hostOps0_14_fresh (W14 m ρ)),
    .host (hseg hostOps0_15 hostOps0_15_sub hostOps0_15_fresh (W15 m ρ)),
    .host (hseg hostOps0_16 hostOps0_16_sub hostOps0_16_fresh (W16 m ρ)),
    .host (hseg hostOps0_17 hostOps0_17_sub hostOps0_17_fresh (W17 m ρ)),
    .host (hseg hostOps0_18 hostOps0_18_sub hostOps0_18_fresh (W18 m ρ)),
    .region (reg0 m ρ),
    .region (reg1 m ρ),
    .host (hseg hostOps2 hostOps2_sub hostOps2_fresh (W21 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE WHOLE RUN: from any memory with zero counters, every weakly fair execution of the kernel terminates, nothing
    faulting, every final state holding every unscoped buffer at the last boundary's contents and every counter at zero. -/
theorem run_whole : θ_run defs (onTc (τ := τ) (main (F := F))) ⟨m, fun _ => 0, ρ⟩ (fun r =>
      (∀ c : Dev nD, ∀ b ∈ Pipeline.ucRefs τ sig, r.2.mem (((c : Thread nD τ)).1, b) = W22 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h hz => ⟨h, funext fun g => hz g (.inr (no_unscoped g.2))⟩)

/-- THE FRAME: the argument arrays end as launched and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
      ⟨(h.1 c _ (mem_uc main_arg0 (by decide))).trans (W22_main_arg0 m ρ c),
       (h.1 c _ (mem_uc main_arg1 (by decide))).trans (W22_main_arg1 m ρ c),
       (h.1 c _ (mem_uc main_arg2 (by decide))).trans (W22_main_arg2 m ρ c),
       (h.1 c _ (mem_uc main_arg3 (by decide))).trans (W22_main_arg3 m ρ c),
       (h.1 c _ (mem_uc main_arg4 (by decide))).trans (W22_main_arg4 m ρ c),
       (h.1 c _ (mem_uc main_arg5 (by decide))).trans (W22_main_arg5 m ρ c),
       (h.1 c _ (mem_uc main_arg6 (by decide))).trans (W22_main_arg6 m ρ c),
       (h.1 c _ (mem_uc main_arg7 (by decide))).trans (W22_main_arg7 m ρ c),
       (h.1 c _ (mem_uc main_arg8 (by decide))).trans (W22_main_arg8 m ρ c),
       (h.1 c _ (mem_uc main_arg9 (by decide))).trans (W22_main_arg9 m ρ c)⟩, h.2⟩) (run_whole m ρ)

end Cert.Kernel.Whole

end
-- ==== Proof.WholeIdealUpRuns.lean ====
/- Region 0 of the whole kernel: its windows' blocks, its branch conditions, its scratch and the body's run in each case, at any entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents: the structural look recurses once per coordinate
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 37 = 0 :=
  (fun t => by
    have ht : t.val < 37 := Nat.lt_of_lt_of_eq t.isLt N_0
    have e0 : (grid0.coords t 0).val = t.val / 1 % 37 := Pipeline.Grid.coords_val t 0 (by decide) rfl
    simp only [cond0_0, e0]
    word_cmp
   : ∀ t : Fin grid0.N, cond0_0 (grid0.coords t) ↔ t.val % 37 = 0)

/-! ## The kernel body on any staging memrefs: a subtype the run finds -/

/-- One staging buffer of output window 3, through which its contents are stated (`View.read_writes_of_cover`: the
    choice does not matter). -/
abbrev VO0_3 : View sig .tc .vmem S1536x512 .i8 := (Memref.whole cc0_stg3_0 : Memref sig .tc .vmem S1536x512 .i8).view
/-- Each window's current staging memref at point `t`, spelled as the pipeline passes it (`bodyAt0`), and its wholeness. -/
abbrev ms0_0 (t : Fin cfg0.N) : Memref sig .tc .vmem S1536x3584 .i8 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S3584x512 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S10x512 .i32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1536x512 .i8 := win0_3.stage (cfg0.slots t 3)
abbrev hs0_3 (t : Fin cfg0.N) : (ms0_3 t).IsWhole := hstage0_3 ((cfg0.slots t 3).cast nbuf0_3)
/-- The scratch operands: whole scoped buffers of the kernel's own, passed beside the windows. -/
abbrev scM0_0 : Memref sig .tc .vmem S1536x3584 .bf16 := Memref.whole cc0_scratch0
/-- The scratch `arg5` the kernel carries between points, as a view: what it holds is stated through it. -/
abbrev VS0_0 : View sig .tc .vmem S1536x3584 .bf16 := scM0_0.view

/-- What rides beside the carried scratch through region 0: the other scoped buffers at anything and the generator register
    at some state. -/
def side0 (c : Dev nD) : sProp 𝕄 :=
  iprop(iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ (∃ r, prngReg c r))

/-- The invariant before region 0's first point: the carried scratch at anything, the rest beside it. -/
def start0 (c : Dev nD) : sProp 𝕄 :=
  iprop((∃ d, owns (c : Thread nD τ) scM0_0 fullShare d) ∗ side0 c)

theorem PhiA0_eq (c : Dev nD) :
    (start0 c : sProp 𝕄) = iprop((∃ d, owns (c : Thread nD τ) scM0_0 fullShare d) ∗ side0 c) := rfl

/-- What the launch hands the region (every scoped buffer it does not stage and the register) is the invariant's start. -/
theorem start0_of (c : Dev nD) : (Pipeline.ΦA spec0 c : sProp 𝕄) ⊢ start0 c := by
  unfold Pipeline.ΦA start0 side0; rw [scopedRest0_eq]; simp only [scM0_0, owns_whole]
  iintro ⟨⟨HS0, HR0, HR1, HR2, HR3, HR4, HR5, HR6, HR7, HR8⟩, Hg⟩
  isplitl [HS0]; · iexact HS0
  isplitl [HR0 HR1 HR2 HR3 HR4 HR5 HR6 HR7 HR8]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexact HR8
  iexact Hg

/-- The invariant's start hands those buffers back. -/
theorem of_start0 (c : Dev nD) : (start0 c : sProp 𝕄) ⊢ Pipeline.ΦA spec0 c := by
  unfold Pipeline.ΦA start0 side0; rw [scopedRest0_eq]; simp only [scM0_0, owns_whole]
  iintro ⟨HS0, ⟨HR0, HR1, HR2, HR3, HR4, HR5, HR6, HR7, HR8⟩, Hg⟩
  isplitl [HS0 HR0 HR1 HR2 HR3 HR4 HR5 HR6 HR7 HR8]
  · isplitl [HS0]; · iexact HS0
    isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexact HR8
  iexact Hg

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : cond0_0 i)
    (x0 : Vec F S1536x3584 .i8) (x1 : Vec F S3584x512 .i8) (x2 : Vec F S10x512 .i32) :
    Σ' (L3 : List (View.Piece (Elt F) S1536x512 .i8)), { LS0 : List (View.Piece (Elt F) S1536x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0)) -∗ K ⟨⟩))
          ⊢ wp frame (wpE (defs₀ (F := F)) Variants.none c none) E (cc0_up i arg1 harg1 arg2 harg2 arg3 harg3 arg4 harg4 arg5 harg5) K } := by
  refine ⟨?_, ?_, fun E K => ?run⟩
  case run =>
    simp only [cc0_up_eq_skeleton]; unfold cc0_up_skel
    simp only [k0_part1_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg1.eq_unread hf0; obtain rfl := harg2.eq_unread hf1; obtain rfl := harg3.eq_unread hf2
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; iexact HS0

-- (the run's proof term is large: the definition's epilogue — `abstractNestedProofs` — walks it past the default budget)
set_option maxHeartbeats 1000000 in
/-- What the body's stores leave in each output's staging memref, as pieces (last first) IN CASE B (`scf.if` 0 not taken: points 1, 2, … 36: 36 of 37), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : ¬cond0_0 i)
    (x0 : Vec F S1536x3584 .i8) (x1 : Vec F S3584x512 .i8) (x2 : Vec F S10x512 .i32) (xs0 : Vec F S1536x3584 .bf16) :
    Σ' (L3 : List (View.Piece (Elt F) S1536x512 .i8)), { LS0 : List (View.Piece (Elt F) S1536x3584 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ (∃ d, owns (c : Thread nD τ) arg4 fullShare d) ∗ owns (c : Thread nD τ) arg5 fullShare xs0
            ∗ (iprop(owns (c : Thread nD τ) arg1 fullShare x0 ∗ owns (c : Thread nD τ) arg2 fullShare x1 ∗ owns (c : Thread nD τ) arg3 fullShare x2 ∗ (∃ f, arg4.view.loc (c : Thread nD τ) ↦[arg4.view.set]{fullShare} arg4.view.writes (Elt F) f L3) ∗ owns (c : Thread nD τ) arg5 fullShare xs0) -∗ K ⟨⟩))
          ⊢ wp frame (wpE (defs₀ (F := F)) Variants.none c none) E (cc0_up i arg1 harg1 arg2 harg2 arg3 harg3 arg4 harg4 arg5 harg5) K } := by
  refine ⟨?_, [], fun E K => ?run⟩
  case run =>
    simp only [cc0_up_eq_skeleton]; unfold cc0_up_skel
    simp only [k0_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg1.eq_unread hf0; obtain rfl := harg2.eq_unread hf1; obtain rfl := harg3.eq_unread hf2; obtain rfl := harg5.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]; · iexists _; iexact H3
    iexists _; isplitr; · ipureintro; exact harg5.read_unread _
    iexact HS0

end Cert.KernelIdeal.Whole

end
-- ==== Proof.WholeIdealUp.lean ====
/- Region 0 of the whole kernel, whose scratch is carried from point to point: what the output and the scratch hold after each point, the proof data and the body's obligation, at any entry contents. -/
module

public import proofs.«01_k».proof.Proof.WholeIdealUpRuns

@[expose] public section

-- membership in a rectangle of production extents: the structural look recurses once per coordinate
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-- Case A's pieces for output 3 tile its block (1 store of `S1536x512`, checked by the kernel's evaluation: Lib/Ring.lean `Piece.tiledL`, linear in the pieces, through a loop's `@[irreducible]` trip theorem too), so they cover it. -/
theorem cover0_A_3 (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : cond0_0 i)
    (x0 : Vec F S1536x3584 .i8) (x1 : Vec F S3584x512 .i8) (x2 : Vec F S10x512 .i32) (y : S1536x512.Idx) :
    ∃ pc ∈ (kernelRun0_A c i arg1 harg1 arg2 harg2 arg3 harg3 arg4 harg4 arg5 harg5 hc0 x0 x1 x2).1, y ∈ pc.1.set :=
  View.cover_of_tiledL (kernelRun0_A c i arg1 harg1 arg2 harg2 arg3 harg3 arg4 harg4 arg5 harg5 hc0 x0 x1 x2).1 S1536x512.size (by sl_kernel_rfl) y

/-- What case A leaves in output 3's staging buffer: its pieces read back over junk. -/
def out0_A_3 (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : cond0_0 i)
    (x0 : Vec F S1536x3584 .i8) (x1 : Vec F S3584x512 .i8) (x2 : Vec F S10x512 .i32) : Vec F S1536x512 .i8 :=
  VO0_3.read (Elt F) (VO0_3.writes (Elt F) VO0_3.junk (kernelRun0_A c i arg1 harg1 arg2 harg2 arg3 harg3 arg4 harg4 arg5 harg5 hc0 x0 x1 x2).1)

/-- Case A's pieces for scratch `arg5`, which the kernel carries between points, cover it: 1 piece of `S1536x3584` tiling it (Lib/Ring.lean `Piece.tiledL`). -/
theorem scover0_A_0 (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : cond0_0 i)
    (x0 : Vec F S1536x3584 .i8) (x1 : Vec F S3584x512 .i8) (x2 : Vec F S10x512 .i32) (y : S1536x3584.Idx) :
    ∃ pc ∈ (kernelRun0_A c i arg1 harg1 arg2 harg2 arg3 harg3 arg4 harg4 arg5 harg5 hc0 x0 x1 x2).2.1, y ∈ pc.1.set :=
  View.cover_of_tiledL (kernelRun0_A c i arg1 harg1 arg2 harg2 arg3 harg3 arg4 harg4 arg5 harg5 hc0 x0 x1 x2).2.1 S1536x3584.size (by sl_kernel_rfl) y

/-- What case A leaves in scratch `arg5`: its pieces read back over junk. -/
def sout0_A_0 (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : cond0_0 i)
    (x0 : Vec F S1536x3584 .i8) (x1 : Vec F S3584x512 .i8) (x2 : Vec F S10x512 .i32) : Vec F S1536x3584 .bf16 :=
  VS0_0.read (Elt F) (VS0_0.writes (Elt F) VS0_0.junk (kernelRun0_A c i arg1 harg1 arg2 harg2 arg3 harg3 arg4 harg4 arg5 harg5 hc0 x0 x1 x2).2.1)

/-- Case B's pieces for output 3 tile its block (1 store of `S1536x512`, checked by the kernel's evaluation: Lib/Ring.lean `Piece.tiledL`, linear in the pieces, through a loop's `@[irreducible]` trip theorem too), so they cover it. -/
theorem cover0_B_3 (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : ¬cond0_0 i)
    (x0 : Vec F S1536x3584 .i8) (x1 : Vec F S3584x512 .i8) (x2 : Vec F S10x512 .i32) (xs0 : Vec F S1536x3584 .bf16) (y : S1536x512.Idx) :
    ∃ pc ∈ (kernelRun0_B c i arg1 harg1 arg2 harg2 arg3 harg3 arg4 harg4 arg5 harg5 hc0 x0 x1 x2 xs0).1, y ∈ pc.1.set :=
  View.cover_of_tiledL (kernelRun0_B c i arg1 harg1 arg2 harg2 arg3 harg3 arg4 harg4 arg5 harg5 hc0 x0 x1 x2 xs0).1 S1536x512.size (by sl_kernel_rfl) y

/-- What case B leaves in output 3's staging buffer: its pieces read back over junk. -/
def out0_B_3 (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : ¬cond0_0 i)
    (x0 : Vec F S1536x3584 .i8) (x1 : Vec F S3584x512 .i8) (x2 : Vec F S10x512 .i32) (xs0 : Vec F S1536x3584 .bf16) : Vec F S1536x512 .i8 :=
  VO0_3.read (Elt F) (VO0_3.writes (Elt F) VO0_3.junk (kernelRun0_B c i arg1 harg1 arg2 harg2 arg3 harg3 arg4 harg4 arg5 harg5 hc0 x0 x1 x2 xs0).1)

/-- Case B stores nothing into scratch `arg5`: it holds what the point before left. -/
def sout0_B_0 (c : Dev nD) (i : grid0.Coords) (arg1 : Memref sig .tc .vmem S1536x3584 .i8) (harg1 : arg1.IsWhole) (arg2 : Memref sig .tc .vmem S3584x512 .i8) (harg2 : arg2.IsWhole) (arg3 : Memref sig .tc .vmem S10x512 .i32) (harg3 : arg3.IsWhole) (arg4 : Memref sig .tc .vmem S1536x512 .i8) (harg4 : arg4.IsWhole) (arg5 : Memref sig .tc .vmem S1536x3584 .bf16) (harg5 : arg5.IsWhole) (hc0 : ¬cond0_0 i)
    (x0 : Vec F S1536x3584 .i8) (x1 : Vec F S3584x512 .i8) (x2 : Vec F S10x512 .i32) (xs0 : Vec F S1536x3584 .bf16) : Vec F S1536x3584 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1536x512 .i8 × Vec F S1536x3584 .bf16
  | 0, hn => (out0_A_3 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk0 V c 0 ⟨0, hn⟩) (iblk0 V c 1 ⟨0, hn⟩) (iblk0 V c 2 ⟨0, hn⟩))
  | n + 1, hn =>
    if h0 : (n + 1) % 37 = 0 then
      (out0_A_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk0 V c 0 ⟨n + 1, hn⟩) (iblk0 V c 1 ⟨n + 1, hn⟩) (iblk0 V c 2 ⟨n + 1, hn⟩))
    else
      (out0_B_3 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk0 V c 0 ⟨n + 1, hn⟩) (iblk0 V c 1 ⟨n + 1, hn⟩) (iblk0 V c 2 ⟨n + 1, hn⟩) (outsAt0 c n (Nat.lt_of_succ_lt hn)).2)

/-- `outsAt0` at a point of case A: that case's contents. -/
theorem outsAt0_A (c : Dev nD) (t : Fin cfg0.N) (h0 : t.val % 37 = 0) :
    outsAt0 V c t.val t.isLt = (out0_A_3 c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) (iblk0 V c 1 t) (iblk0 V c 2 t), sout0_A_0 c (grid0.coords t) (ms0_0 t) (hs0_0 t) (ms0_1 t) (hs0_1 t) (ms0_2 t) (hs0_2 t) (ms0_3 t) (hs0_3 t) scM0_0 (Memref.isWhole_whole _) ((hcond0_0 t).mpr h0) (iblk0 V c 0 t) (iblk0 V c 1 t) (iblk0 V c 2 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 37 = 0) :
    outsAt0 V c t.val t.isLt = (out0_B_3 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk0 V c 0 t) (iblk0 V c 1 t) (iblk0 V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS0 (c : Dev nD) : (n : ℕ) → n ≤ cfg0.N → sProp 𝕄
  | 0, _ => start0 c
  | n + 1, hn => iprop(iprop(owns (c : Thread nD τ) scM0_0 fullShare ((outsAt0 V c n hn).2)) ∗ side0 c)

theorem PhiS0_zero (c : Dev nD) (n : ℕ) (h : n ≤ cfg0.N) (hz : n = 0) : PhiS0 V c n h = start0 c := by
  subst hz; rfl

/-- After point `n` (before point `n + 1`): the carried scratch at that point's contents. -/
theorem PhiS0_succ (c : Dev nD) (n : ℕ) (hn : n < cfg0.N) :
    PhiS0 V c (n + 1) hn = iprop(iprop(owns (c : Thread nD τ) scM0_0 fullShare ((outsAt0 V c n hn).2)) ∗ side0 c) := rfl

/-- Before a point that is not the first: the carried scratch at what the point before left. -/
theorem PhiS0_pos (c : Dev nD) (n : ℕ) (h : n ≤ cfg0.N) (hz : n ≠ 0) :
    PhiS0 V c n h = iprop(iprop(owns (c : Thread nD τ) scM0_0 fullShare ((outsAt0 V c (n - 1) (by omega)).2)) ∗ side0 c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS0`: the class's `ΦA` before the first point, then the scoped rest with the carried scratch at `outsAt0`'s component);
    nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => (outsAt0 V c t.val t.isLt).1
  Φ t := PhiS0 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq0 (c : Dev nD) (w : Fin cfg0.W) : (dat0 V c).A w = V c (Pipeline.arrRef spec0 w) := by
  dsimp only [dat0]

/-- The invariant at a point's start (the proof data at `t.castSucc`), restated at `t.val`. -/
theorem PhiS0_castSucc (c : Dev nD) (t : Fin cfg0.N) :
    (dat0 V c).Φ t.castSucc = PhiS0 V c t.val (Nat.le_of_lt t.isLt) := by
  dsimp only [dat0]; exact Pipeline.Dat.Φ_castSucc (PhiS0 V c) t

/-- What the body leaves, window by window (the proof data's `match` reduced by `dsimp`). -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = (outsAt0 V c t.val t.isLt).1 := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d)))

/-- and what it returns. -/
def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t))

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS0_pos`; at anything at the first point, `PhiS0_zero`), the other scratch buffers and the generator register at some state, and takes the carried scratch back at this point's contents (`PhiS0_succ`, by `scoverK_κ_N`); the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).owesAt () t.succ = (dat0 V c).owesAt () t.castSucc from rfl,
    after0_0, after0_1, after0_2, after0_3]
  rw [show (dat0 V c).Φ t.succ = PhiS0 V c (t.val + 1) t.isLt from rfl, PhiS0_succ]
  have hN : t.val < 37 := lt_of_lt_of_eq t.isLt (show cfg0.N = 37 from N_0)
  by_cases h0 : t.val % 37 = 0
  · by_cases hz : t.val = 0
    · rw [PhiS0_castSucc V c t, PhiS0_zero V c _ _ hz, PhiA0_eq]
      rw [outsAt0_A V c t h0]
      unfold out0_A_3 sout0_A_0; (try dsimp only)
      iintro ⟨⟨HS0, Hg⟩, Ho, ⟨%d0, H0⟩, ⟨%d1, H1⟩, ⟨%d2, H2⟩, ⟨%d3, H3⟩⟩
      iapply ((kernelRun0_A c (grid0.coords t) _ _ _ _ _ _ _ _ _ _ ((hcond0_0 t).mpr h0) (iblk0 V c 0 t) (iblk0 V c 1 t) (iblk0 V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _)
    · exfalso; have hN : t.val < 37 := lt_of_lt_of_eq t.isLt (show cfg0.N = 37 from N_0); omega
  · by_cases hz : t.val = 0
    · exfalso; have hN : t.val < 37 := lt_of_lt_of_eq t.isLt (show cfg0.N = 37 from N_0); omega
    · rw [PhiS0_castSucc V c t, PhiS0_pos V c _ _ hz]
      rw [outsAt0_B V c t h0]
      unfold out0_B_3 sout0_B_0; (try dsimp only)
      iintro ⟨⟨HS0, Hg⟩, Ho, ⟨%d0, H0⟩, ⟨%d1, H1⟩, ⟨%d2, H2⟩, ⟨%d3, H3⟩⟩
      iapply ((kernelRun0_B c (grid0.coords t) _ _ _ _ _ _ _ _ _ _ (fun h => h0 ((hcond0_0 t).mp h)) (iblk0 V c 0 t) (iblk0 V c 1 t) (iblk0 V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _ _ _)

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

/-- What the launch hands the region (`ΦA`) is the invariant before the first point. -/
theorem hin0 (c : Dev nD) : start0 c ⊢ (dat0 V c).Φ 0 := by
  rw [show (dat0 V c).Φ 0 = PhiS0 V c 0 (Nat.zero_le _) from rfl, PhiS0_zero V c 0 _ rfl]
  try exact Idealize.SL.BI.Entails.refl _

/-- After any point but the first the invariant gives `ΦA` back: the carried scratch's named contents are forgotten. -/
theorem Phi_out0 (c : Dev nD) (t : Fin (cfg0.N + 1)) (ht : t.val ≠ 0) : (dat0 V c).Φ t ⊢ start0 c := by
  rw [show (dat0 V c).Φ t = PhiS0 V c t.val (Nat.le_of_lt_succ t.isLt) from rfl, PhiS0_pos V c _ _ ht, PhiA0_eq]
  iintro ⟨HS0, Hg⟩
  isplitl [HS0]
  · iexists _; iexact HS0
  iexact Hg

/-- The same after the last point. -/
theorem hout0 (c : Dev nD) : (dat0 V c).Φ (Fin.last cfg0.N) ⊢ start0 c :=
  Phi_out0 V c _ (by rw [Fin.val_last]; have : cfg0.N = 37 := N_0; omega)

end Cert.KernelIdeal.Whole

end
-- ==== Proof.WholeIdealDownRuns.lean ====
/- Region 1 of the whole kernel: its windows' blocks, its branch conditions, its scratch and the body's run in each case, at any entry contents. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents: the structural look recurses once per coordinate
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The body's branch conditions -/

/-- The condition of the body's `scf.if` 0 (`k1_h1`), from the grid coordinates (the skeleton's scalar
    chain substituted). -/
abbrev cond1_0 (i : grid1.Coords) : Prop := (Scalar.cmpi .ne (Scalar.extui (Scalar.cmpi .eq (BitVec.ofNat 32 (i 1).val) 0#32)) 0#32) = 1#1
/-- It holds at the points ≡ 0 (mod 37) — by arithmetic of the point. -/
theorem hcond1_0 : ∀ t : Fin cfg1.N, cond1_0 (grid1.coords t) ↔ t.val % 37 = 0 :=
  (fun t => by
    have ht : t.val < 74 := Nat.lt_of_lt_of_eq t.isLt N_1
    have e0 : (grid1.coords t 0).val = t.val / 37 % 2 := Pipeline.Grid.coords_val t 0 (by decide) rfl
    have e1 : (grid1.coords t 1).val = t.val / 1 % 37 := Pipeline.Grid.coords_val t 1 (by decide) rfl
    simp only [cond1_0, e0, e1]
    word_cmp
   : ∀ t : Fin grid1.N, cond1_0 (grid1.coords t) ↔ t.val % 37 = 0)

/-- The condition of the body's `scf.if` 1 (`k1_h2`), from the grid coordinates (the skeleton's scalar
    chain substituted). -/
abbrev cond1_1 (i : grid1.Coords) : Prop := k1_cond2 i = 1#1
/-- It holds at the points ≡ 36 (mod 37) — by arithmetic of the point. -/
theorem hcond1_1 : ∀ t : Fin cfg1.N, cond1_1 (grid1.coords t) ↔ t.val % 37 = 36 :=
  (fun t => by
    have ht : t.val < 74 := Nat.lt_of_lt_of_eq t.isLt N_1
    have e0 : (grid1.coords t 0).val = t.val / 37 % 2 := Pipeline.Grid.coords_val t 0 (by decide) rfl
    have e1 : (grid1.coords t 1).val = t.val / 1 % 37 := Pipeline.Grid.coords_val t 1 (by decide) rfl
    simp only [cond1_1, k1_cond2, e0, e1]
    word_cmp
   : ∀ t : Fin grid1.N, cond1_1 (grid1.coords t) ↔ t.val % 37 = 36)

/-! ## Where the windows are idle (the printed configuration's table `Cfg.idle`) -/

/-- Window 0 is never idle (an input). -/
theorem liveAt1_0 : ∀ t : Fin cfg1.N, cfg1.idle 0 (grid1.coords t) = false := fun _ => rfl
/-- Window 1 is never idle (an input). -/
theorem liveAt1_1 : ∀ t : Fin cfg1.N, cfg1.idle 1 (grid1.coords t) = false := fun _ => rfl
/-- Window 2 is never idle (an input). -/
theorem liveAt1_2 : ∀ t : Fin cfg1.N, cfg1.idle 2 (grid1.coords t) = false := fun _ => rfl
/-- At the points of case A the printed configuration (`Cfg.idle`) calls output 3 idle: the case stores nothing into it. -/
theorem idleAt1_3_A : ∀ t : Fin cfg1.N, cond1_0 (grid1.coords t) → ¬cond1_1 (grid1.coords t) → cfg1.idle 3 (grid1.coords t) = true := by decide +kernel
/-- At the points of case A the pipeline does not write output 3's block back. -/
theorem noFlush1_3_A : ∀ t : Fin cfg1.N, cond1_0 (grid1.coords t) → ¬cond1_1 (grid1.coords t) → (cfg1.win 3).flush t = false := by decide +kernel
/-- At the points of case B the printed configuration (`Cfg.idle`) calls output 3 idle: the case stores nothing into it. -/
theorem idleAt1_3_B : ∀ t : Fin cfg1.N, ¬cond1_0 (grid1.coords t) → ¬cond1_1 (grid1.coords t) → cfg1.idle 3 (grid1.coords t) = true := by decide +kernel
/-- At the points of case B the pipeline does not write output 3's block back. -/
theorem noFlush1_3_B : ∀ t : Fin cfg1.N, ¬cond1_0 (grid1.coords t) → ¬cond1_1 (grid1.coords t) → (cfg1.win 3).flush t = false := by decide +kernel
/-- At the points of case C the printed configuration (`Cfg.idle`) calls output 3 live: the case stores into it. -/
theorem liveAt1_3_C : ∀ t : Fin cfg1.N, ¬cond1_0 (grid1.coords t) → cond1_1 (grid1.coords t) → cfg1.idle 3 (grid1.coords t) = false := by decide +kernel

/-! ## The kernel body on any staging memrefs: a subtype the run finds -/

/-- One staging buffer of output window 3, through which its contents are stated (`View.read_writes_of_cover`: the
    choice does not matter). -/
abbrev VO1_3 : View sig .tc .vmem S1536x1792 .i8 := (Memref.whole cc1_stg3_0 : Memref sig .tc .vmem S1536x1792 .i8).view
/-- Each window's current staging memref at point `t`, spelled as the pipeline passes it (`bodyAt1`), and its wholeness. -/
abbrev ms1_0 (t : Fin cfg1.N) : Memref sig .tc .vmem S1536x512 .i8 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x1792 .i8 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S4x1792 .i32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1536x1792 .i8 := win1_3.stage (cfg1.slots t 3)
abbrev hs1_3 (t : Fin cfg1.N) : (ms1_3 t).IsWhole := hstage1_3 ((cfg1.slots t 3).cast nbuf1_3)
/-- The scratch operands: whole scoped buffers of the kernel's own, passed beside the windows. -/
abbrev scM1_0 : Memref sig .tc .vmem S1536x1792 .f32 := Memref.whole cc1_scratch0
/-- The scratch `arg6` the kernel carries between points, as a view: what it holds is stated through it. -/
abbrev VS1_0 : View sig .tc .vmem S1536x1792 .f32 := scM1_0.view

/-- What rides beside the carried scratch through region 1: the other scoped buffers at anything and the generator register
    at some state. -/
def side1 (c : Dev nD) : sProp 𝕄 :=
  iprop(iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_scratch0), ((c : Thread nD τ).loc cc0_scratch0) ↦{fullShare} f)) ∗ (∃ r, prngReg c r))

/-- The invariant before region 1's first point: the carried scratch at anything, the rest beside it. -/
def start1 (c : Dev nD) : sProp 𝕄 :=
  iprop((∃ d, owns (c : Thread nD τ) scM1_0 fullShare d) ∗ side1 c)

theorem PhiA1_eq (c : Dev nD) :
    (start1 c : sProp 𝕄) = iprop((∃ d, owns (c : Thread nD τ) scM1_0 fullShare d) ∗ side1 c) := rfl

/-- What the launch hands the region (every scoped buffer it does not stage and the register) is the invariant's start. -/
theorem start1_of (c : Dev nD) : (Pipeline.ΦA spec1 c : sProp 𝕄) ⊢ start1 c := by
  unfold Pipeline.ΦA start1 side1; rw [scopedRest1_eq]; simp only [scM1_0, owns_whole]
  iintro ⟨⟨HR0, HR1, HR2, HR3, HR4, HR5, HR6, HR7, HS0⟩, Hg⟩
  isplitl [HS0]; · iexact HS0
  isplitl [HR0 HR1 HR2 HR3 HR4 HR5 HR6 HR7]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    iexact HR7
  iexact Hg

/-- The invariant's start hands those buffers back. -/
theorem of_start1 (c : Dev nD) : (start1 c : sProp 𝕄) ⊢ Pipeline.ΦA spec1 c := by
  unfold Pipeline.ΦA start1 side1; rw [scopedRest1_eq]; simp only [scM1_0, owns_whole]
  iintro ⟨HS0, ⟨HR0, HR1, HR2, HR3, HR4, HR5, HR6, HR7⟩, Hg⟩
  isplitl [HS0 HR0 HR1 HR2 HR3 HR4 HR5 HR6 HR7]
  · isplitl [HR0]; · iexact HR0
    isplitl [HR1]; · iexact HR1
    isplitl [HR2]; · iexact HR2
    isplitl [HR3]; · iexact HR3
    isplitl [HR4]; · iexact HR4
    isplitl [HR5]; · iexact HR5
    isplitl [HR6]; · iexact HR6
    isplitl [HR7]; · iexact HR7
    iexact HS0
  iexact Hg

-- (the run's proof term is large: the definition's epilogue — `abstractNestedProofs` — walks it past the default budget)
set_option maxHeartbeats 1000000 in
/-- What the body's stores leave in each output's staging memref, as pieces (last first) IN CASE A (`scf.if` 0 taken, `scf.if` 1 not taken: points 0, 37), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_A (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : cond1_0 i) (hc1 : ¬cond1_1 i)
    (x0 : Vec F S1536x512 .i8) (x1 : Vec F S512x1792 .i8) (x2 : Vec F S4x1792 .i32) :
    Σ' (L3 : List (View.Piece (Elt F) S1536x1792 .i8)), { LS0 : List (View.Piece (Elt F) S1536x1792 .f32) //
      ∀ (xi3 : Vec F S1536x1792 .i8) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_down i arg2 harg2 arg3 harg3 arg4 harg4 arg5 harg5 arg6 harg6) K } := by
  refine ⟨[], ?_, fun xi3 E K => ?run⟩
  case run =>
    simp only [cc1_down_eq_skeleton]; unfold cc1_down_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

-- (the run's proof term is large: the definition's epilogue — `abstractNestedProofs` — walks it past the default budget)
set_option maxHeartbeats 1000000 in
/-- What the body's stores leave in each output's staging memref, as pieces (last first) IN CASE B (`scf.if` 0 not taken, `scf.if` 1 not taken: points 1, 2, … 72: 70 of 74), WITH the
    proof that on whole staging memrefs — the inputs' at their contents, the outputs it leaves idle (3: no store, the window idle and not written back at the case's points) at contents `xi·` handed back untouched, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_B (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : ¬cond1_1 i)
    (x0 : Vec F S1536x512 .i8) (x1 : Vec F S512x1792 .i8) (x2 : Vec F S4x1792 .i32) (xs0 : Vec F S1536x1792 .f32) :
    Σ' (L3 : List (View.Piece (Elt F) S1536x1792 .i8)), { LS0 : List (View.Piece (Elt F) S1536x1792 .f32) //
      ∀ (xi3 : Vec F S1536x1792 .i8) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1_down i arg2 harg2 arg3 harg3 arg4 harg4 arg5 harg5 arg6 harg6) K } := by
  refine ⟨[], ?_, fun xi3 E K => ?run⟩
  case run =>
    simp only [cc1_down_eq_skeleton]; unfold cc1_down_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

-- (the run's proof term is large: the definition's epilogue — `abstractNestedProofs` — walks it past the default budget)
set_option maxHeartbeats 1000000 in
/-- What the body's stores leave in each output's staging memref, as pieces (last first) IN CASE C (`scf.if` 0 not taken, `scf.if` 1 taken: points 36, 73), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). -/
noncomputable def kernelRun1_C (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : cond1_1 i)
    (x0 : Vec F S1536x512 .i8) (x1 : Vec F S512x1792 .i8) (x2 : Vec F S4x1792 .i32) (xs0 : Vec F S1536x1792 .f32) :
    Σ' (L3 : List (View.Piece (Elt F) S1536x1792 .i8)), { LS0 : List (View.Piece (Elt F) S1536x1792 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_down i arg2 harg2 arg3 harg3 arg4 harg4 arg5 harg5 arg6 harg6) K } := by
  refine ⟨?_, ?_, fun E K => ?run⟩
  case run =>
    simp only [cc1_down_eq_skeleton]; unfold cc1_down_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Whole

end
-- ==== Proof.WholeIdealDown.lean ====
/- Region 1 of the whole kernel, whose scratch is carried from point to point: what the output and the scratch hold after each point, the proof data and the body's obligation, at any entry contents. -/
module

public import proofs.«01_k».proof.Proof.WholeIdealDownRuns

@[expose] public section

-- membership in a rectangle of production extents: the structural look recurses once per coordinate
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter the region's half is stated at
variable (V : (c : Dev nD) → (b : Ref sig .tc) → Buf (Elt F) ((c : Thread nD τ).loc b))

/-- Case A stores nothing into output 3 (the window is idle at its points and not written back there):
    no pieces — a placeholder (junk read back) that nothing consults, since at these points the window is neither
    written back nor read at the next point (Lib/Pipeline.lean "Idle points"). -/
def out1_A_3 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : cond1_0 i) (hc1 : ¬cond1_1 i)
    (x0 : Vec F S1536x512 .i8) (x1 : Vec F S512x1792 .i8) (x2 : Vec F S4x1792 .i32) : Vec F S1536x1792 .i8 :=
  VO1_3.read (Elt F) (VO1_3.writes (Elt F) VO1_3.junk (kernelRun1_A c i arg2 harg2 arg3 harg3 arg4 harg4 arg5 harg5 arg6 harg6 hc0 hc1 x0 x1 x2).1)

/-- Case A's pieces for scratch `arg6`, which the kernel carries between points, cover it: 2 pieces of `S1536x1792` tiling it (Lib/Ring.lean `Piece.tiledL`). -/
theorem scover1_A_0 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : cond1_0 i) (hc1 : ¬cond1_1 i)
    (x0 : Vec F S1536x512 .i8) (x1 : Vec F S512x1792 .i8) (x2 : Vec F S4x1792 .i32) (y : S1536x1792.Idx) :
    ∃ pc ∈ (kernelRun1_A c i arg2 harg2 arg3 harg3 arg4 harg4 arg5 harg5 arg6 harg6 hc0 hc1 x0 x1 x2).2.1, y ∈ pc.1.set :=
  View.cover_of_tiledL (kernelRun1_A c i arg2 harg2 arg3 harg3 arg4 harg4 arg5 harg5 arg6 harg6 hc0 hc1 x0 x1 x2).2.1 S1536x1792.size (by sl_kernel_rfl) y

/-- What case A leaves in scratch `arg6`: its pieces read back over junk. -/
def sout1_A_0 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : cond1_0 i) (hc1 : ¬cond1_1 i)
    (x0 : Vec F S1536x512 .i8) (x1 : Vec F S512x1792 .i8) (x2 : Vec F S4x1792 .i32) : Vec F S1536x1792 .f32 :=
  VS1_0.read (Elt F) (VS1_0.writes (Elt F) VS1_0.junk (kernelRun1_A c i arg2 harg2 arg3 harg3 arg4 harg4 arg5 harg5 arg6 harg6 hc0 hc1 x0 x1 x2).2.1)

/-- Case B stores nothing into output 3 (the window is idle at its points and not written back there):
    no pieces — a placeholder (junk read back) that nothing consults, since at these points the window is neither
    written back nor read at the next point (Lib/Pipeline.lean "Idle points"). -/
def out1_B_3 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : ¬cond1_1 i)
    (x0 : Vec F S1536x512 .i8) (x1 : Vec F S512x1792 .i8) (x2 : Vec F S4x1792 .i32) (xs0 : Vec F S1536x1792 .f32) : Vec F S1536x1792 .i8 :=
  VO1_3.read (Elt F) (VO1_3.writes (Elt F) VO1_3.junk (kernelRun1_B c i arg2 harg2 arg3 harg3 arg4 harg4 arg5 harg5 arg6 harg6 hc0 hc1 x0 x1 x2 xs0).1)

/-- Case B's pieces for scratch `arg6`, which the kernel carries between points, cover it: 1 piece of `S1536x1792` tiling it (Lib/Ring.lean `Piece.tiledL`). -/
theorem scover1_B_0 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : ¬cond1_1 i)
    (x0 : Vec F S1536x512 .i8) (x1 : Vec F S512x1792 .i8) (x2 : Vec F S4x1792 .i32) (xs0 : Vec F S1536x1792 .f32) (y : S1536x1792.Idx) :
    ∃ pc ∈ (kernelRun1_B c i arg2 harg2 arg3 harg3 arg4 harg4 arg5 harg5 arg6 harg6 hc0 hc1 x0 x1 x2 xs0).2.1, y ∈ pc.1.set :=
  View.cover_of_tiledL (kernelRun1_B c i arg2 harg2 arg3 harg3 arg4 harg4 arg5 harg5 arg6 harg6 hc0 hc1 x0 x1 x2 xs0).2.1 S1536x1792.size (by sl_kernel_rfl) y

/-- What case B leaves in scratch `arg6`: its pieces read back over junk. -/
def sout1_B_0 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : ¬cond1_1 i)
    (x0 : Vec F S1536x512 .i8) (x1 : Vec F S512x1792 .i8) (x2 : Vec F S4x1792 .i32) (xs0 : Vec F S1536x1792 .f32) : Vec F S1536x1792 .f32 :=
  VS1_0.read (Elt F) (VS1_0.writes (Elt F) VS1_0.junk (kernelRun1_B c i arg2 harg2 arg3 harg3 arg4 harg4 arg5 harg5 arg6 harg6 hc0 hc1 x0 x1 x2 xs0).2.1)

/-- Case C's pieces for output 3 tile its block (1 store of `S1536x1792`, checked by the kernel's evaluation: Lib/Ring.lean `Piece.tiledL`, linear in the pieces, through a loop's `@[irreducible]` trip theorem too), so they cover it. -/
theorem cover1_C_3 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : cond1_1 i)
    (x0 : Vec F S1536x512 .i8) (x1 : Vec F S512x1792 .i8) (x2 : Vec F S4x1792 .i32) (xs0 : Vec F S1536x1792 .f32) (y : S1536x1792.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S1536x1792.size (by sl_kernel_rfl) y

/-- What case C leaves in output 3's staging buffer: its pieces read back over junk. -/
def out1_C_3 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : cond1_1 i)
    (x0 : Vec F S1536x512 .i8) (x1 : Vec F S512x1792 .i8) (x2 : Vec F S4x1792 .i32) (xs0 : Vec F S1536x1792 .f32) : Vec F S1536x1792 .i8 :=
  VO1_3.read (Elt F) (VO1_3.writes (Elt F) VO1_3.junk (kernelRun1_C c i arg2 harg2 arg3 harg3 arg4 harg4 arg5 harg5 arg6 harg6 hc0 hc1 x0 x1 x2 xs0).1)

/-- Case C's pieces for scratch `arg6`, which the kernel carries between points, cover it: 1 piece of `S1536x1792` tiling it (Lib/Ring.lean `Piece.tiledL`). -/
theorem scover1_C_0 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : cond1_1 i)
    (x0 : Vec F S1536x512 .i8) (x1 : Vec F S512x1792 .i8) (x2 : Vec F S4x1792 .i32) (xs0 : Vec F S1536x1792 .f32) (y : S1536x1792.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S1536x1792.size (by sl_kernel_rfl) y

/-- What case C leaves in scratch `arg6`: its pieces read back over junk. -/
def sout1_C_0 (c : Dev nD) (i : grid1.Coords) (arg2 : Memref sig .tc .vmem S1536x512 .i8) (harg2 : arg2.IsWhole) (arg3 : Memref sig .tc .vmem S512x1792 .i8) (harg3 : arg3.IsWhole) (arg4 : Memref sig .tc .vmem S4x1792 .i32) (harg4 : arg4.IsWhole) (arg5 : Memref sig .tc .vmem S1536x1792 .i8) (harg5 : arg5.IsWhole) (arg6 : Memref sig .tc .vmem S1536x1792 .f32) (harg6 : arg6.IsWhole) (hc0 : ¬cond1_0 i) (hc1 : cond1_1 i)
    (x0 : Vec F S1536x512 .i8) (x1 : Vec F S512x1792 .i8) (x2 : Vec F S4x1792 .i32) (xs0 : Vec F S1536x1792 .f32) : Vec F S1536x1792 .f32 :=
  VS1_0.read (Elt F) (VS1_0.writes (Elt F) VS1_0.junk (kernelRun1_C c i arg2 harg2 arg3 harg3 arg4 harg4 arg5 harg5 arg6 harg6 hc0 hc1 x0 x1 x2 xs0).2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before1_W_κ`). An assignment of the conditions no point meets is no case (`False.elim`). -/
def outsAt1 (c : Dev nD) : (n : ℕ) → n < cfg1.N → Vec F S1536x1792 .i8 × Vec F S1536x1792 .f32
  | 0, hn => (out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h0 : (n + 1) % 37 = 0 then
      if h1 : (n + 1) % 37 = 36 then
        False.elim (by have hN : n + 1 < 74 := lt_of_lt_of_eq hn (show cfg1.N = 74 from N_1); omega)
      else
        (out1_A_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      if h1 : (n + 1) % 37 = 36 then
        (out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
      else
        (out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

/-- `outsAt1` at a point of case A: that case's contents. -/
theorem outsAt1_A (c : Dev nD) (t : Fin cfg1.N) (h0 : t.val % 37 = 0) (h1 : ¬t.val % 37 = 36) :
    outsAt1 V c t.val t.isLt = (out1_A_3 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t), sout1_A_0 c (grid1.coords t) (ms1_0 t) (hs1_0 t) (ms1_1 t) (hs1_1 t) (ms1_2 t) (hs1_2 t) (ms1_3 t) (hs1_3 t) scM1_0 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_pos h0).trans ((dif_neg h1).trans rfl)

/-- `outsAt1` at a point of case B: that case's contents, over what the point before left. -/
theorem outsAt1_B (c : Dev nD) (t : Fin cfg1.N) (h0 : ¬t.val % 37 = 0) (h1 : ¬t.val % 37 = 36) :
    outsAt1 V c t.val t.isLt = (out1_B_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2, sout1_B_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left. -/
theorem outsAt1_C (c : Dev nD) (t : Fin cfg1.N) (h0 : ¬t.val % 37 = 0) (h1 : t.val % 37 = 36) :
    outsAt1 V c t.val t.isLt = (out1_C_3 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2, sout1_C_0 c (grid1.coords t) (ms1_0 t) (hs1_0 t) (ms1_1 t) (hs1_1 t) (ms1_2 t) (hs1_2 t) (ms1_3 t) (hs1_3 t) scM1_0 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt1`'s scratch components), the others at anything, and the generator register
    at some state. -/
def PhiS1 (c : Dev nD) : (n : ℕ) → n ≤ cfg1.N → sProp 𝕄
  | 0, _ => start1 c
  | n + 1, hn => iprop(iprop(owns (c : Thread nD τ) scM1_0 fullShare ((outsAt1 V c n hn).2)) ∗ side1 c)

theorem PhiS1_zero (c : Dev nD) (n : ℕ) (h : n ≤ cfg1.N) (hz : n = 0) : PhiS1 V c n h = start1 c := by
  subst hz; rfl

/-- After point `n` (before point `n + 1`): the carried scratch at that point's contents. -/
theorem PhiS1_succ (c : Dev nD) (n : ℕ) (hn : n < cfg1.N) :
    PhiS1 V c (n + 1) hn = iprop(iprop(owns (c : Thread nD τ) scM1_0 fullShare ((outsAt1 V c n hn).2)) ∗ side1 c) := rfl

/-- Before a point that is not the first: the carried scratch at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2)) ∗ side1 c) := by
  cases n with
  | zero => exact absurd rfl hz
  | succ n => rfl

/-! ## The pipeline's proof data -/

/-- The proof data of the one pipeline on core `c`: the arrays as the region finds them (`V`); after the body at
    point `t` each input's buffer at its block and the outputs' at `outsAt1`; the invariant the class's
    (`PhiS1`: the class's `ΦA` before the first point, then the scoped rest with the carried scratch at `outsAt1`'s component);
    nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq1 (c : Dev nD) (w : Fin cfg1.W) : (dat1 V c).A w = V c (Pipeline.arrRef spec1 w) := by
  dsimp only [dat1]

/-- The invariant at a point's start (the proof data at `t.castSucc`), restated at `t.val`. -/
theorem PhiS1_castSucc (c : Dev nD) (t : Fin cfg1.N) :
    (dat1 V c).Φ t.castSucc = PhiS1 V c t.val (Nat.le_of_lt t.isLt) := by
  dsimp only [dat1]; exact Pipeline.Dat.Φ_castSucc (PhiS1 V c) t

/-- What the body leaves, window by window (the proof data's `match` reduced by `dsimp`). -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation, at a generic point -/

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' memrefs hold their blocks (`before1_W`); the closed forms say which case the point is in (`by_cases`), an output the case reads before covering holds what the point before left (`before1_W_κ`); so the
    run applies; the invariant hands the body the carried scratch at what the point before left (`PhiS1_pos`; at anything at the first point, `PhiS1_zero`), the other scratch buffers and the generator register at some state, and takes the carried scratch back at this point's contents (`PhiS1_succ`, by `scoverK_κ_N`); the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 74 := lt_of_lt_of_eq t.isLt (show cfg1.N = 74 from N_1)
  by_cases h0 : t.val % 37 = 0
  · by_cases h1 : t.val % 37 = 36
    · exfalso; omega
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
      by_cases hz : t.val = 0
      · rw [PhiS1_castSucc V c t, PhiS1_zero V c _ _ hz, PhiA1_eq]
        rw [outsAt1_A V c t h0 h1]
        unfold sout1_A_0; (try dsimp only)
        iintro ⟨⟨HS0, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        rw [outsAt1_A V c t h0 h1]
        unfold sout1_A_0; (try dsimp only)
        iintro ⟨⟨HS0, Hg⟩, Ho, ⟨%d0, H0⟩, ⟨%d1, H1⟩, ⟨%d2, H2⟩, ⟨%d3, H3⟩⟩
        iapply ((kernelRun1_A c (grid1.coords t) _ _ _ _ _ _ _ _ _ _ ((hcond1_0 t).mpr h0) (fun h => h1 ((hcond1_1 t).mp h)) (iblk1 V c 0 t) (iblk1 V c 1 t) (iblk1 V c 2 t)).2.2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover1_A_0 c _ _ _ _ _ _ _ _ _ _ _ _ _ _ _ _)
          iexact Hg
        isplitl [Ho]; · iexact Ho
        isplitl [H0]; · iexact H0
        isplitl [H1]; · iexact H1
        isplitl [H2]; · iexact H2
        iexists _; iexact H3
  · by_cases h1 : t.val % 37 = 36
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [show (dat1 V c).leavesExact 3 t = owns (c : Thread nD τ) (ms1_3 t) fullShare ((dat1 V c).after 3 t) from by
      unfold Dat.leavesExact; rw [liveAt1_3_C t (fun h => h0 ((hcond1_0 t).mp h)) ((hcond1_1 t).mpr h1)], after1_3]
      by_cases hz : t.val = 0
      · exfalso; have hN : t.val < 74 := lt_of_lt_of_eq t.isLt (show cfg1.N = 74 from N_1); omega
      · rw [PhiS1_castSucc V c t, PhiS1_pos V c _ _ hz]
        rw [outsAt1_C V c t h0 h1]
        unfold out1_C_3 sout1_C_0; (try dsimp only)
        iintro ⟨⟨HS0, Hg⟩, Ho, ⟨%d0, H0⟩, ⟨%d1, H1⟩, ⟨%d2, H2⟩, ⟨%d3, H3⟩⟩
        iapply ((kernelRun1_C c (grid1.coords t) _ _ _ _ _ _ _ _ _ _ (fun h => h0 ((hcond1_0 t).mp h)) ((hcond1_1 t).mpr h1) (iblk1 V c 0 t) (iblk1 V c 1 t) (iblk1 V c 2 t) _).2.2 Set.univ _)
        isplitl [H0]; · iexact H0
        isplitl [H1]; · iexact H1
        isplitl [H2]; · iexact H2
        isplitl [H3]; · iexists _; iexact H3
        isplitl [HS0]; · iexact HS0
        iintro ⟨H0, H1, H2, ⟨%e3, H3⟩, ⟨%es0, HS0⟩⟩
        isplitl [HS0 Hg]
        · isplitl [HS0]
          · unfold owns; iexists _; isplitr
            swap; · iexact HS0
            ipureintro; exact View.read_writes_of_cover _ _ _ _ _ (scover1_C_0 c _ _ _ _ _ _ _ _ _ _ _ _ _ _ _ _ _)
          iexact Hg
        isplitl [Ho]; · iexact Ho
        isplitl [H0]; · iexact H0
        isplitl [H1]; · iexact H1
        isplitl [H2]; · iexact H2
        unfold owns; iexists _; isplitr
        swap; · iexact H3
        ipureintro; exact View.read_writes_of_cover _ _ _ _ _ (cover1_C_3 c _ _ _ _ _ _ _ _ _ _ _ _ _ _ _ _ _)
    · rw [show (dat1 V c).leavesExact 0 t = owns (c : Thread nD τ) (ms1_0 t) fullShare ((dat1 V c).after 0 t) from by
      unfold Dat.leavesExact; rw [liveAt1_0 t], after1_0]
      rw [show (dat1 V c).leavesExact 1 t = owns (c : Thread nD τ) (ms1_1 t) fullShare ((dat1 V c).after 1 t) from by
      unfold Dat.leavesExact; rw [liveAt1_1 t], after1_1]
      rw [show (dat1 V c).leavesExact 2 t = owns (c : Thread nD τ) (ms1_2 t) fullShare ((dat1 V c).after 2 t) from by
      unfold Dat.leavesExact; rw [liveAt1_2 t], after1_2]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      by_cases hz : t.val = 0
      · exfalso; have hN : t.val < 74 := lt_of_lt_of_eq t.isLt (show cfg1.N = 74 from N_1); omega
      · rw [PhiS1_castSucc V c t, PhiS1_pos V c _ _ hz]
        rw [outsAt1_B V c t h0 h1]
        unfold sout1_B_0; (try dsimp only)
        iintro ⟨⟨HS0, Hg⟩, Ho, ⟨%d0, H0⟩, ⟨%d1, H1⟩, ⟨%d2, H2⟩, ⟨%d3, H3⟩⟩
        iapply ((kernelRun1_B c (grid1.coords t) _ _ _ _ _ _ _ _ _ _ (fun h => h0 ((hcond1_0 t).mp h)) (fun h => h1 ((hcond1_1 t).mp h)) (iblk1 V c 0 t) (iblk1 V c 1 t) (iblk1 V c 2 t) _).2.2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hg]
        · isplitl [HS0]
          · unfold owns; iexists _; isplitr
            swap; · iexact HS0
            ipureintro; exact View.read_writes_of_cover _ _ _ _ _ (scover1_B_0 c _ _ _ _ _ _ _ _ _ _ _ _ _ _ _ _ _)
          iexact Hg
        isplitl [Ho]; · iexact Ho
        isplitl [H0]; · iexact H0
        isplitl [H1]; · iexact H1
        isplitl [H2]; · iexact H2
        iexists _; iexact H3

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

/-- What the launch hands the region (`ΦA`) is the invariant before the first point. -/
theorem hin1 (c : Dev nD) : start1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives `ΦA` back: the carried scratch's named contents are forgotten. -/
theorem Phi_out1 (c : Dev nD) (t : Fin (cfg1.N + 1)) (ht : t.val ≠ 0) : (dat1 V c).Φ t ⊢ start1 c := by
  rw [show (dat1 V c).Φ t = PhiS1 V c t.val (Nat.le_of_lt_succ t.isLt) from rfl, PhiS1_pos V c _ _ ht, PhiA1_eq]
  iintro ⟨HS0, Hg⟩
  isplitl [HS0]
  · iexists _; iexact HS0
  iexact Hg

/-- The same after the last point. -/
theorem hout1 (c : Dev nD) : (dat1 V c).Φ (Fin.last cfg1.N) ⊢ start1 c :=
  Phi_out1 V c _ (by rw [Fin.val_last]; have : cfg1.N = 74 := N_1; omega)

end Cert.KernelIdeal.Whole

end
-- ==== Proof.WholeIdealRun.lean ====
/- The whole kernel run: the host stretches and the two regions from the launch to the return, every buffer's contents at each boundary, and the frame. -/
module

public import proofs.«01_k».proof.Proof.WholeIdealUp
public import proofs.«01_k».proof.Proof.WholeIdealDown

@[expose] public section

-- membership in a rectangle of production extents: the structural look recurses once per coordinate
set_option maxRecDepth 16384

noncomputable section

namespace Cert.KernelIdeal.Whole

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! # THE RUN: @main's segments from the launch to the return (Lib/Pipeline/Regions.lean `θ_run_regions_kit`) -/

/-- @main's argument arrays, as TensorCore references: what the frame claim reads back. -/
abbrev argRefs : List (Ref sig .tc) := [main_arg0, main_arg1, main_arg2, main_arg3, main_arg4, main_arg5, main_arg6, main_arg7, main_arg8, main_arg9]

/-! ## The host stretches: none allocates a buffer, and each lists the references its operations write, in order,
    so that a reference absent from the list keeps its contents across the stretch (Lib/StableHlo/Run.lean
    `after_of_writes_sub`) -/

/-- No operation of `hostOps0` allocates a buffer. -/
theorem hostOps0_fresh : (hostOps0 : List (HloOp τ sig (Elt F))).Forall fun op => op.fresh = ∅ := by
  simp only [List.Forall]; repeat' constructor
/-- The reference each operation of `hostOps0` writes, in order. -/
abbrev hostOps0_W : List (Ref sig .tc) := [main_cst, main_v0, main_cst_0, main_v1, main_cst_1, main_v2, main_cst_2, main_v3, main_v4, main_v5, main_v6, main_cst_3, main_v7, main_v8, main_v9, main_v10, main_v11, main_v12, main_v13, main_v14, main_c, main_v15, main_cst_4, main_v16, main_v17, main_v18, main_cst_5, main_v19, main_v20, main_v21, main_c_6, main_v22, main_v23, main_c_7]
theorem hostOps0_writes : (hostOps0 : List (HloOp τ sig (Elt F))).Forall fun op => op.writes ⊆ (hostOps0_W.map (Proc.devRef (τ := τ) .tc)).toFinset :=
  StableHlo.forall_writes_sub_of_map rfl
/-- `hostOps0` writes none of the argument arrays (checked: each argument against each reference it writes). -/
theorem hostOps0_args : ∀ a ∈ argRefs, a ∉ hostOps0_W := ListAll.forall_mem_of_all_decide (by decide +kernel)

/-- No operation of `hostOps0_1` allocates a buffer. -/
theorem hostOps0_1_fresh : (hostOps0_1 : List (HloOp τ sig (Elt F))).Forall fun op => op.fresh = ∅ := by
  simp only [List.Forall]; repeat' constructor
/-- The reference each operation of `hostOps0_1` writes, in order. -/
abbrev hostOps0_1_W : List (Ref sig .tc) := [main_call0_v0, main_call0_v1, main_v24]
theorem hostOps0_1_writes : (hostOps0_1 : List (HloOp τ sig (Elt F))).Forall fun op => op.writes ⊆ (hostOps0_1_W.map (Proc.devRef (τ := τ) .tc)).toFinset :=
  StableHlo.forall_writes_sub_of_map rfl
/-- `hostOps0_1` writes none of the argument arrays (checked: each argument against each reference it writes). -/
theorem hostOps0_1_args : ∀ a ∈ argRefs, a ∉ hostOps0_1_W := ListAll.forall_mem_of_all_decide (by decide +kernel)

/-- No operation of `hostOps0_2` allocates a buffer. -/
theorem hostOps0_2_fresh : (hostOps0_2 : List (HloOp τ sig (Elt F))).Forall fun op => op.fresh = ∅ := by
  simp only [List.Forall]; repeat' constructor
/-- The reference each operation of `hostOps0_2` writes, in order. -/
abbrev hostOps0_2_W : List (Ref sig .tc) := [main_v25, main_c_8, main_v26, main_v27, main_c_9, main_v28, main_v29, main_c_10, main_v30, main_v31, main_v32, main_v33, main_v34, main_c_11, main_v35, main_v36, main_c_12, main_v37, main_v38, main_v39, main_v40, main_c_13, main_v41, main_v42, main_c_14, main_v43, main_v44, main_c_15, main_v45, main_v46, main_c_16, main_v47, main_v48, main_v49, main_v50, main_v51, main_c_17, main_v52, main_v53, main_c_18, main_v54, main_v55, main_v56, main_v57, main_cst_19, main_v58, main_v59, main_v60, main_v61, main_v62, main_cst_20, main_v63, main_v64, main_v65, main_v66, main_v67, main_cst_21, main_v68, main_v69, main_v70, main_v71, main_v72, main_v73, main_v74, main_v75, main_c_22, main_v76, main_cst_23, main_v77, main_v78, main_v79, main_cst_24, main_v80, main_v81, main_v82, main_c_25, main_v83, main_v84, main_c_26]
theorem hostOps0_2_writes : (hostOps0_2 : List (HloOp τ sig (Elt F))).Forall fun op => op.writes ⊆ (hostOps0_2_W.map (Proc.devRef (τ := τ) .tc)).toFinset :=
  StableHlo.forall_writes_sub_of_map rfl
/-- `hostOps0_2` writes none of the argument arrays (checked: each argument against each reference it writes). -/
theorem hostOps0_2_args : ∀ a ∈ argRefs, a ∉ hostOps0_2_W := ListAll.forall_mem_of_all_decide (by decide +kernel)

/-- No operation of `hostOps0_3` allocates a buffer. -/
theorem hostOps0_3_fresh : (hostOps0_3 : List (HloOp τ sig (Elt F))).Forall fun op => op.fresh = ∅ := by
  simp only [List.Forall]; repeat' constructor
/-- The reference each operation of `hostOps0_3` writes, in order. -/
abbrev hostOps0_3_W : List (Ref sig .tc) := [main_call1_v0, main_call1_v1, main_v85]
theorem hostOps0_3_writes : (hostOps0_3 : List (HloOp τ sig (Elt F))).Forall fun op => op.writes ⊆ (hostOps0_3_W.map (Proc.devRef (τ := τ) .tc)).toFinset :=
  StableHlo.forall_writes_sub_of_map rfl
/-- `hostOps0_3` writes none of the argument arrays (checked: each argument against each reference it writes). -/
theorem hostOps0_3_args : ∀ a ∈ argRefs, a ∉ hostOps0_3_W := ListAll.forall_mem_of_all_decide (by decide +kernel)

/-- No operation of `hostOps0_4` allocates a buffer. -/
theorem hostOps0_4_fresh : (hostOps0_4 : List (HloOp τ sig (Elt F))).Forall fun op => op.fresh = ∅ := by
  simp only [List.Forall]; repeat' constructor
/-- The reference each operation of `hostOps0_4` writes, in order. -/
abbrev hostOps0_4_W : List (Ref sig .tc) := [main_v86, main_c_27, main_v87, main_v88, main_c_28, main_v89, main_v90, main_c_29, main_v91, main_v92, main_v93, main_v94, main_v95, main_c_30, main_v96, main_v97, main_c_31, main_v98, main_v99, main_v100, main_v101, main_c_32, main_v102, main_v103, main_c_33, main_v104, main_v105, main_c_34, main_v106, main_v107, main_c_35, main_v108, main_v109, main_v110, main_v111, main_v112, main_c_36, main_v113, main_v114, main_c_37, main_v115, main_v116, main_v117, main_v118, main_cst_38, main_v119, main_v120, main_v121, main_v122, main_v123, main_cst_39, main_v124, main_v125, main_v126, main_v127, main_v128, main_v129, main_v130, main_v131, main_v132, main_v133, main_c_40, main_v134, main_cst_41, main_v135, main_v136, main_v137, main_cst_42, main_v138, main_v139, main_v140, main_c_43, main_v141, main_v142, main_c_44]
theorem hostOps0_4_writes : (hostOps0_4 : List (HloOp τ sig (Elt F))).Forall fun op => op.writes ⊆ (hostOps0_4_W.map (Proc.devRef (τ := τ) .tc)).toFinset :=
  StableHlo.forall_writes_sub_of_map rfl
/-- `hostOps0_4` writes none of the argument arrays (checked: each argument against each reference it writes). -/
theorem hostOps0_4_args : ∀ a ∈ argRefs, a ∉ hostOps0_4_W := ListAll.forall_mem_of_all_decide (by decide +kernel)

/-- No operation of `hostOps0_5` allocates a buffer. -/
theorem hostOps0_5_fresh : (hostOps0_5 : List (HloOp τ sig (Elt F))).Forall fun op => op.fresh = ∅ := by
  simp only [List.Forall]; repeat' constructor
/-- The reference each operation of `hostOps0_5` writes, in order. -/
abbrev hostOps0_5_W : List (Ref sig .tc) := [main_call2_v0, main_call2_v1, main_v143]
theorem hostOps0_5_writes : (hostOps0_5 : List (HloOp τ sig (Elt F))).Forall fun op => op.writes ⊆ (hostOps0_5_W.map (Proc.devRef (τ := τ) .tc)).toFinset :=
  StableHlo.forall_writes_sub_of_map rfl
/-- `hostOps0_5` writes none of the argument arrays (checked: each argument against each reference it writes). -/
theorem hostOps0_5_args : ∀ a ∈ argRefs, a ∉ hostOps0_5_W := ListAll.forall_mem_of_all_decide (by decide +kernel)

/-- No operation of `hostOps0_6` allocates a buffer. -/
theorem hostOps0_6_fresh : (hostOps0_6 : List (HloOp τ sig (Elt F))).Forall fun op => op.fresh = ∅ := by
  simp only [List.Forall]; repeat' constructor
/-- The reference each operation of `hostOps0_6` writes, in order. -/
abbrev hostOps0_6_W : List (Ref sig .tc) := [main_v144, main_c_45, main_v145, main_v146, main_c_46, main_v147, main_v148, main_c_47, main_v149, main_v150, main_v151, main_v152, main_v153, main_c_48, main_v154, main_v155, main_c_49, main_v156, main_v157, main_v158, main_v159, main_cst_50, main_v160, main_v161]
theorem hostOps0_6_writes : (hostOps0_6 : List (HloOp τ sig (Elt F))).Forall fun op => op.writes ⊆ (hostOps0_6_W.map (Proc.devRef (τ := τ) .tc)).toFinset :=
  StableHlo.forall_writes_sub_of_map rfl
/-- `hostOps0_6` writes none of the argument arrays (checked: each argument against each reference it writes). -/
theorem hostOps0_6_args : ∀ a ∈ argRefs, a ∉ hostOps0_6_W := ListAll.forall_mem_of_all_decide (by decide +kernel)

/-- No operation of `hostOps0_7` allocates a buffer. -/
theorem hostOps0_7_fresh : (hostOps0_7 : List (HloOp τ sig (Elt F))).Forall fun op => op.fresh = ∅ := by
  simp only [List.Forall]; repeat' constructor
/-- The reference each operation of `hostOps0_7` writes, in order. -/
abbrev hostOps0_7_W : List (Ref sig .tc) := [main_v162]
theorem hostOps0_7_writes : (hostOps0_7 : List (HloOp τ sig (Elt F))).Forall fun op => op.writes ⊆ (hostOps0_7_W.map (Proc.devRef (τ := τ) .tc)).toFinset :=
  StableHlo.forall_writes_sub_of_map rfl
/-- `hostOps0_7` writes none of the argument arrays (checked: each argument against each reference it writes). -/
theorem hostOps0_7_args : ∀ a ∈ argRefs, a ∉ hostOps0_7_W := ListAll.forall_mem_of_all_decide (by decide +kernel)

/-- No operation of `hostOps0_8` allocates a buffer. -/
theorem hostOps0_8_fresh : (hostOps0_8 : List (HloOp τ sig (Elt F))).Forall fun op => op.fresh = ∅ := by
  simp only [List.Forall]; repeat' constructor
/-- The reference each operation of `hostOps0_8` writes, in order. -/
abbrev hostOps0_8_W : List (Ref sig .tc) := [main_v163, main_c_51, main_v164, main_v165, main_c_52, main_v166, main_v167, main_c_53, main_v168, main_v169, main_c_54, main_v170, main_v171, main_c_55, main_v172, main_v173, main_v174, main_c_56]
theorem hostOps0_8_writes : (hostOps0_8 : List (HloOp τ sig (Elt F))).Forall fun op => op.writes ⊆ (hostOps0_8_W.map (Proc.devRef (τ := τ) .tc)).toFinset :=
  StableHlo.forall_writes_sub_of_map rfl
/-- `hostOps0_8` writes none of the argument arrays (checked: each argument against each reference it writes). -/
theorem hostOps0_8_args : ∀ a ∈ argRefs, a ∉ hostOps0_8_W := ListAll.forall_mem_of_all_decide (by decide +kernel)

/-- No operation of `hostOps0_9` allocates a buffer. -/
theorem hostOps0_9_fresh : (hostOps0_9 : List (HloOp τ sig (Elt F))).Forall fun op => op.fresh = ∅ := by
  simp only [List.Forall]; repeat' constructor
/-- The reference each operation of `hostOps0_9` writes, in order. -/
abbrev hostOps0_9_W : List (Ref sig .tc) := [main_call4_v0, main_call4_v1, main_v175]
theorem hostOps0_9_writes : (hostOps0_9 : List (HloOp τ sig (Elt F))).Forall fun op => op.writes ⊆ (hostOps0_9_W.map (Proc.devRef (τ := τ) .tc)).toFinset :=
  StableHlo.forall_writes_sub_of_map rfl
/-- `hostOps0_9` writes none of the argument arrays (checked: each argument against each reference it writes). -/
theorem hostOps0_9_args : ∀ a ∈ argRefs, a ∉ hostOps0_9_W := ListAll.forall_mem_of_all_decide (by decide +kernel)

/-- No operation of `hostOps0_10` allocates a buffer. -/
theorem hostOps0_10_fresh : (hostOps0_10 : List (HloOp τ sig (Elt F))).Forall fun op => op.fresh = ∅ := by
  simp only [List.Forall]; repeat' constructor
/-- The reference each operation of `hostOps0_10` writes, in order. -/
abbrev hostOps0_10_W : List (Ref sig .tc) := [main_v176, main_c_57, main_v177, main_v178, main_c_58, main_c_59]
theorem hostOps0_10_writes : (hostOps0_10 : List (HloOp τ sig (Elt F))).Forall fun op => op.writes ⊆ (hostOps0_10_W.map (Proc.devRef (τ := τ) .tc)).toFinset :=
  StableHlo.forall_writes_sub_of_map rfl
/-- `hostOps0_10` writes none of the argument arrays (checked: each argument against each reference it writes). -/
theorem hostOps0_10_args : ∀ a ∈ argRefs, a ∉ hostOps0_10_W := ListAll.forall_mem_of_all_decide (by decide +kernel)

/-- No operation of `hostOps0_11` allocates a buffer. -/
theorem hostOps0_11_fresh : (hostOps0_11 : List (HloOp τ sig (Elt F))).Forall fun op => op.fresh = ∅ := by
  simp only [List.Forall]; repeat' constructor
/-- The reference each operation of `hostOps0_11` writes, in order. -/
abbrev hostOps0_11_W : List (Ref sig .tc) := [main_call5_v0, main_call5_v1, main_call5_v2, main_call5_v3, main_call5_v4, main_v179]
theorem hostOps0_11_writes : (hostOps0_11 : List (HloOp τ sig (Elt F))).Forall fun op => op.writes ⊆ (hostOps0_11_W.map (Proc.devRef (τ := τ) .tc)).toFinset :=
  StableHlo.forall_writes_sub_of_map rfl
/-- `hostOps0_11` writes none of the argument arrays (checked: each argument against each reference it writes). -/
theorem hostOps0_11_args : ∀ a ∈ argRefs, a ∉ hostOps0_11_W := ListAll.forall_mem_of_all_decide (by decide +kernel)

/-- No operation of `hostOps0_12` allocates a buffer. -/
theorem hostOps0_12_fresh : (hostOps0_12 : List (HloOp τ sig (Elt F))).Forall fun op => op.fresh = ∅ := by
  simp only [List.Forall]; repeat' constructor
/-- The reference each operation of `hostOps0_12` writes, in order. -/
abbrev hostOps0_12_W : List (Ref sig .tc) := [main_v180, main_v181, main_v182, main_v183, main_v184, main_v185, main_v186, main_v187, main_v188, main_v189, main_v190, main_v191, main_v192, main_v193, main_v194, main_v195, main_v196, main_v197, main_v198, main_v199, main_v200, main_c_60, main_v201, main_cst_61, main_v202, main_v203, main_v204, main_cst_62, main_v205, main_v206, main_v207, main_c_63, main_v208, main_v209, main_c_64]
theorem hostOps0_12_writes : (hostOps0_12 : List (HloOp τ sig (Elt F))).Forall fun op => op.writes ⊆ (hostOps0_12_W.map (Proc.devRef (τ := τ) .tc)).toFinset :=
  StableHlo.forall_writes_sub_of_map rfl
/-- `hostOps0_12` writes none of the argument arrays (checked: each argument against each reference it writes). -/
theorem hostOps0_12_args : ∀ a ∈ argRefs, a ∉ hostOps0_12_W := ListAll.forall_mem_of_all_decide (by decide +kernel)

/-- No operation of `hostOps0_13` allocates a buffer. -/
theorem hostOps0_13_fresh : (hostOps0_13 : List (HloOp τ sig (Elt F))).Forall fun op => op.fresh = ∅ := by
  simp only [List.Forall]; repeat' constructor
/-- The reference each operation of `hostOps0_13` writes, in order. -/
abbrev hostOps0_13_W : List (Ref sig .tc) := [main_call6_v0, main_call6_v1, main_v210]
theorem hostOps0_13_writes : (hostOps0_13 : List (HloOp τ sig (Elt F))).Forall fun op => op.writes ⊆ (hostOps0_13_W.map (Proc.devRef (τ := τ) .tc)).toFinset :=
  StableHlo.forall_writes_sub_of_map rfl
/-- `hostOps0_13` writes none of the argument arrays (checked: each argument against each reference it writes). -/
theorem hostOps0_13_args : ∀ a ∈ argRefs, a ∉ hostOps0_13_W := ListAll.forall_mem_of_all_decide (by decide +kernel)

/-- No operation of `hostOps0_14` allocates a buffer. -/
theorem hostOps0_14_fresh : (hostOps0_14 : List (HloOp τ sig (Elt F))).Forall fun op => op.fresh = ∅ := by
  simp only [List.Forall]; repeat' constructor
/-- The reference each operation of `hostOps0_14` writes, in order. -/
abbrev hostOps0_14_W : List (Ref sig .tc) := [main_v211, main_c_65, main_v212, main_v213, main_c_66, main_v214, main_v215, main_c_67, main_v216, main_v217, main_v218, main_v219, main_v220, main_c_68, main_v221, main_v222, main_c_69, main_v223, main_v224, main_v225, main_v226, main_cst_70, main_v227, main_v228]
theorem hostOps0_14_writes : (hostOps0_14 : List (HloOp τ sig (Elt F))).Forall fun op => op.writes ⊆ (hostOps0_14_W.map (Proc.devRef (τ := τ) .tc)).toFinset :=
  StableHlo.forall_writes_sub_of_map rfl
/-- `hostOps0_14` writes none of the argument arrays (checked: each argument against each reference it writes). -/
theorem hostOps0_14_args : ∀ a ∈ argRefs, a ∉ hostOps0_14_W := ListAll.forall_mem_of_all_decide (by decide +kernel)

/-- No operation of `hostOps0_15` allocates a buffer. -/
theorem hostOps0_15_fresh : (hostOps0_15 : List (HloOp τ sig (Elt F))).Forall fun op => op.fresh = ∅ := by
  simp only [List.Forall]; repeat' constructor
/-- The reference each operation of `hostOps0_15` writes, in order. -/
abbrev hostOps0_15_W : List (Ref sig .tc) := [main_v229]
theorem hostOps0_15_writes : (hostOps0_15 : List (HloOp τ sig (Elt F))).Forall fun op => op.writes ⊆ (hostOps0_15_W.map (Proc.devRef (τ := τ) .tc)).toFinset :=
  StableHlo.forall_writes_sub_of_map rfl
/-- `hostOps0_15` writes none of the argument arrays (checked: each argument against each reference it writes). -/
theorem hostOps0_15_args : ∀ a ∈ argRefs, a ∉ hostOps0_15_W := ListAll.forall_mem_of_all_decide (by decide +kernel)

/-- No operation of `hostOps0_16` allocates a buffer. -/
theorem hostOps0_16_fresh : (hostOps0_16 : List (HloOp τ sig (Elt F))).Forall fun op => op.fresh = ∅ := by
  simp only [List.Forall]; repeat' constructor
/-- The reference each operation of `hostOps0_16` writes, in order. -/
abbrev hostOps0_16_W : List (Ref sig .tc) := [main_v230, main_c_71, main_v231, main_v232, main_c_72, main_v233, main_v234, main_c_73, main_v235, main_v236, main_c_74, main_v237, main_v238, main_c_75, main_v239, main_v240, main_v241, main_c_76]
theorem hostOps0_16_writes : (hostOps0_16 : List (HloOp τ sig (Elt F))).Forall fun op => op.writes ⊆ (hostOps0_16_W.map (Proc.devRef (τ := τ) .tc)).toFinset :=
  StableHlo.forall_writes_sub_of_map rfl
/-- `hostOps0_16` writes none of the argument arrays (checked: each argument against each reference it writes). -/
theorem hostOps0_16_args : ∀ a ∈ argRefs, a ∉ hostOps0_16_W := ListAll.forall_mem_of_all_decide (by decide +kernel)

/-- No operation of `hostOps0_17` allocates a buffer. -/
theorem hostOps0_17_fresh : (hostOps0_17 : List (HloOp τ sig (Elt F))).Forall fun op => op.fresh = ∅ := by
  simp only [List.Forall]; repeat' constructor
/-- The reference each operation of `hostOps0_17` writes, in order. -/
abbrev hostOps0_17_W : List (Ref sig .tc) := [main_call8_v0, main_call8_v1, main_v242]
theorem hostOps0_17_writes : (hostOps0_17 : List (HloOp τ sig (Elt F))).Forall fun op => op.writes ⊆ (hostOps0_17_W.map (Proc.devRef (τ := τ) .tc)).toFinset :=
  StableHlo.forall_writes_sub_of_map rfl
/-- `hostOps0_17` writes none of the argument arrays (checked: each argument against each reference it writes). -/
theorem hostOps0_17_args : ∀ a ∈ argRefs, a ∉ hostOps0_17_W := ListAll.forall_mem_of_all_decide (by decide +kernel)

/-- No operation of `hostOps0_18` allocates a buffer. -/
theorem hostOps0_18_fresh : (hostOps0_18 : List (HloOp τ sig (Elt F))).Forall fun op => op.fresh = ∅ := by
  simp only [List.Forall]; repeat' constructor
/-- The reference each operation of `hostOps0_18` writes, in order. -/
abbrev hostOps0_18_W : List (Ref sig .tc) := [main_v243, main_v244, main_v245, main_v246, main_v247]
theorem hostOps0_18_writes : (hostOps0_18 : List (HloOp τ sig (Elt F))).Forall fun op => op.writes ⊆ (hostOps0_18_W.map (Proc.devRef (τ := τ) .tc)).toFinset :=
  StableHlo.forall_writes_sub_of_map rfl
/-- `hostOps0_18` writes none of the argument arrays (checked: each argument against each reference it writes). -/
theorem hostOps0_18_args : ∀ a ∈ argRefs, a ∉ hostOps0_18_W := ListAll.forall_mem_of_all_decide (by decide +kernel)

/-- No operation of `hostOps2` allocates a buffer. -/
theorem hostOps2_fresh : (hostOps2 : List (HloOp τ sig (Elt F))).Forall fun op => op.fresh = ∅ := by
  simp only [List.Forall]; repeat' constructor
/-- The reference each operation of `hostOps2` writes, in order. -/
abbrev hostOps2_W : List (Ref sig .tc) := [main_v250, main_v251]
theorem hostOps2_writes : (hostOps2 : List (HloOp τ sig (Elt F))).Forall fun op => op.writes ⊆ (hostOps2_W.map (Proc.devRef (τ := τ) .tc)).toFinset :=
  StableHlo.forall_writes_sub_of_map rfl
/-- `hostOps2` writes none of the argument arrays (checked: each argument against each reference it writes). -/
theorem hostOps2_args : ∀ a ∈ argRefs, a ∉ hostOps2_W := ListAll.forall_mem_of_all_decide (by decide +kernel)

/-! ## The buffer contents at each segment boundary: a fold through @main, and what each item leaves unchanged -/

/-- Core `c`'s buffers at launch. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- After `hostOps0`. -/
abbrev W1 : Dev nD → Valuation τ sig (Elt F) := fun c => StableHlo.after hostOps0 (W0 m ρ c)
/-- A reference `hostOps0` does not write keeps its contents across it. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- After `hostOps0_1`. -/
abbrev W2 : Dev nD → Valuation τ sig (Elt F) := fun c => StableHlo.after hostOps0_1 (W1 m ρ c)
/-- A reference `hostOps0_1` does not write keeps its contents across it. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- After `hostOps0_2`. -/
abbrev W3 : Dev nD → Valuation τ sig (Elt F) := fun c => StableHlo.after hostOps0_2 (W2 m ρ c)
/-- A reference `hostOps0_2` does not write keeps its contents across it. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- After `hostOps0_3`. -/
abbrev W4 : Dev nD → Valuation τ sig (Elt F) := fun c => StableHlo.after hostOps0_3 (W3 m ρ c)
/-- A reference `hostOps0_3` does not write keeps its contents across it. -/
theorem W4_of (c : Dev nD) (r : Ref sig .tc) (h : r ∉ hostOps0_3_W) : W4 m ρ c (Proc.devRef .tc r) = W3 m ρ c (Proc.devRef .tc r) :=
  StableHlo.after_of_writes_sub hostOps0_3 _ hostOps0_3_writes h
theorem W4_args (c : Dev nD) : ∀ a ∈ argRefs, W4 m ρ c (Proc.devRef .tc a) = m ((c : Thread nD τ).loc a) :=
  fun a ha => (W4_of m ρ c a (hostOps0_3_args a ha)).trans (W3_args m ρ c a ha)
/-- After `hostOps0_4`. -/
abbrev W5 : Dev nD → Valuation τ sig (Elt F) := fun c => StableHlo.after hostOps0_4 (W4 m ρ c)
/-- A reference `hostOps0_4` does not write keeps its contents across it. -/
theorem W5_of (c : Dev nD) (r : Ref sig .tc) (h : r ∉ hostOps0_4_W) : W5 m ρ c (Proc.devRef .tc r) = W4 m ρ c (Proc.devRef .tc r) :=
  StableHlo.after_of_writes_sub hostOps0_4 _ hostOps0_4_writes h
theorem W5_args (c : Dev nD) : ∀ a ∈ argRefs, W5 m ρ c (Proc.devRef .tc a) = m ((c : Thread nD τ).loc a) :=
  fun a ha => (W5_of m ρ c a (hostOps0_4_args a ha)).trans (W4_args m ρ c a ha)
/-- After `hostOps0_5`. -/
abbrev W6 : Dev nD → Valuation τ sig (Elt F) := fun c => StableHlo.after hostOps0_5 (W5 m ρ c)
/-- A reference `hostOps0_5` does not write keeps its contents across it. -/
theorem W6_of (c : Dev nD) (r : Ref sig .tc) (h : r ∉ hostOps0_5_W) : W6 m ρ c (Proc.devRef .tc r) = W5 m ρ c (Proc.devRef .tc r) :=
  StableHlo.after_of_writes_sub hostOps0_5 _ hostOps0_5_writes h
theorem W6_args (c : Dev nD) : ∀ a ∈ argRefs, W6 m ρ c (Proc.devRef .tc a) = m ((c : Thread nD τ).loc a) :=
  fun a ha => (W6_of m ρ c a (hostOps0_5_args a ha)).trans (W5_args m ρ c a ha)
/-- After `hostOps0_6`. -/
abbrev W7 : Dev nD → Valuation τ sig (Elt F) := fun c => StableHlo.after hostOps0_6 (W6 m ρ c)
/-- A reference `hostOps0_6` does not write keeps its contents across it. -/
theorem W7_of (c : Dev nD) (r : Ref sig .tc) (h : r ∉ hostOps0_6_W) : W7 m ρ c (Proc.devRef .tc r) = W6 m ρ c (Proc.devRef .tc r) :=
  StableHlo.after_of_writes_sub hostOps0_6 _ hostOps0_6_writes h
theorem W7_args (c : Dev nD) : ∀ a ∈ argRefs, W7 m ρ c (Proc.devRef .tc a) = m ((c : Thread nD τ).loc a) :=
  fun a ha => (W7_of m ρ c a (hostOps0_6_args a ha)).trans (W6_args m ρ c a ha)
/-- After `hostOps0_7`. -/
abbrev W8 : Dev nD → Valuation τ sig (Elt F) := fun c => StableHlo.after hostOps0_7 (W7 m ρ c)
/-- A reference `hostOps0_7` does not write keeps its contents across it. -/
theorem W8_of (c : Dev nD) (r : Ref sig .tc) (h : r ∉ hostOps0_7_W) : W8 m ρ c (Proc.devRef .tc r) = W7 m ρ c (Proc.devRef .tc r) :=
  StableHlo.after_of_writes_sub hostOps0_7 _ hostOps0_7_writes h
theorem W8_args (c : Dev nD) : ∀ a ∈ argRefs, W8 m ρ c (Proc.devRef .tc a) = m ((c : Thread nD τ).loc a) :=
  fun a ha => (W8_of m ρ c a (hostOps0_7_args a ha)).trans (W7_args m ρ c a ha)
/-- After `hostOps0_8`. -/
abbrev W9 : Dev nD → Valuation τ sig (Elt F) := fun c => StableHlo.after hostOps0_8 (W8 m ρ c)
/-- A reference `hostOps0_8` does not write keeps its contents across it. -/
theorem W9_of (c : Dev nD) (r : Ref sig .tc) (h : r ∉ hostOps0_8_W) : W9 m ρ c (Proc.devRef .tc r) = W8 m ρ c (Proc.devRef .tc r) :=
  StableHlo.after_of_writes_sub hostOps0_8 _ hostOps0_8_writes h
theorem W9_args (c : Dev nD) : ∀ a ∈ argRefs, W9 m ρ c (Proc.devRef .tc a) = m ((c : Thread nD τ).loc a) :=
  fun a ha => (W9_of m ρ c a (hostOps0_8_args a ha)).trans (W8_args m ρ c a ha)
/-- After `hostOps0_9`. -/
abbrev W10 : Dev nD → Valuation τ sig (Elt F) := fun c => StableHlo.after hostOps0_9 (W9 m ρ c)
/-- A reference `hostOps0_9` does not write keeps its contents across it. -/
theorem W10_of (c : Dev nD) (r : Ref sig .tc) (h : r ∉ hostOps0_9_W) : W10 m ρ c (Proc.devRef .tc r) = W9 m ρ c (Proc.devRef .tc r) :=
  StableHlo.after_of_writes_sub hostOps0_9 _ hostOps0_9_writes h
theorem W10_args (c : Dev nD) : ∀ a ∈ argRefs, W10 m ρ c (Proc.devRef .tc a) = m ((c : Thread nD τ).loc a) :=
  fun a ha => (W10_of m ρ c a (hostOps0_9_args a ha)).trans (W9_args m ρ c a ha)
/-- After `hostOps0_10`. -/
abbrev W11 : Dev nD → Valuation τ sig (Elt F) := fun c => StableHlo.after hostOps0_10 (W10 m ρ c)
/-- A reference `hostOps0_10` does not write keeps its contents across it. -/
theorem W11_of (c : Dev nD) (r : Ref sig .tc) (h : r ∉ hostOps0_10_W) : W11 m ρ c (Proc.devRef .tc r) = W10 m ρ c (Proc.devRef .tc r) :=
  StableHlo.after_of_writes_sub hostOps0_10 _ hostOps0_10_writes h
theorem W11_args (c : Dev nD) : ∀ a ∈ argRefs, W11 m ρ c (Proc.devRef .tc a) = m ((c : Thread nD τ).loc a) :=
  fun a ha => (W11_of m ρ c a (hostOps0_10_args a ha)).trans (W10_args m ρ c a ha)
/-- After `hostOps0_11`. -/
abbrev W12 : Dev nD → Valuation τ sig (Elt F) := fun c => StableHlo.after hostOps0_11 (W11 m ρ c)
/-- A reference `hostOps0_11` does not write keeps its contents across it. -/
theorem W12_of (c : Dev nD) (r : Ref sig .tc) (h : r ∉ hostOps0_11_W) : W12 m ρ c (Proc.devRef .tc r) = W11 m ρ c (Proc.devRef .tc r) :=
  StableHlo.after_of_writes_sub hostOps0_11 _ hostOps0_11_writes h
theorem W12_args (c : Dev nD) : ∀ a ∈ argRefs, W12 m ρ c (Proc.devRef .tc a) = m ((c : Thread nD τ).loc a) :=
  fun a ha => (W12_of m ρ c a (hostOps0_11_args a ha)).trans (W11_args m ρ c a ha)
/-- After `hostOps0_12`. -/
abbrev W13 : Dev nD → Valuation τ sig (Elt F) := fun c => StableHlo.after hostOps0_12 (W12 m ρ c)
/-- A reference `hostOps0_12` does not write keeps its contents across it. -/
theorem W13_of (c : Dev nD) (r : Ref sig .tc) (h : r ∉ hostOps0_12_W) : W13 m ρ c (Proc.devRef .tc r) = W12 m ρ c (Proc.devRef .tc r) :=
  StableHlo.after_of_writes_sub hostOps0_12 _ hostOps0_12_writes h
theorem W13_args (c : Dev nD) : ∀ a ∈ argRefs, W13 m ρ c (Proc.devRef .tc a) = m ((c : Thread nD τ).loc a) :=
  fun a ha => (W13_of m ρ c a (hostOps0_12_args a ha)).trans (W12_args m ρ c a ha)
/-- After `hostOps0_13`. -/
abbrev W14 : Dev nD → Valuation τ sig (Elt F) := fun c => StableHlo.after hostOps0_13 (W13 m ρ c)
/-- A reference `hostOps0_13` does not write keeps its contents across it. -/
theorem W14_of (c : Dev nD) (r : Ref sig .tc) (h : r ∉ hostOps0_13_W) : W14 m ρ c (Proc.devRef .tc r) = W13 m ρ c (Proc.devRef .tc r) :=
  StableHlo.after_of_writes_sub hostOps0_13 _ hostOps0_13_writes h
theorem W14_args (c : Dev nD) : ∀ a ∈ argRefs, W14 m ρ c (Proc.devRef .tc a) = m ((c : Thread nD τ).loc a) :=
  fun a ha => (W14_of m ρ c a (hostOps0_13_args a ha)).trans (W13_args m ρ c a ha)
/-- After `hostOps0_14`. -/
abbrev W15 : Dev nD → Valuation τ sig (Elt F) := fun c => StableHlo.after hostOps0_14 (W14 m ρ c)
/-- A reference `hostOps0_14` does not write keeps its contents across it. -/
theorem W15_of (c : Dev nD) (r : Ref sig .tc) (h : r ∉ hostOps0_14_W) : W15 m ρ c (Proc.devRef .tc r) = W14 m ρ c (Proc.devRef .tc r) :=
  StableHlo.after_of_writes_sub hostOps0_14 _ hostOps0_14_writes h
theorem W15_args (c : Dev nD) : ∀ a ∈ argRefs, W15 m ρ c (Proc.devRef .tc a) = m ((c : Thread nD τ).loc a) :=
  fun a ha => (W15_of m ρ c a (hostOps0_14_args a ha)).trans (W14_args m ρ c a ha)
/-- After `hostOps0_15`. -/
abbrev W16 : Dev nD → Valuation τ sig (Elt F) := fun c => StableHlo.after hostOps0_15 (W15 m ρ c)
/-- A reference `hostOps0_15` does not write keeps its contents across it. -/
theorem W16_of (c : Dev nD) (r : Ref sig .tc) (h : r ∉ hostOps0_15_W) : W16 m ρ c (Proc.devRef .tc r) = W15 m ρ c (Proc.devRef .tc r) :=
  StableHlo.after_of_writes_sub hostOps0_15 _ hostOps0_15_writes h
theorem W16_args (c : Dev nD) : ∀ a ∈ argRefs, W16 m ρ c (Proc.devRef .tc a) = m ((c : Thread nD τ).loc a) :=
  fun a ha => (W16_of m ρ c a (hostOps0_15_args a ha)).trans (W15_args m ρ c a ha)
/-- After `hostOps0_16`. -/
abbrev W17 : Dev nD → Valuation τ sig (Elt F) := fun c => StableHlo.after hostOps0_16 (W16 m ρ c)
/-- A reference `hostOps0_16` does not write keeps its contents across it. -/
theorem W17_of (c : Dev nD) (r : Ref sig .tc) (h : r ∉ hostOps0_16_W) : W17 m ρ c (Proc.devRef .tc r) = W16 m ρ c (Proc.devRef .tc r) :=
  StableHlo.after_of_writes_sub hostOps0_16 _ hostOps0_16_writes h
theorem W17_args (c : Dev nD) : ∀ a ∈ argRefs, W17 m ρ c (Proc.devRef .tc a) = m ((c : Thread nD τ).loc a) :=
  fun a ha => (W17_of m ρ c a (hostOps0_16_args a ha)).trans (W16_args m ρ c a ha)
/-- After `hostOps0_17`. -/
abbrev W18 : Dev nD → Valuation τ sig (Elt F) := fun c => StableHlo.after hostOps0_17 (W17 m ρ c)
/-- A reference `hostOps0_17` does not write keeps its contents across it. -/
theorem W18_of (c : Dev nD) (r : Ref sig .tc) (h : r ∉ hostOps0_17_W) : W18 m ρ c (Proc.devRef .tc r) = W17 m ρ c (Proc.devRef .tc r) :=
  StableHlo.after_of_writes_sub hostOps0_17 _ hostOps0_17_writes h
theorem W18_args (c : Dev nD) : ∀ a ∈ argRefs, W18 m ρ c (Proc.devRef .tc a) = m ((c : Thread nD τ).loc a) :=
  fun a ha => (W18_of m ρ c a (hostOps0_17_args a ha)).trans (W17_args m ρ c a ha)
/-- After `hostOps0_18` (region 0's entry). -/
abbrev W19 : Dev nD → Valuation τ sig (Elt F) := fun c => StableHlo.after hostOps0_18 (W18 m ρ c)
/-- A reference `hostOps0_18` does not write keeps its contents across it. -/
theorem W19_of (c : Dev nD) (r : Ref sig .tc) (h : r ∉ hostOps0_18_W) : W19 m ρ c (Proc.devRef .tc r) = W18 m ρ c (Proc.devRef .tc r) :=
  StableHlo.after_of_writes_sub hostOps0_18 _ hostOps0_18_writes h
theorem W19_args (c : Dev nD) : ∀ a ∈ argRefs, W19 m ρ c (Proc.devRef .tc a) = m ((c : Thread nD τ).loc a) :=
  fun a ha => (W19_of m ρ c a (hostOps0_18_args a ha)).trans (W18_args m ρ c a ha)
/-- The same read at the TensorCore's references (what region 0's proof data take). -/
abbrev V19 : (c : Dev nD) → (b : Ref sig .tc) → Buf (Elt F) ((c : Thread nD τ).loc b) := fun c b => W19 m ρ c b
/-- At region 0's exit: its arrays at what the pipeline leaves (the inputs as entered, each output's write-backs
    folded: `Dat.arrAt … N`), every other buffer as entered (Lib/Pipeline/FrameSuffix.lean `withArrays`) (region 1's entry). -/
def W20 (c : Dev nD) : Valuation τ sig (Elt F) :=
  Pipeline.withArrays spec0 c (W19 m ρ c) fun w => (dat0 (V19 m ρ) c).arrAt w cfg0.N
theorem W20_arr (c : Dev nD) (w : Fin cfg0.W) :
    W20 m ρ c (Proc.devRef .tc (Pipeline.arrRef spec0 w)) = (dat0 (V19 m ρ) c).arrAt w cfg0.N := by
  unfold W20; exact Pipeline.withArrays_arr spec0 launch0.win.arr_inj c _ _ w
theorem W20_of_ne (c : Dev nD) (b : Ref sig .tc) (hb : ∀ w, Pipeline.arrRef spec0 w ≠ b) :
    W20 m ρ c (Proc.devRef .tc b) = W19 m ρ c (Proc.devRef .tc b) := by
  unfold W20; exact Pipeline.withArrays_of_ne spec0 c _ _ b hb
/-- A reference that is none of region 0's OUTPUT arrays keeps its entry contents across it: an input window's
    array is never written back (`Dat.arrAt_in`, `A_eq0`); any other buffer is left as is. -/
theorem W20_of (c : Dev nD) (r : Ref sig .tc) (h : ∀ w : Fin cfg0.W, Pipeline.arrRef spec0 w = r → (cfg0.win w).isOut = false) :
    W20 m ρ c (Proc.devRef .tc r) = W19 m ρ c (Proc.devRef .tc r) := by
  by_cases hw : ∃ w : Fin cfg0.W, Pipeline.arrRef spec0 w = r
  · obtain ⟨w, rfl⟩ := hw
    exact (W20_arr m ρ c w).trans (((dat0 (V19 m ρ) c).arrAt_in w (h w rfl) _).trans (A_eq0 (V19 m ρ) c w))
  · exact W20_of_ne m ρ c r fun w e => hw ⟨w, e⟩
/-- Every argument among region 0's arrays is an input window's (checked: each argument against each window). -/
theorem argsIn0 : ∀ a ∈ argRefs, ∀ w : Fin cfg0.W, Pipeline.arrRef spec0 w = a → (cfg0.win w).isOut = false :=
  ListAll.forall_mem_of_all_decide (by decide +kernel)
theorem W20_args (c : Dev nD) : ∀ a ∈ argRefs, W20 m ρ c (Proc.devRef .tc a) = m ((c : Thread nD τ).loc a) :=
  fun a ha => (W20_of m ρ c a (argsIn0 a ha)).trans (W19_args m ρ c a ha)
/-- The same read at the TensorCore's references (region 0's exit contents). -/
abbrev V20 : (c : Dev nD) → (b : Ref sig .tc) → Buf (Elt F) ((c : Thread nD τ).loc b) := fun c b => W20 m ρ c b
/-- At region 0's exit each of its arrays holds what the pipeline leaves (`hF0`) and every other buffer what it
    held at entry (`hrest0`): the two hypotheses of Lib/Pipeline/RegionsLoop.lean `unscopedBufs_of_arrays`. -/
theorem hF0 (c : Dev nD) (w : Fin cfg0.W) : (dat0 (V19 m ρ) c).arrAt w cfg0.N = V20 m ρ c (Pipeline.arrRef spec0 w) :=
  (W20_arr m ρ c w).symm
theorem hrest0 (c : Dev nD) : ∀ b, b ∉ Finset.univ.image (Pipeline.arrRef spec0) → V20 m ρ c b = V19 m ρ c b :=
  fun b hb => W20_of_ne m ρ c b fun w e => hb (Finset.mem_image.mpr ⟨w, Finset.mem_univ _, e⟩)

/-- At region 1's exit: its arrays at what the pipeline leaves (the inputs as entered, each output's write-backs
    folded: `Dat.arrAt … N`), every other buffer as entered (Lib/Pipeline/FrameSuffix.lean `withArrays`). -/
def W21 (c : Dev nD) : Valuation τ sig (Elt F) :=
  Pipeline.withArrays spec1 c (W20 m ρ c) fun w => (dat1 (V20 m ρ) c).arrAt w cfg1.N
theorem W21_arr (c : Dev nD) (w : Fin cfg1.W) :
    W21 m ρ c (Proc.devRef .tc (Pipeline.arrRef spec1 w)) = (dat1 (V20 m ρ) c).arrAt w cfg1.N := by
  unfold W21; exact Pipeline.withArrays_arr spec1 launch1.win.arr_inj c _ _ w
theorem W21_of_ne (c : Dev nD) (b : Ref sig .tc) (hb : ∀ w, Pipeline.arrRef spec1 w ≠ b) :
    W21 m ρ c (Proc.devRef .tc b) = W20 m ρ c (Proc.devRef .tc b) := by
  unfold W21; exact Pipeline.withArrays_of_ne spec1 c _ _ b hb
/-- A reference that is none of region 1's OUTPUT arrays keeps its entry contents across it: an input window's
    array is never written back (`Dat.arrAt_in`, `A_eq1`); any other buffer is left as is. -/
theorem W21_of (c : Dev nD) (r : Ref sig .tc) (h : ∀ w : Fin cfg1.W, Pipeline.arrRef spec1 w = r → (cfg1.win w).isOut = false) :
    W21 m ρ c (Proc.devRef .tc r) = W20 m ρ c (Proc.devRef .tc r) := by
  by_cases hw : ∃ w : Fin cfg1.W, Pipeline.arrRef spec1 w = r
  · obtain ⟨w, rfl⟩ := hw
    exact (W21_arr m ρ c w).trans (((dat1 (V20 m ρ) c).arrAt_in w (h w rfl) _).trans (A_eq1 (V20 m ρ) c w))
  · exact W21_of_ne m ρ c r fun w e => hw ⟨w, e⟩
/-- Every argument among region 1's arrays is an input window's (checked: each argument against each window). -/
theorem argsIn1 : ∀ a ∈ argRefs, ∀ w : Fin cfg1.W, Pipeline.arrRef spec1 w = a → (cfg1.win w).isOut = false :=
  ListAll.forall_mem_of_all_decide (by decide +kernel)
theorem W21_args (c : Dev nD) : ∀ a ∈ argRefs, W21 m ρ c (Proc.devRef .tc a) = m ((c : Thread nD τ).loc a) :=
  fun a ha => (W21_of m ρ c a (argsIn1 a ha)).trans (W20_args m ρ c a ha)
/-- The same read at the TensorCore's references (region 1's exit contents). -/
abbrev V21 : (c : Dev nD) → (b : Ref sig .tc) → Buf (Elt F) ((c : Thread nD τ).loc b) := fun c b => W21 m ρ c b
/-- At region 1's exit each of its arrays holds what the pipeline leaves (`hF1`) and every other buffer what it
    held at entry (`hrest1`): the two hypotheses of Lib/Pipeline/RegionsLoop.lean `unscopedBufs_of_arrays`. -/
theorem hF1 (c : Dev nD) (w : Fin cfg1.W) : (dat1 (V20 m ρ) c).arrAt w cfg1.N = V21 m ρ c (Pipeline.arrRef spec1 w) :=
  (W21_arr m ρ c w).symm
theorem hrest1 (c : Dev nD) : ∀ b, b ∉ Finset.univ.image (Pipeline.arrRef spec1) → V21 m ρ c b = V20 m ρ c b :=
  fun b hb => W21_of_ne m ρ c b fun w e => hb (Finset.mem_image.mpr ⟨w, Finset.mem_univ _, e⟩)

/-- After `hostOps2`. -/
abbrev W22 : Dev nD → Valuation τ sig (Elt F) := fun c => StableHlo.after hostOps2 (W21 m ρ c)
/-- A reference `hostOps2` does not write keeps its contents across it. -/
theorem W22_of (c : Dev nD) (r : Ref sig .tc) (h : r ∉ hostOps2_W) : W22 m ρ c (Proc.devRef .tc r) = W21 m ρ c (Proc.devRef .tc r) :=
  StableHlo.after_of_writes_sub hostOps2 _ hostOps2_writes h
theorem W22_args (c : Dev nD) : ∀ a ∈ argRefs, W22 m ρ c (Proc.devRef .tc a) = m ((c : Thread nD τ).loc a) :=
  fun a ha => (W22_of m ρ c a (hostOps2_args a ha)).trans (W21_args m ρ c a ha)

/-! ### The arguments end as launched: no host stretch writes one and no region may change one (a region reads it
    through an input window or bypasses it) -/

theorem W22_main_arg0 (c : Dev nD) : W22 m ρ c (Proc.devRef .tc main_arg0) = m ((c : Thread nD τ).loc main_arg0) :=
  W22_args m ρ c main_arg0 (by decide)
theorem W22_main_arg1 (c : Dev nD) : W22 m ρ c (Proc.devRef .tc main_arg1) = m ((c : Thread nD τ).loc main_arg1) :=
  W22_args m ρ c main_arg1 (by decide)
theorem W22_main_arg2 (c : Dev nD) : W22 m ρ c (Proc.devRef .tc main_arg2) = m ((c : Thread nD τ).loc main_arg2) :=
  W22_args m ρ c main_arg2 (by decide)
theorem W22_main_arg3 (c : Dev nD) : W22 m ρ c (Proc.devRef .tc main_arg3) = m ((c : Thread nD τ).loc main_arg3) :=
  W22_args m ρ c main_arg3 (by decide)
theorem W22_main_arg4 (c : Dev nD) : W22 m ρ c (Proc.devRef .tc main_arg4) = m ((c : Thread nD τ).loc main_arg4) :=
  W22_args m ρ c main_arg4 (by decide)
theorem W22_main_arg5 (c : Dev nD) : W22 m ρ c (Proc.devRef .tc main_arg5) = m ((c : Thread nD τ).loc main_arg5) :=
  W22_args m ρ c main_arg5 (by decide)
theorem W22_main_arg6 (c : Dev nD) : W22 m ρ c (Proc.devRef .tc main_arg6) = m ((c : Thread nD τ).loc main_arg6) :=
  W22_args m ρ c main_arg6 (by decide)
theorem W22_main_arg7 (c : Dev nD) : W22 m ρ c (Proc.devRef .tc main_arg7) = m ((c : Thread nD τ).loc main_arg7) :=
  W22_args m ρ c main_arg7 (by decide)
theorem W22_main_arg8 (c : Dev nD) : W22 m ρ c (Proc.devRef .tc main_arg8) = m ((c : Thread nD τ).loc main_arg8) :=
  W22_args m ρ c main_arg8 (by decide)
theorem W22_main_arg9 (c : Dev nD) : W22 m ρ c (Proc.devRef .tc main_arg9) = m ((c : Thread nD τ).loc main_arg9) :=
  W22_args m ρ c main_arg9 (by decide)

/-! ## The proof data family and the thread state -/

/-- The prefetched tables' admissible contents: no pipeline has a table. -/
abbrev adm : (p : Fin 2) → (pcfgs (F := F) p).Adm := fun p => (cfgs p).toPCfg_adm
/-- Every pipeline's proof data, each at its region's entry contents — a literal `match`, so that the kit's
    `Pipeline.pin pcfgs adm p` at a numeral reduces to the printed configuration. -/
def pdats : (p : Fin 2) → (c : Dev nD) → Dat τ (Elt F) Unit ℕ (UR sig nD τ) ℕ (Pipeline.pin (pcfgs (F := F)) adm p) c
  | ⟨0, _⟩ => fun c => dat0 (V19 m ρ) c
  | ⟨1, _⟩ => fun c => dat1 (V20 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state (the class-A
    invariant takes it in and gives it back) and its `owes`, at nothing. -/
abbrev R (c : Dev nD) : sProp 𝕄 := iprop((∃ r, prngReg c r) ∗ ∃ W, owes (c : Thread nD τ) (0 : CellTallies nD τ sig Unit) W)
/-- A host stretch as a segment: `HostSeg.ofOps` over the unscoped references from the contents `W`, `R` riding along
    (its `post` is then those references at `StableHlo.after ops (W c)`: the next boundary's contents by name). -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes` (the kit's chain ends at it BESIDE the core owing nothing): every unscoped
    buffer at the last boundary's contents `W22`, the generator register at some state. -/
abbrev Tₙ (c : Dev nD) : sProp 𝕄 := iprop(StableHlo.held (c : Thread nD τ) (Pipeline.ucRefs τ sig) (W22 m ρ c) ∗ ∃ r, prngReg c r)

/-! ## The regions as segments -/

-- `iapply` of a library lemma stated over `pin pcs a p` unifies with the pinned configuration only when unification may
-- unfold plain definitions in a metavariable's type
set_option backward.isDefEq.respectTransparency.types false in
/-- REGION 0 (custom_call 0) over the thread state: entered from every unscoped buffer at `W19`, left at `W20`
    (what the next segment is entered from). Its arrays split out of the unscoped buffers
    (`arrays_of_unscopedBufs`) and put back at the exit contents (`unscopedBufs_of_arrays`); the generator register into the
    class invariant `ΦA` and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V19 m ρ) c).loose
  hwaits := Pipeline.hwaits_of_owed_zero _ _ _ _ L lv 0 fun _ _ => rfl
  pre c := iprop(StableHlo.held (c : Thread nD τ) (Pipeline.ucRefs τ sig) (W19 m ρ c) ∗ R c)
  post c := iprop(StableHlo.held (c : Thread nD τ) (Pipeline.ucRefs τ sig) (W20 m ρ c) ∗ R c)
  X c := iprop(∃ r, prngReg c r)
  Y c := iprop(∃ r, prngReg c r)
  Z c := Pipeline.unscopedRest (Ix := Unit) (Name := ℕ) (U := UR sig nD τ) (Lvl := ℕ) spec0 c (V19 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V19 m ρ c) (A_eq0 (V19 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : (Pipeline.ΦA spec0 c : sProp 𝕄) ⊢ (pdats m ρ 0 c).Φ 0 := (start0_of c).trans (hin0 (V19 m ρ) c)
    unfold Pipeline.ΦA at hΦ
    iintro ⟨Hp, -, Hr⟩
    iapply hΦ
    isplitl [Hr]; · iexact Hr
    iexact Hp
  hout c := by
    have hΦ : (pdats m ρ 0 c).Φ (Fin.last cfg0.N) ⊢ (Pipeline.ΦA spec0 c : sProp 𝕄) := (hout0 (V19 m ρ) c).trans (of_start0 c)
    unfold Pipeline.ΦA at hΦ
    rw [Pipeline.ownSems0_none]
    iintro HΦ
    ihave H := hΦ $$ HΦ
    icases H with ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V19 m ρ c) (V20 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- `iapply` of a library lemma stated over `pin pcs a p` unifies with the pinned configuration only when unification may
-- unfold plain definitions in a metavariable's type
set_option backward.isDefEq.respectTransparency.types false in
/-- REGION 1 (custom_call 1) over the thread state: entered from every unscoped buffer at `W20`, left at `W21`
    (what the next segment is entered from). Its arrays split out of the unscoped buffers
    (`arrays_of_unscopedBufs`) and put back at the exit contents (`unscopedBufs_of_arrays`); the generator register into the
    class invariant `ΦA` and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V20 m ρ) c).loose
  hwaits := Pipeline.hwaits_of_owed_zero _ _ _ _ L lv 1 fun _ _ => rfl
  pre c := iprop(StableHlo.held (c : Thread nD τ) (Pipeline.ucRefs τ sig) (W20 m ρ c) ∗ R c)
  post c := iprop(StableHlo.held (c : Thread nD τ) (Pipeline.ucRefs τ sig) (W21 m ρ c) ∗ R c)
  X c := iprop(∃ r, prngReg c r)
  Y c := iprop(∃ r, prngReg c r)
  Z c := Pipeline.unscopedRest (Ix := Unit) (Name := ℕ) (U := UR sig nD τ) (Lvl := ℕ) spec1 c (V20 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V20 m ρ c) (A_eq1 (V20 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    have hΦ : (Pipeline.ΦA spec1 c : sProp 𝕄) ⊢ (pdats m ρ 1 c).Φ 0 := (start1_of c).trans (hin1 (V20 m ρ) c)
    unfold Pipeline.ΦA at hΦ
    iintro ⟨Hp, -, Hr⟩
    iapply hΦ
    isplitl [Hr]; · iexact Hr
    iexact Hp
  hout c := by
    have hΦ : (pdats m ρ 1 c).Φ (Fin.last cfg1.N) ⊢ (Pipeline.ΦA spec1 c : sProp 𝕄) := (hout1 (V20 m ρ) c).trans (of_start1 c)
    unfold Pipeline.ΦA at hΦ
    rw [Pipeline.ownSems0_none]
    iintro HΦ
    ihave H := hΦ $$ HΦ
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V20 m ρ c) (V21 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## @main as segments, and the launch -/

/-- @main's 22 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .host (hseg hostOps0_3 hostOps0_3_sub hostOps0_3_fresh (W3 m ρ)),
    .host (hseg hostOps0_4 hostOps0_4_sub hostOps0_4_fresh (W4 m ρ)),
    .host (hseg hostOps0_5 hostOps0_5_sub hostOps0_5_fresh (W5 m ρ)),
    .host (hseg hostOps0_6 hostOps0_6_sub hostOps0_6_fresh (W6 m ρ)),
    .host (hseg hostOps0_7 hostOps0_7_sub hostOps0_7_fresh (W7 m ρ)),
    .host (hseg hostOps0_8 hostOps0_8_sub hostOps0_8_fresh (W8 m ρ)),
    .host (hseg hostOps0_9 hostOps0_9_sub hostOps0_9_fresh (W9 m ρ)),
    .host (hseg hostOps0_10 hostOps0_10_sub hostOps0_10_fresh (W10 m ρ)),
    .host (hseg hostOps0_11 hostOps0_11_sub hostOps0_11_fresh (W11 m ρ)),
    .host (hseg hostOps0_12 hostOps0_12_sub hostOps0_12_fresh (W12 m ρ)),
    .host (hseg hostOps0_13 hostOps0_13_sub hostOps0_13_fresh (W13 m ρ)),
    .host (hseg hostOps0_14 hostOps0_14_sub hostOps0_14_fresh (W14 m ρ)),
    .host (hseg hostOps0_15 hostOps0_15_sub hostOps0_15_fresh (W15 m ρ)),
    .host (hseg hostOps0_16 hostOps0_16_sub hostOps0_16_fresh (W16 m ρ)),
    .host (hseg hostOps0_17 hostOps0_17_sub hostOps0_17_fresh (W17 m ρ)),
    .host (hseg hostOps0_18 hostOps0_18_sub hostOps0_18_fresh (W18 m ρ)),
    .region (reg0 m ρ),
    .region (reg1 m ρ),
    .host (hseg hostOps2 hostOps2_sub hostOps2_fresh (W21 m ρ)) ]
/-- @main IS the run of the segments: `Gen.main_chain`, then the segments' run against that chain by the kernel's
    definitional check (`chain_rfl`). -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- THE WHOLE RUN: from any memory with zero counters, every weakly fair execution of the kernel terminates, nothing
    faulting, every final state holding every unscoped buffer at the last boundary's contents and every counter at zero. -/
theorem run_whole : θ_run defs (onTc (τ := τ) (main (F := F))) ⟨m, fun _ => 0, ρ⟩ (fun r =>
      (∀ c : Dev nD, ∀ b ∈ Pipeline.ucRefs τ sig, r.2.mem (((c : Thread nD τ)).1, b) = W22 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h hz => ⟨h, funext fun g => hz g (.inr (no_unscoped g.2))⟩)

/-- THE FRAME: the argument arrays end as launched and every semaphore counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  (θ_run defs _ _).mono (fun _ h => ⟨fun c =>
      ⟨(h.1 c _ (mem_uc main_arg0 (by decide))).trans (W22_main_arg0 m ρ c),
       (h.1 c _ (mem_uc main_arg1 (by decide))).trans (W22_main_arg1 m ρ c),
       (h.1 c _ (mem_uc main_arg2 (by decide))).trans (W22_main_arg2 m ρ c),
       (h.1 c _ (mem_uc main_arg3 (by decide))).trans (W22_main_arg3 m ρ c),
       (h.1 c _ (mem_uc main_arg4 (by decide))).trans (W22_main_arg4 m ρ c),
       (h.1 c _ (mem_uc main_arg5 (by decide))).trans (W22_main_arg5 m ρ c),
       (h.1 c _ (mem_uc main_arg6 (by decide))).trans (W22_main_arg6 m ρ c),
       (h.1 c _ (mem_uc main_arg7 (by decide))).trans (W22_main_arg7 m ρ c),
       (h.1 c _ (mem_uc main_arg8 (by decide))).trans (W22_main_arg8 m ρ c),
       (h.1 c _ (mem_uc main_arg9 (by decide))).trans (W22_main_arg9 m ρ c)⟩, h.2⟩) (run_whole m ρ)

end Cert.KernelIdeal.Whole

end
-- ==== Proof.Ints.lean ====
/-
  Hand-written, untrusted. The INTEGER part of the two bodies on one element, as functions of 32-bit words, and the
  equations between the kernel's spelling and the reference's:

    * the kernel takes |q| and sign(q)*p by the mask `q >> 31` (`mask_abs`, `mask_sign`), the reference by `abs` and `sign`;
    * the kernel shifts left by `max(-t, 0)` and then right by `clip(t, 0, 31)`, the reference selects one shift (`two_shifts`);
    * the kernel's table holds `1 << (k - 1)` and the shift count `k` put to 31 outside 0 .. 31, the reference shifts by `k`
      as it is: a right shift by 32 or more fills with the sign, as one by 31 does (`shrsi_clipped`).
-/
module

public import Idealize.ShloMosaic.Lib.Pointwise

@[expose] public section

namespace Cert.Proof.Ints

open Idealize.ShloMosaic

/-! ## The two spellings -/

/-- The kernel's requantiser on one element: `v` over the table's multiplier, rounding word and shift count. -/
def kReq (half pre v m rnd s : BitVec 32) : BitVec 8 :=
  BitVec.setWidth 8 (IntOp.minsi (127#32) (IntOp.maxsi (4294967169#32)
    (IntOp.shrsi .vector (IntOp.addi (IntOp.muli (IntOp.shrsi .vector (IntOp.addi v half) pre) m) rnd) s)))

/-- The reference's requantiser on one element: `v` over the multiplier and the exponent word `k`. -/
def rReq (half pre v m k : BitVec 32) : BitVec 8 :=
  BitVec.setWidth 8 (IntOp.minsi (127#32) (IntOp.maxsi (4294967169#32)
    (IntOp.shrsi .vector (IntOp.addi (IntOp.muli (IntOp.shrsi .vector (IntOp.addi v half) pre) m)
      (IntOp.shli .vector (1#32) (IntOp.subi k 1#32))) k)))

/-- The rounding word of the kernel's table. -/
def rndOf (k : BitVec 32) : BitVec 32 := IntOp.shli .host (1#32) (IntOp.subi k 1#32)

/-- The shift count of the kernel's table. -/
def shiftOf (k : BitVec 32) : BitVec 32 :=
  Scalar.select (IntOp.ori (IntOp.cmpi .slt k 0#32) (IntOp.cmpi .sgt k 31#32)) (31#32) k

/-- The left shift count of the kernel's table. -/
def leftOf (t : BitVec 32) : BitVec 32 := IntOp.maxsi (-t) 0#32

/-- The right shift count of the kernel's table. -/
def rightOf (t : BitVec 32) : BitVec 32 := IntOp.minsi (31#32) (IntOp.maxsi (0#32) t)

/-- The kernel's integer GELU on one element `q`, over its table's words. -/
def kGelu (q l r b c n o : BitVec 32) : BitVec 32 :=
  IntOp.muli q (IntOp.addi (IntOp.shrsi .vector (IntOp.subi (IntOp.xori
    (IntOp.addi (IntOp.muli
      (IntOp.addi (IntOp.minsi (IntOp.shrsi .vector (IntOp.shli .vector
        (IntOp.subi (IntOp.xori q (IntOp.shrsi .vector q 31#32)) (IntOp.shrsi .vector q 31#32)) l) r) (IntOp.subi (0#32) b)) b)
      (IntOp.addi (IntOp.minsi (IntOp.shrsi .vector (IntOp.shli .vector
        (IntOp.subi (IntOp.xori q (IntOp.shrsi .vector q 31#32)) (IntOp.shrsi .vector q 31#32)) l) r) (IntOp.subi (0#32) b)) b)) c)
    (IntOp.shrsi .vector q 31#32)) (IntOp.shrsi .vector q 31#32)) n) o)

/-- The reference's integer GELU on one element `q`. -/
def rGelu (q t b c n o : BitVec 32) : BitVec 32 :=
  IntOp.muli q (IntOp.addi (IntOp.shrsi .vector (IntOp.muli
    (IntOp.subi (BitVec.setWidth 32 (IntOp.cmpi .sgt q 0#32)) (BitVec.setWidth 32 (IntOp.cmpi .slt q 0#32)))
    (IntOp.addi (IntOp.muli
      (IntOp.addi (IntOp.minsi (Scalar.select (IntOp.cmpi .sge t 0#32)
        (IntOp.shrsi .vector (IntOp.absi q) (IntOp.maxsi t 0#32))
        (IntOp.shli .vector (IntOp.absi q) (IntOp.maxsi (IntOp.subi (0#32) t) 0#32))) (IntOp.subi (0#32) b)) b)
      (IntOp.addi (IntOp.minsi (Scalar.select (IntOp.cmpi .sge t 0#32)
        (IntOp.shrsi .vector (IntOp.absi q) (IntOp.maxsi t 0#32))
        (IntOp.shli .vector (IntOp.absi q) (IntOp.maxsi (IntOp.subi (0#32) t) 0#32))) (IntOp.subi (0#32) b)) b)) c)) n) o)

/-! ## Shifts -/

theorem sshiftRight_31 (x : BitVec 32) : x.sshiftRight 31 = if x.msb then BitVec.allOnes 32 else 0 := by
  apply BitVec.eq_of_getLsbD_eq
  intro i hi
  rw [BitVec.getLsbD_sshiftRight]
  have h1 : ¬ 32 ≤ i := by omega
  by_cases h0 : i = 0
  · subst h0
    cases hm : x.msb <;> simp [BitVec.msb_eq_getLsbD_last] at hm ⊢ <;> exact hm
  · have h2 : ¬ (31 + i < 32) := by omega
    cases hm : x.msb
    · simp [h1, h2]
    · rw [if_pos rfl, BitVec.getLsbD_allOnes]
      simp [h1, h2, hi, hm]

/-- A right shift by 32 or more is one by 31. -/
theorem shrsi_ge (u : ArithUnit) (x y : BitVec 32) (h : 31 ≤ y.toNat) : IntOp.shrsi u x y = x.sshiftRight 31 := by
  unfold IntOp.shrsi
  split
  · have : y.toNat = 31 := by omega
    rw [BitVec.sshiftRight', this]
  · rw [sshiftRight_31]
    simp [IntOp.cornerWord]

theorem shrsi_31 (u : ArithUnit) (x : BitVec 32) : IntOp.shrsi u x 31#32 = if x.msb then BitVec.allOnes 32 else 0 := by
  rw [shrsi_ge u x _ (by decide), sshiftRight_31]

theorem shli_zero (u : ArithUnit) (x : BitVec 32) : IntOp.shli u x 0#32 = x := by
  simp [IntOp.shli]

theorem shrsi_zero (u : ArithUnit) (x : BitVec 32) : IntOp.shrsi u x 0#32 = x := by
  simp [IntOp.shrsi, BitVec.sshiftRight']

theorem shli_unit (u u' : ArithUnit) (x y : BitVec 32) : IntOp.shli u x y = IntOp.shli u' x y := by
  simp [IntOp.shli, IntOp.cornerWord]

theorem toNat_of_neg {k : BitVec 32} (h : k.slt 0#32 = true) : 31 ≤ k.toNat := by
  have := (BitVec.slt_zero_eq_msb (x := k)).symm.trans h
  rw [BitVec.msb_eq_decide] at this
  have := of_decide_eq_true this
  omega

theorem toNat_of_gt {k : BitVec 32} (h : BitVec.slt 31#32 k = true) : 31 ≤ k.toNat := by
  rw [BitVec.slt_iff_toInt_lt] at h
  have e : (31#32).toInt = 31 := by decide
  rw [e, BitVec.toInt_eq_toNat_cond] at h
  split at h <;> omega

/-- The table's shift count shifts as `k` itself does. -/
theorem shrsi_clipped (u : ArithUnit) (x k : BitVec 32) : IntOp.shrsi u x (shiftOf k) = IntOp.shrsi u x k := by
  unfold shiftOf
  cases h1 : k.slt 0#32
  · cases h2 : BitVec.slt 31#32 k
    · have : IntOp.ori (IntOp.cmpi .slt k 0#32) (IntOp.cmpi .sgt k 31#32) = 0#1 := by simp [IntOp.ori, IntOp.cmpi, h1, h2]
      rw [this]; rfl
    · have : IntOp.ori (IntOp.cmpi .slt k 0#32) (IntOp.cmpi .sgt k 31#32) = 1#1 := by simp [IntOp.ori, IntOp.cmpi, h1, h2]
      rw [this]
      show IntOp.shrsi u x 31#32 = _
      rw [shrsi_ge u x _ (by decide), shrsi_ge u x k (toNat_of_gt h2)]
  · have : IntOp.ori (IntOp.cmpi .slt k 0#32) (IntOp.cmpi .sgt k 31#32) = 1#1 := by
      cases h2 : BitVec.slt 31#32 k <;> simp [IntOp.ori, IntOp.cmpi, h1, h2]
    rw [this]
    show IntOp.shrsi u x 31#32 = _
    rw [shrsi_ge u x _ (by decide), shrsi_ge u x k (toNat_of_neg h1)]

/-- The two requantisers agree, the kernel's over its table's words. -/
theorem req_eq (half pre v m k : BitVec 32) : kReq half pre v m (rndOf k) (shiftOf k) = rReq half pre v m k := by
  unfold kReq rReq rndOf
  rw [shrsi_clipped, shli_unit .host .vector]

/-! ## Absolute value and sign -/

theorem mask_neg (p : BitVec 32) : IntOp.subi (IntOp.xori p (BitVec.allOnes 32)) (BitVec.allOnes 32) = -p := by
  unfold IntOp.subi IntOp.xori
  rw [BitVec.xor_allOnes, BitVec.neg_eq_not_add, ← BitVec.neg_one_eq_allOnes, BitVec.sub_neg]

theorem mask_pos (p : BitVec 32) : IntOp.subi (IntOp.xori p 0#32) 0#32 = p := by
  simp [IntOp.subi, IntOp.xori]

theorem mask_abs (q : BitVec 32) :
    IntOp.subi (IntOp.xori q (IntOp.shrsi .vector q 31#32)) (IntOp.shrsi .vector q 31#32) = IntOp.absi q := by
  rw [shrsi_31, IntOp.absi]
  cases h : q.msb
  · exact mask_pos q
  · exact mask_neg q

theorem sign_neg {q : BitVec 32} (h : q.msb = true) :
    IntOp.subi (BitVec.setWidth 32 (IntOp.cmpi .sgt q 0#32)) (BitVec.setWidth 32 (IntOp.cmpi .slt q 0#32)) = -1#32 := by
  have h1 : q.slt 0#32 = true := BitVec.slt_zero_eq_msb.trans h
  have h2 : BitVec.slt 0#32 q = false := by
    have h3 := BitVec.slt_iff_toInt_lt.mp h1
    cases h4 : BitVec.slt 0#32 q
    · rfl
    · have h5 := BitVec.slt_iff_toInt_lt.mp h4; omega
  simp [IntOp.cmpi, h1, h2, IntOp.subi]

theorem sign_pos {q : BitVec 32} (h : q.msb = false) (h0 : q ≠ 0#32) :
    IntOp.subi (BitVec.setWidth 32 (IntOp.cmpi .sgt q 0#32)) (BitVec.setWidth 32 (IntOp.cmpi .slt q 0#32)) = 1#32 := by
  have h1 : q.slt 0#32 = false := BitVec.slt_zero_eq_msb.trans h
  have h2 : BitVec.slt 0#32 q = true := by
    rw [BitVec.slt_iff_toInt_lt]
    have e : (0#32).toInt = 0 := by decide
    have h3 : ¬ q.toInt < (0#32).toInt := fun hh => by
      rw [← BitVec.slt_iff_toInt_lt, h1] at hh; exact Bool.false_ne_true hh
    have h4 : q.toInt ≠ 0 := fun hh => h0 (BitVec.eq_of_toInt_eq (hh.trans e.symm))
    omega
  simp [IntOp.cmpi, h1, h2, IntOp.subi]

/-- `g = q * (sign(q) p >> n + one)` by the mask and by the sign: where they differ, `q` is 0. -/
theorem mask_sign (q p n o : BitVec 32) :
    IntOp.muli q (IntOp.addi (IntOp.shrsi .vector
      (IntOp.subi (IntOp.xori p (IntOp.shrsi .vector q 31#32)) (IntOp.shrsi .vector q 31#32)) n) o)
    = IntOp.muli q (IntOp.addi (IntOp.shrsi .vector (IntOp.muli
      (IntOp.subi (BitVec.setWidth 32 (IntOp.cmpi .sgt q 0#32)) (BitVec.setWidth 32 (IntOp.cmpi .slt q 0#32))) p) n) o) := by
  by_cases h0 : q = 0#32
  · subst h0
    simp [IntOp.muli]
  · congr 3
    rw [shrsi_31]
    cases h : q.msb
    · rw [sign_pos h h0]
      refine (mask_pos p).trans ?_
      simp [IntOp.muli]
    · rw [sign_neg h]
      refine (mask_neg p).trans ?_
      unfold IntOp.muli
      rw [BitVec.neg_mul, BitVec.one_mul]

/-! ## The two shifts of |q| -/

theorem neg_slt_zero_of_pos {t : BitVec 32} (h : t.slt 0#32 = false) : BitVec.slt 0#32 (-t) = false := by
  have e : (0#32).toInt = 0 := by decide
  cases h4 : BitVec.slt 0#32 (-t)
  · rfl
  · have h5 := BitVec.slt_iff_toInt_lt.mp h4
    have h3 : ¬ t.toInt < (0#32).toInt := fun hh => by
      rw [← BitVec.slt_iff_toInt_lt, h] at hh; exact Bool.false_ne_true hh
    rw [BitVec.toInt_neg] at h5
    have hb : t.toInt < 2 ^ 31 := by have := BitVec.toInt_lt (x := t); simpa using this
    rw [e] at h5 h3
    rw [Int.bmod_def] at h5
    split at h5 <;> omega

/-- One shift left and one right, of which one is by 0, against the selected one. -/
theorem two_shifts (x t : BitVec 32) :
    IntOp.shrsi .vector (IntOp.shli .vector x (leftOf t)) (rightOf t)
    = Scalar.select (IntOp.cmpi .sge t 0#32) (IntOp.shrsi .vector x (IntOp.maxsi t 0#32))
        (IntOp.shli .vector x (IntOp.maxsi (IntOp.subi (0#32) t) 0#32)) := by
  have e0 : (0#32).toInt = 0 := by decide
  have e31 : (31#32).toInt = 31 := by decide
  have hs : IntOp.subi (0#32) t = -t := by simp [IntOp.subi]
  cases h : t.slt 0#32
  · have hge : IntOp.cmpi .sge t 0#32 = 1#1 := by
      have : BitVec.sle 0#32 t = true := by
        rw [BitVec.sle_iff_toInt_le]
        have h3 : ¬ t.toInt < (0#32).toInt := fun hh => by
          rw [← BitVec.slt_iff_toInt_lt, h] at hh; exact Bool.false_ne_true hh
        omega
      simp [IntOp.cmpi, this]
    have hl : leftOf t = 0#32 := by
      unfold leftOf IntOp.maxsi
      rw [neg_slt_zero_of_pos h]; rfl
    have hmax : IntOp.maxsi t 0#32 = t := by
      unfold IntOp.maxsi
      split
      · rfl
      · rename_i h2
        have h3 : ¬ t.toInt < (0#32).toInt := fun hh => by
          rw [← BitVec.slt_iff_toInt_lt, h] at hh; exact Bool.false_ne_true hh
        have h4 : ¬ (0#32).toInt < t.toInt := fun hh => h2 (BitVec.slt_iff_toInt_lt.mpr hh)
        exact BitVec.eq_of_toInt_eq (by omega)
    have hmax' : IntOp.maxsi (0#32) t = t := by
      unfold IntOp.maxsi; rw [h]; rfl
    rw [hge, hl, shli_zero, hmax]
    show _ = IntOp.shrsi .vector x t
    unfold rightOf
    rw [hmax']
    unfold IntOp.minsi
    split
    · rename_i h2
      rw [shrsi_ge _ _ _ (by decide), shrsi_ge _ _ _ (toNat_of_gt h2)]
    · rfl
  · have hge : IntOp.cmpi .sge t 0#32 = 0#1 := by
      have : BitVec.sle 0#32 t = false := by
        cases h4 : BitVec.sle 0#32 t
        · rfl
        · have h5 := BitVec.sle_iff_toInt_le.mp h4
          have h6 := BitVec.slt_iff_toInt_lt.mp h
          omega
      simp [IntOp.cmpi, this]
    have hr : rightOf t = 0#32 := by
      have : IntOp.maxsi (0#32) t = 0#32 := by unfold IntOp.maxsi; rw [h]; rfl
      unfold rightOf
      rw [this]; decide
    rw [hge, hr, shrsi_zero, hs]
    rfl

/-- The two integer GELUs agree, the kernel's over its table's words. -/
theorem gelu_eq (q t b c n o : BitVec 32) : kGelu q (leftOf t) (rightOf t) b c n o = rGelu q t b c n o := by
  unfold kGelu rGelu
  rw [mask_sign, mask_abs, two_shifts]

end Cert.Proof.Ints
-- ==== Proof.Scalars.lean ====
/-
  Hand-written, untrusted. ONE ELEMENT of each result over Ideal, for the kernel and for the reference: a product of a row and a
  column of 8-bit codes (`dotAt`), then the integer words of Proof/Ints.lean. The kernel reads its words from a table, the
  reference from separate rows; `up_eq` and `down_eq` say that the two spellings agree once the table's words are those made
  of the reference's rows.
-/
module

public import proofs.«01_k».proof.Proof.Ints
public import Idealize.ShloMosaic.Lib.Pointwise

@[expose] public section

noncomputable section

namespace Cert.Proof.Scalars

open Idealize.ShloMosaic Cert.Proof.Ints

/-- The product of a row and a column of codes, the codes read as bf16. -/
def dotAt {K : ℕ} (a b : Fin K → BitVec 8) : Ideal .f32 :=
  ∑ x : Fin K, (FloatOps.sitofp (F := Ideal) .bf16 (a x) * FloatOps.sitofp (F := Ideal) .bf16 (b x))

/-- The integer of a product and its bias. -/
def accAt {K : ℕ} (a b : Fin K → BitVec 8) (bias : BitVec 32) : BitVec 32 :=
  IntOp.addi (FloatOps.fptosi (F := Ideal) (φ := .f32) 32 (dotAt a b)) bias

/-- One code of the hidden layer as the kernel computes it, over the ten words of its table. -/
def upK {K : ℕ} (a b : Fin K → BitVec 8) (T : Fin 10 → BitVec 32) : BitVec 8 :=
  kReq 8192#32 14#32 (kGelu (accAt a b (T 0)) (T 1) (T 2) (T 3) (T 4) (T 5) (T 6)) (T 7) (T 8) (T 9)

/-- One code of the hidden layer as the reference computes it. -/
def upR {K : ℕ} (a b : Fin K → BitVec 8) (b1 t b' c n o m k : BitVec 32) : BitVec 8 :=
  rReq 8192#32 14#32 (rGelu (accAt a b b1) t b' c n o) m k

/-- One code of the result as the kernel computes it, over the four words of its table. -/
def downK {K : ℕ} (a b : Fin K → BitVec 8) (T : Fin 4 → BitVec 32) : BitVec 8 :=
  kReq 8#32 4#32 (accAt a b (T 0)) (T 1) (T 2) (T 3)

/-- One code of the result as the reference computes it. -/
def downR {K : ℕ} (a b : Fin K → BitVec 8) (b2 m k : BitVec 32) : BitVec 8 :=
  rReq 8#32 4#32 (accAt a b b2) m k

/-- The hidden layer's code, with the kernel's table made of the reference's words. -/
theorem up_eq {K : ℕ} (a b : Fin K → BitVec 8) (T : Fin 10 → BitVec 32) (t k : BitVec 32)
    (h1 : T 1 = leftOf t) (h2 : T 2 = rightOf t) (h8 : T 8 = rndOf k) (h9 : T 9 = shiftOf k) :
    upK a b T = upR a b (T 0) t (T 3) (T 4) (T 5) (T 6) (T 7) k := by
  unfold upK upR
  rw [h1, h2, h8, h9, gelu_eq, req_eq]

/-- The result's code, with the kernel's table made of the reference's words. -/
theorem down_eq {K : ℕ} (a b : Fin K → BitVec 8) (T : Fin 4 → BitVec 32) (k : BitVec 32)
    (h2 : T 2 = rndOf k) (h3 : T 3 = shiftOf k) :
    downK a b T = downR a b (T 0) (T 1) k := by
  unfold downK downR
  rw [h2, h3, req_eq]

/-- The hidden layer's codes agree when the rows, the columns and the table's words do. -/
theorem up_of {K : ℕ} {a a' b b' : Fin K → BitVec 8} {T : Fin 10 → BitVec 32} {b1 t b3 c n o m k : BitVec 32}
    (ha : a = a') (hb : b = b') (h0 : T 0 = b1) (h1 : T 1 = leftOf t) (h2 : T 2 = rightOf t) (h3 : T 3 = b3) (h4 : T 4 = c)
    (h5 : T 5 = n) (h6 : T 6 = o) (h7 : T 7 = m) (h8 : T 8 = rndOf k) (h9 : T 9 = shiftOf k) :
    upR a' b' b1 t b3 c n o m k = upK a b T := by
  rw [up_eq a b T t k h1 h2 h8 h9, ha, hb, h0, h3, h4, h5, h6, h7]

/-- The result's codes agree when the rows, the columns and the table's words do. -/
theorem down_of {K : ℕ} {a a' b b' : Fin K → BitVec 8} {T : Fin 4 → BitVec 32} {b2 m k : BitVec 32}
    (ha : a = a') (hb : b = b') (h0 : T 0 = b2) (h1 : T 1 = m) (h2 : T 2 = rndOf k) (h3 : T 3 = shiftOf k) :
    downR a' b' b2 m k = downK a b T := by
  rw [down_eq a b T k h2 h3, ha, hb, h0, h1]

end Cert.Proof.Scalars

end
-- ==== Proof.UpKernel.lean ====
/-
  Hand-written, untrusted. `KernelIdeal`: the first call's RESULT ARRAY, over any contents of the buffers at its start: the code at row i and column j is `upK` of row i of the
  activations, column j of the weights and column j of the table, as the region finds them.
-/
module

public import proofs.«01_k».proof.Proof.WholeIdealUp
public import proofs.«01_k».proof.Proof.Scalars
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.UpKernel

open Cert.KernelIdeal Cert.KernelIdeal.Gen Cert.KernelIdeal.Whole Idealize.ShloMosaic Idealize.ShloMosaic.TcCoe Idealize.SL.Sem
open Idealize.ShloMosaic.Pipeline (Dat)
open Cert.Proof.Ints Cert.Proof.Scalars

variable (V : (c : Dev nD) → (b : Ref sig .tc) → Buf (Elt Ideal) ((c : Thread nD τ).loc b))

/-- The windows' block indices: the activations at (0, 0), the others at (0, t). -/
theorem idx : ∀ t : Fin cfg0.N, win0_0.index t 0 = 0 ∧ win0_0.index t 1 = 0 ∧ win0_1.index t 0 = 0 ∧ win0_1.index t 1 = t.val
    ∧ win0_2.index t 0 = 0 ∧ win0_2.index t 1 = t.val ∧ win0_3.index t 0 = 0 ∧ win0_3.index t 1 = t.val := by
  decide +kernel

/-- The first window's block is the whole array at every point. -/
theorem rd0 (A : Buf (Elt Ideal) (((0 : Dev nD) : Thread nD τ).loc main_v4)) (t : Fin cfg0.N) (y : S1536x3584.Idx) :
    ((cfg0.win 0).blk t).view.read (Elt Ideal) A y = A y := by
  obtain ⟨h1, h2, -⟩ := idx t
  blk_ext [h1, h2]

/-- The first window's block is the whole array of activations at every point. -/
theorem blk0 (c : Dev nD) (t : Fin cfg0.N) : (iblk0 V c 0 t : Vec Ideal S1536x3584 .i8) = V c main_v4 :=
  funext fun y => rd0 _ t y

/-- The second window's block at point t holds columns 512 t, …, 512 t + 511. -/
theorem rd1 (A : Buf (Elt Ideal) (((0 : Dev nD) : Thread nD τ).loc main_arg2)) (t : Fin cfg0.N) (x : Fin 3584) (j : Fin 512)
    (J : Fin 18944) (hJ : J.val = t.val * 512 + j.val) :
    ((cfg0.win 1).blk t).view.read (Elt Ideal) A (ix2 x j) = A (ix2 x J) := by
  obtain ⟨-, -, h1, h2, -⟩ := idx t
  blk_ext [h1, h2]

/-- The table's block at point t holds columns 512 t, …, 512 t + 511. -/
theorem rd2 (A : Buf (Elt Ideal) (((0 : Dev nD) : Thread nD τ).loc main_v190)) (t : Fin cfg0.N) (x : Fin 10) (j : Fin 512)
    (J : Fin 18944) (hJ : J.val = t.val * 512 + j.val) :
    ((cfg0.win 2).blk t).view.read (Elt Ideal) A (ix2 x j) = A (ix2 x J) := by
  obtain ⟨-, -, -, -, h1, h2, -⟩ := idx t
  blk_ext [h1, h2]

/-- At every point the scratch holds the activations as bf16. -/
theorem scratch (c : Dev nD) (n : ℕ) (hn : n < cfg0.N) : (outsAt0 V c n hn).2 = k0_pay2 (V c main_v4) := by
  induction n with
  | zero =>
    rw [outsAt0_A V c ⟨0, hn⟩ rfl]
    frame_out
    rw [blk0]
  | succ n ih =>
    by_cases h0 : (n + 1) % 37 = 0
    · rw [outsAt0_A V c ⟨n + 1, hn⟩ h0]
      frame_out
      rw [blk0]
    · rw [outsAt0_B V c ⟨n + 1, hn⟩ h0]
      exact ih (Nat.lt_of_succ_lt hn)

/-- The body's result at a point, at one element of its block: `upK` of the point's blocks. -/
theorem pay (X : Vec Ideal S1536x3584 .i8) (W : Vec Ideal S3584x512 .i8) (T : Vec Ideal S10x512 .i32)
    (i : Fin 1536) (j : Fin 512) :
    k0_pay1 (k0_pay3 (k0_pay2 (F := Ideal) X) W (View.ld T (Rect.unit ![0, 0] ![1, 512] inb_S10x512_S1x512_0_0)))
      (k0_pay4 (k0_pay2 (F := Ideal) X) W
        (View.ld T (Rect.unit ![0, 0] ![1, 512] inb_S10x512_S1x512_0_0))
        (View.ld T (Rect.unit ![1, 0] ![1, 512] inb_S10x512_S1x512_1_0))
        (View.ld T (Rect.unit ![2, 0] ![1, 512] inb_S10x512_S1x512_2_0))
        (View.ld T (Rect.unit ![3, 0] ![1, 512] inb_S10x512_S1x512_3_0))
        (View.ld T (Rect.unit ![4, 0] ![1, 512] inb_S10x512_S1x512_4_0)))
      (View.ld T (Rect.unit ![5, 0] ![1, 512] inb_S10x512_S1x512_5_0))
      (View.ld T (Rect.unit ![6, 0] ![1, 512] inb_S10x512_S1x512_6_0))
      (View.ld T (Rect.unit ![7, 0] ![1, 512] inb_S10x512_S1x512_7_0))
      (View.ld T (Rect.unit ![8, 0] ![1, 512] inb_S10x512_S1x512_8_0))
      (View.ld T (Rect.unit ![9, 0] ![1, 512] inb_S10x512_S1x512_9_0)) (ix2 i j)
    = upK (fun x => X (ix2 i x)) (fun x => W (ix2 x j)) (fun r => T (ix2 r j)) := by
  pointwise [k0_pay1, k0_pay2, k0_pay3, k0_pay4]
  rfl

/-- The output block at a point, at one element. -/
theorem out (c : Dev nD) (t : Fin cfg0.N) (i : Fin 1536) (j : Fin 512) :
    (outsAt0 V c t.val t.isLt).1 (ix2 i j) = upK (fun x => (V c main_v4 : Vec Ideal S1536x3584 .i8) (ix2 i x))
      (fun x => (iblk0 V c 1 t : Vec Ideal S3584x512 .i8) (ix2 x j))
      (fun r => (iblk0 V c 2 t : Vec Ideal S10x512 .i32) (ix2 r j)) := by
  by_cases h0 : t.val % 37 = 0
  · rw [outsAt0_A V c t h0]
    frame_out
    rw [blk0]
    exact pay _ _ _ i j
  · rw [outsAt0_B V c t h0]
    frame_out
    rw [read_unread_whole, scratch]
    exact pay _ _ _ i j

/-- The array of the result's codes. -/
def result (c : Dev nD) : Vec Ideal S1536x18944 .i8 := fun y => upK (fun x => (V c main_v4 : Vec Ideal S1536x3584 .i8) (ix2 (y 0) x))
      (fun x => (V c main_arg2 : Vec Ideal S3584x18944 .i8) (ix2 x (y 1)))
      (fun r => (V c main_v190 : Vec Ideal S10x18944 .i32) (ix2 r (y 1)))

/-- The result array after the run. -/
theorem fin (c : Dev nD) : ((dat0 V c).arrAt 3 cfg0.N : Vec Ideal S1536x18944 .i8) = result V c := by
  show _ = fun y : S1536x18944.Idx => _
  refine (dat0 V c).arrAt_eq_of_covers 3 _ (by decide +kernel) fun t hf y => ?_
  obtain ⟨-, -, -, -, -, -, h1, h2⟩ := idx t
  blk_simp
  rw [after0_3]
  idx_vars y
  rw [out]
  have e0 : ((View.whole main_v248).slice (win0_3.rect t)).emb (ix2 y0 y1) 0 = y0 := by
    apply Fin.ext
    blk_simp [h1, h2]
  have e1 : (((View.whole main_v248).slice (win0_3.rect t)).emb (ix2 y0 y1) 1).val = t.val * 512 + y1.val := by
    blk_simp [h1, h2]
  unfold result
  rw [e0]
  refine congr (congrArg (upK _) (funext fun x => ?_)) (funext fun r => ?_)
  · exact rd1 _ t x y1 _ e1
  · exact rd2 _ t r y1 _ e1

end Cert.Proof.UpKernel

end
-- ==== Proof.DownKernel.lean ====
/-
  Hand-written, untrusted. `KernelIdeal`: the second call's RESULT ARRAY, over any contents of the buffers at its start: the code at row i and column j is `downK` of row i of
  the hidden codes, column j of the weights and column j of the table, as the region finds them. The kernel walks the
  18944 hidden columns in 37 blocks of 512 and adds the block products up in its scratch; over Ideal they are one product.
-/
module

public import proofs.«01_k».proof.Proof.WholeIdealDown
public import proofs.«01_k».proof.Proof.Scalars
public import Idealize.ShloMosaic.Lib.Pipeline.ValueKit
public import Idealize.ShloMosaic.Lib.Pipeline.ReadBack
public import Idealize.ShloMosaic.Lib.Pointwise
public import Idealize.ShloMosaic.Lib.Claim

@[expose] public section

set_option maxRecDepth 16384

noncomputable section

namespace Cert.Proof.DownKernel

open Cert.KernelIdeal Cert.KernelIdeal.Gen Cert.KernelIdeal.Whole Idealize.ShloMosaic Idealize.ShloMosaic.TcCoe Idealize.SL.Sem
open Idealize.ShloMosaic.Pipeline (Dat)
open Cert.Proof.Ints Cert.Proof.Scalars

variable (V : (c : Dev nD) → (b : Ref sig .tc) → Buf (Elt Ideal) ((c : Thread nD τ).loc b))

/-- The windows' block indices at point t = 37 j + k: the hidden codes at (0, k), the weights at (k, j), the others at (0, j). -/
theorem idx : ∀ t : Fin cfg1.N, win1_0.index t 0 = 0 ∧ win1_0.index t 1 = t.val % 37 ∧ win1_1.index t 0 = t.val % 37
    ∧ win1_1.index t 1 = t.val / 37 ∧ win1_2.index t 0 = 0 ∧ win1_2.index t 1 = t.val / 37
    ∧ win1_3.index t 0 = 0 ∧ win1_3.index t 1 = t.val / 37 := by
  decide +kernel

/-- The hidden codes' block at point t holds columns 512 k, …, 512 k + 511. -/
theorem rd0 (A : Buf (Elt Ideal) (((0 : Dev nD) : Thread nD τ).loc main_v248)) (t : Fin cfg1.N) (i : Fin 1536) (x : Fin 512)
    (X : Fin 18944) (hX : X.val = t.val % 37 * 512 + x.val) :
    ((cfg1.win 0).blk t).view.read (Elt Ideal) A (ix2 i x) = A (ix2 i X) := by
  obtain ⟨h1, h2, -⟩ := idx t
  blk_ext [h1, h2]

/-- The weights' block at point t holds rows 512 k, … and columns 1792 j, …. -/
theorem rd1 (A : Buf (Elt Ideal) (((0 : Dev nD) : Thread nD τ).loc main_arg6)) (t : Fin cfg1.N) (x : Fin 512) (j : Fin 1792)
    (X : Fin 18944) (hX : X.val = t.val % 37 * 512 + x.val) (J : Fin 3584) (hJ : J.val = t.val / 37 * 1792 + j.val) :
    ((cfg1.win 1).blk t).view.read (Elt Ideal) A (ix2 x j) = A (ix2 X J) := by
  obtain ⟨-, -, h1, h2, -⟩ := idx t
  blk_ext [h1, h2]

/-- The table's block at point t holds columns 1792 j, …, 1792 j + 1791. -/
theorem rd2 (A : Buf (Elt Ideal) (((0 : Dev nD) : Thread nD τ).loc main_v247)) (t : Fin cfg1.N) (x : Fin 4) (j : Fin 1792)
    (J : Fin 3584) (hJ : J.val = t.val / 37 * 1792 + j.val) :
    ((cfg1.win 2).blk t).view.read (Elt Ideal) A (ix2 x j) = A (ix2 x J) := by
  obtain ⟨-, -, -, -, h1, h2, -⟩ := idx t
  blk_ext [h1, h2]

/-- The zero the scratch starts from. -/
theorem zero_at (y : S1536x1792.Idx) : k1_pay1 (F := Ideal) y = 0 := by
  pointwise [k1_pay1]

/-- One step: the scratch plus the product of the point's blocks. -/
theorem step_at (acc : Vec Ideal S1536x1792 .f32) (X : Vec Ideal S1536x512 .i8) (W : Vec Ideal S512x1792 .i8)
    (y : S1536x1792.Idx) :
    k1_pay2 acc X W y = acc y + dotAt (fun x => X (ix2 (y 0) x)) (fun x => W (ix2 x (y 1))) := by
  idx_vars y
  pointwise [k1_pay2]
  rfl

/-- The write-back at one element. -/
theorem pay (acc : Vec Ideal S1536x1792 .f32) (T : Vec Ideal S4x1792 .i32) (i : Fin 1536) (j : Fin 1792) :
    k1_pay3 acc (View.ld T (Rect.unit ![0, 0] ![1, 1792] inb_S4x1792_S1x1792_0_0))
      (View.ld T (Rect.unit ![1, 0] ![1, 1792] inb_S4x1792_S1x1792_1_0))
      (View.ld T (Rect.unit ![2, 0] ![1, 1792] inb_S4x1792_S1x1792_2_0))
      (View.ld T (Rect.unit ![3, 0] ![1, 1792] inb_S4x1792_S1x1792_3_0)) (ix2 i j)
    = kReq 8#32 4#32 (IntOp.addi (FloatOps.fptosi (F := Ideal) (φ := .f32) 32 (acc (ix2 i j))) (T (ix2 0 j)))
        (T (ix2 1 j)) (T (ix2 2 j)) (T (ix2 3 j)) := by
  pointwise [k1_pay3]
  rfl

/-- The product of the blocks at a point, at one element. -/
def term (c : Dev nD) (t : Fin cfg1.N) (y : S1536x1792.Idx) : Ideal .f32 :=
  dotAt (fun x => (iblk1 V c 0 t : Vec Ideal S1536x512 .i8) (ix2 (y 0) x))
    (fun x => (iblk1 V c 1 t : Vec Ideal S512x1792 .i8) (ix2 x (y 1)))

/-- The scratch after the first point of a run. -/
theorem acc_first (c : Dev nD) (t : Fin cfg1.N) (h : t.val % 37 = 0) (y : S1536x1792.Idx) :
    (outsAt1 V c t.val t.isLt).2 y = (0 : Ideal .f32) + term V c t y := by
  rw [outsAt1_A V c t h (by omega)]
  frame_out
  rw [step_at, zero_at]
  rfl

/-- The scratch after any other point of a run. -/
theorem acc_step (c : Dev nD) (t : Fin cfg1.N) (h : ¬t.val % 37 = 0) (y : S1536x1792.Idx) :
    (outsAt1 V c t.val t.isLt).2 y
      = (outsAt1 V c (t.val - 1) (Nat.lt_of_le_of_lt (Nat.sub_le _ _) t.isLt)).2 y + term V c t y := by
  by_cases h1 : t.val % 37 = 36
  · rw [outsAt1_C V c t h h1]
    frame_out
    rw [read_unread_whole, step_at]
    rfl
  · rw [outsAt1_B V c t h h1]
    frame_out
    rw [read_unread_whole, step_at]
    rfl

/-- The scratch at the last point of a run: the sum of the run's products. -/
theorem acc_last (c : Dev nD) (t : Fin cfg1.N) (h : t.val % 37 = 37 - 1) (y : S1536x1792.Idx) :
    (outsAt1 V c t.val t.isLt).2 y = (0 : Ideal .f32)
      + ∑ s : Fin 37, term V c ⟨37 * (t.val / 37) + s.val, Pipeline.run_point_lt_of_flush t h s⟩ y :=
  Pipeline.eq_sum_fin_of_reset_step_apply_of_flush (fun n h => (outsAt1 V c n h).2) 37 (fun _ => (0 : Ideal .f32)) (term V c)
    (acc_first V c) (acc_step V c) t h y

/-- The scratch at the last point of a run: one product over all 18944 hidden columns. -/
theorem acc_all (c : Dev nD) (t : Fin cfg1.N) (h : t.val % 37 = 37 - 1) (i : Fin 1536) (j : Fin 1792) (J : Fin 3584)
    (hJ : J.val = t.val / 37 * 1792 + j.val) :
    (outsAt1 V c t.val t.isLt).2 (ix2 i j) = dotAt (fun x => (V c main_v248 : Vec Ideal S1536x18944 .i8) (ix2 i x))
      (fun x => (V c main_arg6 : Vec Ideal S18944x3584 .i8) (ix2 x J)) := by
  rw [acc_last V c t h, zero_add]
  unfold term dotAt
  refine Fin.sum_mul_add_congr fun s x hx => ?_
  have hp : (37 * (t.val / 37) + s.val) % 37 = s.val := by omega
  have hq : (37 * (t.val / 37) + s.val) / 37 = t.val / 37 := by omega
  congr 2
  · exact rd0 _ _ i x _ (by simp only [hp])
  · exact rd1 _ _ x j _ (by simp only [hp]) J (by simp only [hq]; exact hJ)

/-- The scratch the last point of a run writes back is the one it leaves. -/
theorem out (c : Dev nD) (t : Fin cfg1.N) (h : t.val % 37 = 36) (i : Fin 1536) (j : Fin 1792) :
    (outsAt1 V c t.val t.isLt).1 (ix2 i j)
    = kReq 8#32 4#32 (IntOp.addi (FloatOps.fptosi (F := Ideal) (φ := .f32) 32 ((outsAt1 V c t.val t.isLt).2 (ix2 i j)))
        ((iblk1 V c 2 t : Vec Ideal S4x1792 .i32) (ix2 0 j)))
        ((iblk1 V c 2 t : Vec Ideal S4x1792 .i32) (ix2 1 j)) ((iblk1 V c 2 t : Vec Ideal S4x1792 .i32) (ix2 2 j))
        ((iblk1 V c 2 t : Vec Ideal S4x1792 .i32) (ix2 3 j)) := by
  rw [outsAt1_C V c t (by omega) h]
  frame_out
  rw [read_unread_whole]
  exact pay _ _ i j

/-- The array of the result's codes. -/
def result (c : Dev nD) : Vec Ideal S1536x3584 .i8 := fun y => downK (fun x => (V c main_v248 : Vec Ideal S1536x18944 .i8) (ix2 (y 0) x))
      (fun x => (V c main_arg6 : Vec Ideal S18944x3584 .i8) (ix2 x (y 1)))
      (fun r => (V c main_v247 : Vec Ideal S4x3584 .i32) (ix2 r (y 1)))

/-- The result array after the run. -/
theorem fin (c : Dev nD) : ((dat1 V c).arrAt 3 cfg1.N : Vec Ideal S1536x3584 .i8) = result V c := by
  show _ = fun y : S1536x3584.Idx => _
  refine (dat1 V c).arrAt_eq_of_covers 3 _ (by decide +kernel) fun t hf y => ?_
  have ht : t.val % 37 = 36 := (flush1_3 t).mp hf
  obtain ⟨-, -, -, -, -, -, h1, h2⟩ := idx t
  blk_simp
  rw [after1_3]
  idx_vars y
  rw [out V c t ht]
  have e0 : ((View.whole main_v249).slice (win1_3.rect t)).emb (ix2 y0 y1) 0 = y0 := by
    apply Fin.ext
    blk_simp [h1, h2]
  have e1 : (((View.whole main_v249).slice (win1_3.rect t)).emb (ix2 y0 y1) 1).val = t.val / 37 * 1792 + y1.val := by
    blk_simp [h1, h2]
  unfold result
  rw [e0, acc_all V c t ht y0 y1 _ e1]
  have e := fun r => rd2 (V c main_v247) t r y1 _ e1
  exact congr (congr (congr (congrArg (kReq _ _) (congrArg (IntOp.addi _) (e 0))) (e 1)) (e 2)) (e 3)

end Cert.Proof.DownKernel

end
-- ==== Proof.Host.lean ====
/-
  Hand-written, untrusted. THE KERNEL'S HOST LINE (`KernelIdeal`), as one list over the memory at launch: what the first call finds, and what the
  second finds beside the first call's result.
-/
module

public import proofs.«01_k».proof.Proof.WholeIdealRun
public import Idealize.ShloMosaic.Lib.Pointwise
public import Idealize.ShloMosaic.Lib.StableHlo.ReadAt
public import Idealize.ShloMosaic.Lib.Pipeline.ValueKit

@[expose] public section

set_option maxRecDepth 16384

noncomputable section

namespace Cert.KernelIdeal.Host

open Cert.KernelIdeal Cert.KernelIdeal.Gen Cert.KernelIdeal.Whole Idealize.ShloMosaic Idealize.ShloMosaic.TcCoe Idealize.SL.Sem

variable (m : (ℓ : Loc nD τ sig) → Buf (Elt Ideal) ℓ) (ρ : Dev nD → PrngReg) (c : Dev nD)

/-- What the host line leaves before the first call. -/
abbrev V (b : Ref sig .tc) : Buf (Elt Ideal) ((c : Thread nD τ).loc b) :=
  StableHlo.after (List.flatten [hostOps0 (F := Ideal), hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, hostOps0_17, hostOps0_18]) (fun b => m (c, b)) b

/-- The first call finds what the host line leaves. -/
theorem V19_eq (b : Ref sig .tc) : V19 m ρ c b = V m c b := by
  unfold V
  simp only [List.flatten_cons, List.flatten_nil, List.append_nil, StableHlo.after_append]

/-- An argument is as launched when the first call starts. -/
theorem V_arg (a : Ref sig .tc) (ha : a ∈ argRefs) : V m c a = m ((c : Thread nD τ).loc a) :=
  (V19_eq m (fun _ => default) c a).symm.trans (W19_args m (fun _ => default) c a ha)

/-- An argument is as launched when the second call starts. -/
theorem V20_arg (a : Ref sig .tc) (ha : a ∈ argRefs) : V20 m ρ c a = m ((c : Thread nD τ).loc a) :=
  W20_args m ρ c a ha

/-- The second call's table is the one the host line leaves. -/
theorem V20_table : V20 m ρ c main_v247 = V m c main_v247 :=
  (W20_of m ρ c main_v247 (by decide)).trans (V19_eq m ρ c main_v247)

/-- The second call finds the first call's result. -/
theorem V20_hidden : V20 m ρ c main_v248 = (dat0 (V19 m ρ) c).arrAt 3 cfg0.N :=
  W20_arr m ρ c 3

/-- The second call leaves its result. -/
theorem V21_out : V21 m ρ c main_v249 = (dat1 (V20 m ρ) c).arrAt 3 cfg1.N :=
  W21_arr m ρ c 3

/-- The second call leaves the first call's result. -/
theorem V21_hidden : V21 m ρ c main_v248 = (dat0 (V19 m ρ) c).arrAt 3 cfg0.N :=
  (W21_of m ρ c main_v248 (by decide)).trans (V20_hidden m ρ c)

/-- The first result: the second call's array in three dimensions. -/
theorem end_out : (W22 m ρ c (Proc.devRef .tc main_v250) : Vec Ideal S12x128x3584 .i8)
    = shapeCast S12x128x3584 (V21 m ρ c main_v249 : Vec Ideal S1536x3584 .i8) shapeCasts_S1536x3584_S12x128x3584 := by
  unfold W22
  after_reads_simp
  rfl

/-- The third result: the first call's array in three dimensions. -/
theorem end_hidden : (W22 m ρ c (Proc.devRef .tc main_v251) : Vec Ideal S12x128x18944 .i8)
    = shapeCast S12x128x18944 (V21 m ρ c main_v248 : Vec Ideal S1536x18944 .i8) shapeCasts_S1536x18944_S12x128x18944 := by
  unfold W22
  after_reads_simp
  rfl

end Cert.KernelIdeal.Host

end
-- ==== Proof.ReferenceRun.lean ====
/-
  Hand-written, untrusted. THE REFERENCE'S RUN (`ReferenceIdeal`) with its two result arrays named: what the region's write-backs
  leave in windows 14 (the hidden codes) and 15 (the result's codes), every argument as launched.
-/
module

public import proofs.«01_k».proof.Proof.Gen.ReferenceIdeal.Frame
public import Idealize.ShloMosaic.Lib.Pipeline.Value

@[expose] public section

noncomputable section

namespace Cert.Proof.ReferenceRun

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem post14 (r : PUnit × MemSt nD τ sig (Elt F)) (h : Pipeline.FramePost cfgs (dats m) 0 (V m) r) (c : Dev nD) :
    r.2.mem ((c : Thread nD τ).loc main_v219_0) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v219_1) = (dats m 0 c).arrAt 15 cfg0.N :=
  (h c).1 15

/-- After the frame run, argument `main_arg0` is as launched: no window stages it, and the run leaves the region's other buffers as they were. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: input window 1 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 1).trans (((dats m 0 c).arrAt_in 1 rfl _).trans ((A_eq m c 1).trans (V_main_arg2 m c)))

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

/-- After the frame run, argument `main_arg5` is as launched: no window stages it, and the run leaves the region's other buffers as they were. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).2 main_arg5 (Pipeline.mem_restRefs_of main_arg5 (by decide) (by decide))).trans (V_main_arg5 m c)

/-- After the frame run, argument `main_arg6` is as launched: input window 10 stages it and never writes it back. -/
theorem kept_main_arg6 (r : PUnit × MemSt nD τ sig (Elt F)) (h : Pipeline.FramePost cfgs (dats m) 0 (V m) r) (c : Dev nD) :
    r.2.mem ((c : Thread nD τ).loc main_arg6) = m ((c : Thread nD τ).loc main_arg6) :=
  ((h c).1 10).trans (((dats m 0 c).arrAt_in 10 rfl _).trans ((A_eq m c 10).trans (V_main_arg6 m c)))

/-- After the frame run, argument `main_arg7` is as launched: no window stages it, and the run leaves the region's other buffers as they were. -/
theorem kept_main_arg7 (r : PUnit × MemSt nD τ sig (Elt F)) (h : Pipeline.FramePost cfgs (dats m) 0 (V m) r) (c : Dev nD) :
    r.2.mem ((c : Thread nD τ).loc main_arg7) = m ((c : Thread nD τ).loc main_arg7) :=
  ((h c).2 main_arg7 (Pipeline.mem_restRefs_of main_arg7 (by decide) (by decide))).trans (V_main_arg7 m c)

/-- After the frame run, argument `main_arg8` is as launched: no window stages it, and the run leaves the region's other buffers as they were. -/
theorem kept_main_arg8 (r : PUnit × MemSt nD τ sig (Elt F)) (h : Pipeline.FramePost cfgs (dats m) 0 (V m) r) (c : Dev nD) :
    r.2.mem ((c : Thread nD τ).loc main_arg8) = m ((c : Thread nD τ).loc main_arg8) :=
  ((h c).2 main_arg8 (Pipeline.mem_restRefs_of main_arg8 (by decide) (by decide))).trans (V_main_arg8 m c)

/-- After the frame run, argument `main_arg9` is as launched: no window stages it, and the run leaves the region's other buffers as they were. -/
theorem kept_main_arg9 (r : PUnit × MemSt nD τ sig (Elt F)) (h : Pipeline.FramePost cfgs (dats m) 0 (V m) r) (c : Dev nD) :
    r.2.mem ((c : Thread nD τ).loc main_arg9) = m ((c : Thread nD τ).loc main_arg9) :=
  ((h c).2 main_arg9 (Pipeline.mem_restRefs_of main_arg9 (by decide) (by decide))).trans (V_main_arg9 m c)

/-- The frame run with each output array after the run NAMED — `(dats m 0 c).arrAt w N` —,
    the arguments unchanged. -/
theorem run_blocks : θ_run defs (onTc (τ := τ) (main (F := F))) ⟨m, fun _ => 0, ρ⟩ fun r => ∀ c : Dev nD,
      r.2.mem ((c : Thread nD τ).loc main_v219_0) = (dats m 0 c).arrAt 14 cfg0.N
      ∧ r.2.mem ((c : Thread nD τ).loc main_v219_1) = (dats m 0 c).arrAt 15 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨post14 m r h c,
      post15 m r h c,
      kept_main_arg0 m r h c,
      kept_main_arg1 m r h c,
      kept_main_arg2 m r h c,
      kept_main_arg3 m r h c,
      kept_main_arg4 m r h c,
      kept_main_arg5 m r h c,
      kept_main_arg6 m r h c,
      kept_main_arg7 m r h c,
      kept_main_arg8 m r h c,
      kept_main_arg9 m r h c⟩)
    (run_main m ρ)

end Cert.Proof.ReferenceRun

end
-- ==== Proof.Reference.lean ====
/-
  Hand-written, untrusted. `ReferenceIdeal`'s two RESULT ARRAYS after the run, in two dimensions before their last reshape: the
  hidden code at row i and column j is `upR` of row i of the activations, column j of the weights and the words at j of the
  eight rows; the result's code is `downR` of row i of those codes, column j of the second weights and the words at j of the
  three rows.
-/
module

public import proofs.«01_k».proof.Proof.ReferenceRun
public import proofs.«01_k».proof.Proof.Scalars
public import Idealize.ShloMosaic.Lib.Pipeline.ValueKit
public import Idealize.ShloMosaic.Lib.Pointwise
public import Idealize.ShloMosaic.Lib.Claim

@[expose] public section

set_option maxRecDepth 16384

noncomputable section

namespace Cert.Proof.Reference

open Cert.ReferenceIdeal Cert.ReferenceIdeal.Gen Idealize.ShloMosaic Idealize.ShloMosaic.TcCoe Idealize.SL.Sem
open Idealize.ShloMosaic.Pipeline (Dat)
open Cert.Proof.Ints Cert.Proof.Scalars

variable (m : (ℓ : Loc nD τ sig) → Buf (Elt Ideal) ℓ)

/-- The one grid point. -/
def t₀ : Fin cfg0.N := ⟨0, by decide⟩

/-- Window 0's block is its whole array. -/
theorem blk0 (c : Dev nD) : (iblk m c 0 t₀ : Vec Ideal S1536x3584 .i8) = V m c main_v207 :=
  Memref.read_access_unit_zero (Elt Ideal) main_v207
    (show (fun a => (win0_0.index t₀) a * main_v207.ty.shape.size a) = fun _ => 0 from funext fun a => by fin_cases a <;> decide)
    (fun a => by fin_cases a <;> decide) _

/-- Window 1's block is its whole array. -/
theorem blk1 (c : Dev nD) : (iblk m c 1 t₀ : Vec Ideal S3584x18944 .i8) = V m c main_arg2 :=
  Memref.read_access_unit_zero (Elt Ideal) main_arg2
    (show (fun a => (win0_1.index t₀) a * main_arg2.ty.shape.size a) = fun _ => 0 from funext fun a => by fin_cases a <;> decide)
    (fun a => by fin_cases a <;> decide) _

/-- Window 2's block is its whole array. -/
theorem blk2 (c : Dev nD) : (iblk m c 2 t₀ : Vec Ideal S1x18944 .i32) = V m c main_v208 :=
  Memref.read_access_unit_zero (Elt Ideal) main_v208
    (show (fun a => (win0_2.index t₀) a * main_v208.ty.shape.size a) = fun _ => 0 from funext fun a => by fin_cases a <;> decide)
    (fun a => by fin_cases a <;> decide) _

/-- Window 3's block is its whole array. -/
theorem blk3 (c : Dev nD) : (iblk m c 3 t₀ : Vec Ideal S1x18944 .i32) = V m c main_v209 :=
  Memref.read_access_unit_zero (Elt Ideal) main_v209
    (show (fun a => (win0_3.index t₀) a * main_v209.ty.shape.size a) = fun _ => 0 from funext fun a => by fin_cases a <;> decide)
    (fun a => by fin_cases a <;> decide) _

/-- Window 4's block is its whole array. -/
theorem blk4 (c : Dev nD) : (iblk m c 4 t₀ : Vec Ideal S1x18944 .i32) = V m c main_v210 :=
  Memref.read_access_unit_zero (Elt Ideal) main_v210
    (show (fun a => (win0_4.index t₀) a * main_v210.ty.shape.size a) = fun _ => 0 from funext fun a => by fin_cases a <;> decide)
    (fun a => by fin_cases a <;> decide) _

/-- Window 5's block is its whole array. -/
theorem blk5 (c : Dev nD) : (iblk m c 5 t₀ : Vec Ideal S1x18944 .i32) = V m c main_v211 :=
  Memref.read_access_unit_zero (Elt Ideal) main_v211
    (show (fun a => (win0_5.index t₀) a * main_v211.ty.shape.size a) = fun _ => 0 from funext fun a => by fin_cases a <;> decide)
    (fun a => by fin_cases a <;> decide) _

/-- Window 6's block is its whole array. -/
theorem blk6 (c : Dev nD) : (iblk m c 6 t₀ : Vec Ideal S1x18944 .i32) = V m c main_v212 :=
  Memref.read_access_unit_zero (Elt Ideal) main_v212
    (show (fun a => (win0_6.index t₀) a * main_v212.ty.shape.size a) = fun _ => 0 from funext fun a => by fin_cases a <;> decide)
    (fun a => by fin_cases a <;> decide) _

/-- Window 7's block is its whole array. -/
theorem blk7 (c : Dev nD) : (iblk m c 7 t₀ : Vec Ideal S1x18944 .i32) = V m c main_v213 :=
  Memref.read_access_unit_zero (Elt Ideal) main_v213
    (show (fun a => (win0_7.index t₀) a * main_v213.ty.shape.size a) = fun _ => 0 from funext fun a => by fin_cases a <;> decide)
    (fun a => by fin_cases a <;> decide) _

/-- Window 8's block is its whole array. -/
theorem blk8 (c : Dev nD) : (iblk m c 8 t₀ : Vec Ideal S1x18944 .i32) = V m c main_v214 :=
  Memref.read_access_unit_zero (Elt Ideal) main_v214
    (show (fun a => (win0_8.index t₀) a * main_v214.ty.shape.size a) = fun _ => 0 from funext fun a => by fin_cases a <;> decide)
    (fun a => by fin_cases a <;> decide) _

/-- Window 9's block is its whole array. -/
theorem blk9 (c : Dev nD) : (iblk m c 9 t₀ : Vec Ideal S1x18944 .i32) = V m c main_v215 :=
  Memref.read_access_unit_zero (Elt Ideal) main_v215
    (show (fun a => (win0_9.index t₀) a * main_v215.ty.shape.size a) = fun _ => 0 from funext fun a => by fin_cases a <;> decide)
    (fun a => by fin_cases a <;> decide) _

/-- Window 10's block is its whole array. -/
theorem blk10 (c : Dev nD) : (iblk m c 10 t₀ : Vec Ideal S18944x3584 .i8) = V m c main_arg6 :=
  Memref.read_access_unit_zero (Elt Ideal) main_arg6
    (show (fun a => (win0_10.index t₀) a * main_arg6.ty.shape.size a) = fun _ => 0 from funext fun a => by fin_cases a <;> decide)
    (fun a => by fin_cases a <;> decide) _

/-- Window 11's block is its whole array. -/
theorem blk11 (c : Dev nD) : (iblk m c 11 t₀ : Vec Ideal S1x3584 .i32) = V m c main_v216 :=
  Memref.read_access_unit_zero (Elt Ideal) main_v216
    (show (fun a => (win0_11.index t₀) a * main_v216.ty.shape.size a) = fun _ => 0 from funext fun a => by fin_cases a <;> decide)
    (fun a => by fin_cases a <;> decide) _

/-- Window 12's block is its whole array. -/
theorem blk12 (c : Dev nD) : (iblk m c 12 t₀ : Vec Ideal S1x3584 .i32) = V m c main_v217 :=
  Memref.read_access_unit_zero (Elt Ideal) main_v217
    (show (fun a => (win0_12.index t₀) a * main_v217.ty.shape.size a) = fun _ => 0 from funext fun a => by fin_cases a <;> decide)
    (fun a => by fin_cases a <;> decide) _

/-- Window 13's block is its whole array. -/
theorem blk13 (c : Dev nD) : (iblk m c 13 t₀ : Vec Ideal S1x3584 .i32) = V m c main_v218 :=
  Memref.read_access_unit_zero (Elt Ideal) main_v218
    (show (fun a => (win0_13.index t₀) a * main_v218.ty.shape.size a) = fun _ => 0 from funext fun a => by fin_cases a <;> decide)
    (fun a => by fin_cases a <;> decide) _

/-- One hidden code: `upR` of its operands. -/
theorem pay_up (X : Vec Ideal S1536x3584 .i8) (W : Vec Ideal S3584x18944 .i8) (b1 t b c n o mm k : Vec Ideal S1x18944 .i32)
    (i : Fin 1536) (j : Fin 18944) :
    k0_pay5 (F := Ideal) (k0_pay3 (F := Ideal) X W b1) (k0_pay4 (F := Ideal) X W b1 t b c) n o mm k (ix2 i j)
    = upR (fun x => X (ix2 i x)) (fun x => W (ix2 x j)) (b1 (ix2 0 j)) (t (ix2 0 j)) (b (ix2 0 j)) (c (ix2 0 j))
        (n (ix2 0 j)) (o (ix2 0 j)) (mm (ix2 0 j)) (k (ix2 0 j)) := by
  pointwise [k0_pay3, k0_pay4, k0_pay5]
  rfl

/-- The result's codes over the hidden codes, before their last reshape. -/
def downs (H : Vec Ideal S1536x18944 .i8) (W : Vec Ideal S18944x3584 .i8) (b2 mm k : Vec Ideal S1x3584 .i32) :
    Vec Ideal S1536x3584 .i8 :=
  fun y => downR (fun x => H (ix2 (y 0) x)) (fun x => W (ix2 x (y 1))) (b2 (ix2 0 (y 1))) (mm (ix2 0 (y 1))) (k (ix2 0 (y 1)))

/-- The second result's payload: the codes of `downs`, reshaped. -/
theorem pay_down (H : Vec Ideal S1536x18944 .i8) (W : Vec Ideal S18944x3584 .i8) (b2 mm k : Vec Ideal S1x3584 .i32) :
    k0_pay2 (F := Ideal) W (sitofp .bf16 H) b2 mm k
    = shapeCast S12x128x3584 (downs H W b2 mm k) shapeCasts_S1536x3584_S12x128x3584 := by
  unfold k0_pay2
  refine congrArg (fun v => shapeCast S12x128x3584 v shapeCasts_S1536x3584_S12x128x3584) ?_
  funext y
  idx_vars y
  unfold downs
  pointwise
  rfl

/-- The covering store of window 14 leaves the payload of the blocks loaded. -/
theorem out_eq14 (x0 : Vec Ideal S1536x3584 .i8) (x1 : Vec Ideal S3584x18944 .i8) (x2 : Vec Ideal S1x18944 .i32) (x3 : Vec Ideal S1x18944 .i32) (x4 : Vec Ideal S1x18944 .i32) (x5 : Vec Ideal S1x18944 .i32) (x6 : Vec Ideal S1x18944 .i32) (x7 : Vec Ideal S1x18944 .i32) (x8 : Vec Ideal S1x18944 .i32) (x9 : Vec Ideal S1x18944 .i32) (x10 : Vec Ideal S18944x3584 .i8) (x11 : Vec Ideal S1x3584 .i32) (x12 : Vec Ideal S1x3584 .i32) (x13 : Vec Ideal S1x3584 .i32) :
    out0_14 (F := Ideal) x0 x1 x2 x3 x4 x5 x6 x7 x8 x9 x10 x11 x12 x13 = k0_pay1 (k0_pay5 (F := Ideal) (k0_pay3 (F := Ideal) x0 x1 x2) (k0_pay4 (F := Ideal) x0 x1 x2 x3 x4 x5) x6 x7 x8 x9) := by
  unfold_out out0_14
  frame_out

/-- Window 14's array after the run is the payload of the operands. -/
theorem fin_pay14 (c : Dev nD) : ((dats m 0 c).arrAt 14 cfg0.N : Vec Ideal S12x128x18944 .i8)
    = k0_pay1 (k0_pay5 (F := Ideal) (k0_pay3 (F := Ideal) (V m c main_v207) (V m c main_arg2) (V m c main_v208)) (k0_pay4 (F := Ideal) (V m c main_v207) (V m c main_arg2) (V m c main_v208) (V m c main_v209) (V m c main_v210) (V m c main_v211)) (V m c main_v212) (V m c main_v213) (V m c main_v214) (V m c main_v215)) := by
  have ho : ((cfg0.win 14).blk t₀).view.read (Elt Ideal) ((dats m 0 c).arrAt 14 cfg0.N) = (dats m 0 c).flushed 14 t₀ := by
    rw [show cfg0.N = (t₀ : Fin cfg0.N).val + 1 from rfl, (dats m 0 c).arrAt_succ 14 t₀]
    rw [show (cfg0.win 14).flush t₀ = true from by decide, if_pos rfl]
    exact View.read_write_univ _ _
  have hz : (fun a => (win0_14.index t₀) a * main_v219_0.ty.shape.size a) = fun _ => 0 :=
    funext fun a => by fin_cases a <;> decide
  rw [Memref.read_access_unit_zero (Elt Ideal) main_v219_0 hz (fun a => by fin_cases a <;> decide)] at ho
  refine ho.trans ?_
  show (cfg0.win 14).cut _ ((dats m 0 c).after 14 t₀) = _
  rw [after0_14, out_eq14, blk0, blk1, blk2, blk3, blk4, blk5, blk6, blk7, blk8, blk9]
  rfl

/-- The covering store of window 15 leaves the payload of the blocks loaded. -/
theorem out_eq15 (x0 : Vec Ideal S1536x3584 .i8) (x1 : Vec Ideal S3584x18944 .i8) (x2 : Vec Ideal S1x18944 .i32) (x3 : Vec Ideal S1x18944 .i32) (x4 : Vec Ideal S1x18944 .i32) (x5 : Vec Ideal S1x18944 .i32) (x6 : Vec Ideal S1x18944 .i32) (x7 : Vec Ideal S1x18944 .i32) (x8 : Vec Ideal S1x18944 .i32) (x9 : Vec Ideal S1x18944 .i32) (x10 : Vec Ideal S18944x3584 .i8) (x11 : Vec Ideal S1x3584 .i32) (x12 : Vec Ideal S1x3584 .i32) (x13 : Vec Ideal S1x3584 .i32) :
    out0_15 (F := Ideal) x0 x1 x2 x3 x4 x5 x6 x7 x8 x9 x10 x11 x12 x13 = k0_pay2 (F := Ideal) x10 (k0_pay6 (F := Ideal) (k0_pay3 (F := Ideal) x0 x1 x2) (k0_pay4 (F := Ideal) x0 x1 x2 x3 x4 x5) x6 x7 x8 x9) x11 x12 x13 := by
  unfold_out out0_15
  frame_out

/-- Window 15's array after the run is the payload of the operands. -/
theorem fin_pay15 (c : Dev nD) : ((dats m 0 c).arrAt 15 cfg0.N : Vec Ideal S12x128x3584 .i8)
    = k0_pay2 (F := Ideal) (V m c main_arg6) (k0_pay6 (F := Ideal) (k0_pay3 (F := Ideal) (V m c main_v207) (V m c main_arg2) (V m c main_v208)) (k0_pay4 (F := Ideal) (V m c main_v207) (V m c main_arg2) (V m c main_v208) (V m c main_v209) (V m c main_v210) (V m c main_v211)) (V m c main_v212) (V m c main_v213) (V m c main_v214) (V m c main_v215)) (V m c main_v216) (V m c main_v217) (V m c main_v218) := by
  have ho : ((cfg0.win 15).blk t₀).view.read (Elt Ideal) ((dats m 0 c).arrAt 15 cfg0.N) = (dats m 0 c).flushed 15 t₀ := by
    rw [show cfg0.N = (t₀ : Fin cfg0.N).val + 1 from rfl, (dats m 0 c).arrAt_succ 15 t₀]
    rw [show (cfg0.win 15).flush t₀ = true from by decide, if_pos rfl]
    exact View.read_write_univ _ _
  have hz : (fun a => (win0_15.index t₀) a * main_v219_1.ty.shape.size a) = fun _ => 0 :=
    funext fun a => by fin_cases a <;> decide
  rw [Memref.read_access_unit_zero (Elt Ideal) main_v219_1 hz (fun a => by fin_cases a <;> decide)] at ho
  refine ho.trans ?_
  show (cfg0.win 15).cut _ ((dats m 0 c).after 15 t₀) = _
  rw [after0_15, out_eq15, blk0, blk1, blk2, blk3, blk4, blk5, blk6, blk7, blk8, blk9, blk10, blk11, blk12, blk13]
  rfl

/-- The array of the hidden codes. -/
def hidden (c : Dev nD) : Vec Ideal S1536x18944 .i8 := fun y => upR (fun x => (V m c main_v207 : Vec Ideal S1536x3584 .i8) (ix2 (y 0) x))
      (fun x => (V m c main_arg2 : Vec Ideal S3584x18944 .i8) (ix2 x (y 1)))
      ((V m c main_v208 : Vec Ideal S1x18944 .i32) (ix2 0 (y 1))) ((V m c main_v209 : Vec Ideal S1x18944 .i32) (ix2 0 (y 1)))
      ((V m c main_v210 : Vec Ideal S1x18944 .i32) (ix2 0 (y 1))) ((V m c main_v211 : Vec Ideal S1x18944 .i32) (ix2 0 (y 1)))
      ((V m c main_v212 : Vec Ideal S1x18944 .i32) (ix2 0 (y 1))) ((V m c main_v213 : Vec Ideal S1x18944 .i32) (ix2 0 (y 1)))
      ((V m c main_v214 : Vec Ideal S1x18944 .i32) (ix2 0 (y 1))) ((V m c main_v215 : Vec Ideal S1x18944 .i32) (ix2 0 (y 1)))

/-- The array of the result's codes. -/
def result (c : Dev nD) : Vec Ideal S1536x3584 .i8 :=
  downs (hidden m c) (V m c main_arg6) (V m c main_v216) (V m c main_v217) (V m c main_v218)

/-- The hidden codes are the body's. -/
theorem hidden_pay (c : Dev nD) : k0_pay5 (F := Ideal) (k0_pay3 (F := Ideal) (V m c main_v207) (V m c main_arg2) (V m c main_v208)) (k0_pay4 (F := Ideal) (V m c main_v207) (V m c main_arg2) (V m c main_v208) (V m c main_v209) (V m c main_v210) (V m c main_v211)) (V m c main_v212) (V m c main_v213) (V m c main_v214) (V m c main_v215) = hidden m c := by
  funext y
  idx_vars y
  exact pay_up _ _ _ _ _ _ _ _ _ _ y0 y1

/-- The third result after the run: the hidden codes, reshaped. -/
theorem fin_hidden (c : Dev nD) : ((dats m 0 c).arrAt 14 cfg0.N : Vec Ideal S12x128x18944 .i8)
    = shapeCast S12x128x18944 (hidden m c) shapeCasts_S1536x18944_S12x128x18944 := by
  rw [fin_pay14, hidden_pay]
  rfl

/-- The first result after the run: the result's codes, reshaped. -/
theorem fin_result (c : Dev nD) : ((dats m 0 c).arrAt 15 cfg0.N : Vec Ideal S12x128x3584 .i8)
    = shapeCast S12x128x3584 (result m c) shapeCasts_S1536x3584_S12x128x3584 := by
  rw [fin_pay15]
  exact (congrArg (fun H => k0_pay2 (F := Ideal) (V m c main_arg6) (sitofp .bf16 H) (V m c main_v216) (V m c main_v217)
    (V m c main_v218)) (hidden_pay m c)).trans (pay_down _ _ _ _ _)

end Cert.Proof.Reference

end
-- ==== Proof.UpTable.lean ====
/-
  Hand-written, untrusted. THE TEN ROWS OF THE FIRST CALL'S TABLE (`KernelIdeal`), read at a column: each is one buffer of the host
  line, or a word made of one (Proof/Ints.lean `leftOf`, `rightOf`, `rndOf`, `shiftOf`).
-/
module

public import proofs.«01_k».proof.Proof.Host
public import proofs.«01_k».proof.Proof.Ints
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Proof.UpTable

open Cert.KernelIdeal Cert.KernelIdeal.Gen Host Idealize.ShloMosaic Idealize.ShloMosaic.TcCoe Idealize.SL.Sem
open Cert.Proof.Ints

/-- The end of the host line, over what the operations before it leave. -/
abbrev U (W : Valuation τ sig (Elt Ideal)) : Valuation τ sig (Elt Ideal) :=
  StableHlo.after (List.flatten [hostOps0_8 (F := Ideal), hostOps0_9, hostOps0_10, hostOps0_11, hostOps0_12, hostOps0_13, hostOps0_14, hostOps0_15, hostOps0_16, hostOps0_17, hostOps0_18]) W

/-- What the operations before leave. -/
abbrev W₀ (m : (ℓ : Loc nD τ sig) → Buf (Elt Ideal) ℓ) (c : Dev nD) : Valuation τ sig (Elt Ideal) :=
  StableHlo.after (List.flatten [hostOps0 (F := Ideal), hostOps0_1, hostOps0_2, hostOps0_3, hostOps0_4, hostOps0_5, hostOps0_6, hostOps0_7]) (fun b => m (c, b))

/-- The host line is its two parts. -/
theorem V_eq (m : (ℓ : Loc nD τ sig) → Buf (Elt Ideal) ℓ) (c : Dev nD) (b : Ref sig .tc) : V m c b = U (W₀ m c) b := by
  show StableHlo.after (List.flatten ([hostOps0 (F := Ideal), hostOps0_1, hostOps0_2, hostOps0_3, hostOps0_4, hostOps0_5, hostOps0_6, hostOps0_7] ++ [hostOps0_8 (F := Ideal), hostOps0_9, hostOps0_10, hostOps0_11, hostOps0_12, hostOps0_13, hostOps0_14, hostOps0_15, hostOps0_16, hostOps0_17, hostOps0_18])) _ _ = _
  rw [List.flatten_append, StableHlo.after_append]

section

variable (W : Valuation τ sig (Elt Ideal)) (j : Fin 18944)

theorem row0 : (U W main_v190 : Vec Ideal S10x18944 .i32) (ix2 0 j) = (U W main_arg4 : Vec Ideal S18944 .i32) (ix1 j) := by
  unfold U
  after_reads_simp
  pointwise
  all_goals after_reads_simp
  all_goals pointwise
  all_goals rfl

theorem row1 : (U W main_v190 : Vec Ideal S10x18944 .i32) (ix2 1 j) = leftOf ((U W main_v42 : Vec Ideal S18944 .i32) (ix1 j)) := by
  unfold U
  after_reads_simp
  pointwise
  all_goals after_reads_simp
  all_goals pointwise
  all_goals rfl

theorem row2 : (U W main_v190 : Vec Ideal S10x18944 .i32) (ix2 2 j) = rightOf ((U W main_v42 : Vec Ideal S18944 .i32) (ix1 j)) := by
  unfold U
  after_reads_simp
  pointwise
  all_goals after_reads_simp
  all_goals pointwise
  all_goals rfl

theorem row3 : (U W main_v190 : Vec Ideal S10x18944 .i32) (ix2 3 j) = (U W main_v61 : Vec Ideal S18944 .i32) (ix1 j) := by
  unfold U
  after_reads_simp
  pointwise
  all_goals after_reads_simp
  all_goals pointwise
  all_goals rfl

theorem row4 : (U W main_v190 : Vec Ideal S10x18944 .i32) (ix2 4 j) = (U W main_v66 : Vec Ideal S18944 .i32) (ix1 j) := by
  unfold U
  after_reads_simp
  pointwise
  all_goals after_reads_simp
  all_goals pointwise
  all_goals rfl

theorem row5 : (U W main_v190 : Vec Ideal S10x18944 .i32) (ix2 5 j) = (U W main_v103 : Vec Ideal S18944 .i32) (ix1 j) := by
  unfold U
  after_reads_simp
  pointwise
  all_goals after_reads_simp
  all_goals pointwise
  all_goals rfl

theorem row6 : (U W main_v190 : Vec Ideal S10x18944 .i32) (ix2 6 j) = (U W main_v122 : Vec Ideal S18944 .i32) (ix1 j) := by
  unfold U
  after_reads_simp
  pointwise
  all_goals after_reads_simp
  all_goals pointwise
  all_goals rfl

theorem row7 : (U W main_v190 : Vec Ideal S10x18944 .i32) (ix2 7 j) = (U W main_v163 : Vec Ideal S18944 .i32) (ix1 j) := by
  unfold U
  after_reads_simp
  pointwise
  all_goals after_reads_simp
  all_goals pointwise
  all_goals rfl

theorem row8 : (U W main_v190 : Vec Ideal S10x18944 .i32) (ix2 8 j) = rndOf ((U W main_v165 : Vec Ideal S18944 .i32) (ix1 j)) := by
  unfold U
  after_reads_simp
  pointwise
  all_goals after_reads_simp
  all_goals pointwise
  all_goals rfl

theorem row9 : (U W main_v190 : Vec Ideal S10x18944 .i32) (ix2 9 j) = shiftOf ((U W main_v165 : Vec Ideal S18944 .i32) (ix1 j)) := by
  unfold U
  after_reads_simp
  pointwise
  all_goals after_reads_simp
  all_goals pointwise
  all_goals rfl

end

variable (m : (ℓ : Loc nD τ sig) → Buf (Elt Ideal) ℓ) (c : Dev nD) (j : Fin 18944)

theorem tab0 : (V m c main_v190 : Vec Ideal S10x18944 .i32) (ix2 0 j) = (V m c main_arg4 : Vec Ideal S18944 .i32) (ix1 j) := by
  rw [V_eq, V_eq]
  exact row0 _ j

theorem tab1 : (V m c main_v190 : Vec Ideal S10x18944 .i32) (ix2 1 j) = leftOf ((V m c main_v42 : Vec Ideal S18944 .i32) (ix1 j)) := by
  rw [V_eq, V_eq]
  exact row1 _ j

theorem tab2 : (V m c main_v190 : Vec Ideal S10x18944 .i32) (ix2 2 j) = rightOf ((V m c main_v42 : Vec Ideal S18944 .i32) (ix1 j)) := by
  rw [V_eq, V_eq]
  exact row2 _ j

theorem tab3 : (V m c main_v190 : Vec Ideal S10x18944 .i32) (ix2 3 j) = (V m c main_v61 : Vec Ideal S18944 .i32) (ix1 j) := by
  rw [V_eq, V_eq]
  exact row3 _ j

theorem tab4 : (V m c main_v190 : Vec Ideal S10x18944 .i32) (ix2 4 j) = (V m c main_v66 : Vec Ideal S18944 .i32) (ix1 j) := by
  rw [V_eq, V_eq]
  exact row4 _ j

theorem tab5 : (V m c main_v190 : Vec Ideal S10x18944 .i32) (ix2 5 j) = (V m c main_v103 : Vec Ideal S18944 .i32) (ix1 j) := by
  rw [V_eq, V_eq]
  exact row5 _ j

theorem tab6 : (V m c main_v190 : Vec Ideal S10x18944 .i32) (ix2 6 j) = (V m c main_v122 : Vec Ideal S18944 .i32) (ix1 j) := by
  rw [V_eq, V_eq]
  exact row6 _ j

theorem tab7 : (V m c main_v190 : Vec Ideal S10x18944 .i32) (ix2 7 j) = (V m c main_v163 : Vec Ideal S18944 .i32) (ix1 j) := by
  rw [V_eq, V_eq]
  exact row7 _ j

theorem tab8 : (V m c main_v190 : Vec Ideal S10x18944 .i32) (ix2 8 j) = rndOf ((V m c main_v165 : Vec Ideal S18944 .i32) (ix1 j)) := by
  rw [V_eq, V_eq]
  exact row8 _ j

theorem tab9 : (V m c main_v190 : Vec Ideal S10x18944 .i32) (ix2 9 j) = shiftOf ((V m c main_v165 : Vec Ideal S18944 .i32) (ix1 j)) := by
  rw [V_eq, V_eq]
  exact row9 _ j

end Cert.Proof.UpTable

end
-- ==== Proof.DownTable.lean ====
/-
  Hand-written, untrusted. THE FOUR ROWS OF THE SECOND CALL'S TABLE (`KernelIdeal`), read at a column: each is one buffer of the host
  line, or a word made of one (Proof/Ints.lean `rndOf`, `shiftOf`).
-/
module

public import proofs.«01_k».proof.Proof.Host
public import proofs.«01_k».proof.Proof.Ints
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Proof.DownTable

open Cert.KernelIdeal Cert.KernelIdeal.Gen Host Idealize.ShloMosaic Idealize.ShloMosaic.TcCoe Idealize.SL.Sem
open Cert.Proof.Ints

/-- The end of the host line, over what the operations before it leave. -/
abbrev U (W : Valuation τ sig (Elt Ideal)) : Valuation τ sig (Elt Ideal) :=
  StableHlo.after (List.flatten [hostOps0_16 (F := Ideal), hostOps0_17, hostOps0_18]) W

/-- What the operations before leave. -/
abbrev W₀ (m : (ℓ : Loc nD τ sig) → Buf (Elt Ideal) ℓ) (c : Dev nD) : Valuation τ sig (Elt Ideal) :=
  StableHlo.after (List.flatten [hostOps0 (F := Ideal), hostOps0_1, hostOps0_2, hostOps0_3, hostOps0_4, hostOps0_5, hostOps0_6, hostOps0_7, hostOps0_8, hostOps0_9, hostOps0_10, hostOps0_11, hostOps0_12, hostOps0_13, hostOps0_14, hostOps0_15]) (fun b => m (c, b))

/-- The host line is its two parts. -/
theorem V_eq (m : (ℓ : Loc nD τ sig) → Buf (Elt Ideal) ℓ) (c : Dev nD) (b : Ref sig .tc) : V m c b = U (W₀ m c) b := by
  show StableHlo.after (List.flatten ([hostOps0 (F := Ideal), hostOps0_1, hostOps0_2, hostOps0_3, hostOps0_4, hostOps0_5, hostOps0_6, hostOps0_7, hostOps0_8, hostOps0_9, hostOps0_10, hostOps0_11, hostOps0_12, hostOps0_13, hostOps0_14, hostOps0_15] ++ [hostOps0_16 (F := Ideal), hostOps0_17, hostOps0_18])) _ _ = _
  rw [List.flatten_append, StableHlo.after_append]

section

variable (W : Valuation τ sig (Elt Ideal)) (j : Fin 3584)

theorem row0 : (U W main_v247 : Vec Ideal S4x3584 .i32) (ix2 0 j) = (U W main_arg8 : Vec Ideal S3584 .i32) (ix1 j) := by
  unfold U
  after_reads_simp
  pointwise
  all_goals after_reads_simp
  all_goals pointwise
  all_goals rfl

theorem row1 : (U W main_v247 : Vec Ideal S4x3584 .i32) (ix2 1 j) = (U W main_v230 : Vec Ideal S3584 .i32) (ix1 j) := by
  unfold U
  after_reads_simp
  pointwise
  all_goals after_reads_simp
  all_goals pointwise
  all_goals rfl

theorem row2 : (U W main_v247 : Vec Ideal S4x3584 .i32) (ix2 2 j) = rndOf ((U W main_v232 : Vec Ideal S3584 .i32) (ix1 j)) := by
  unfold U
  after_reads_simp
  pointwise
  all_goals after_reads_simp
  all_goals pointwise
  all_goals rfl

theorem row3 : (U W main_v247 : Vec Ideal S4x3584 .i32) (ix2 3 j) = shiftOf ((U W main_v232 : Vec Ideal S3584 .i32) (ix1 j)) := by
  unfold U
  after_reads_simp
  pointwise
  all_goals after_reads_simp
  all_goals pointwise
  all_goals rfl

end

variable (m : (ℓ : Loc nD τ sig) → Buf (Elt Ideal) ℓ) (c : Dev nD) (j : Fin 3584)

theorem tab0 : (V m c main_v247 : Vec Ideal S4x3584 .i32) (ix2 0 j) = (V m c main_arg8 : Vec Ideal S3584 .i32) (ix1 j) := by
  rw [V_eq, V_eq]
  exact row0 _ j

theorem tab1 : (V m c main_v247 : Vec Ideal S4x3584 .i32) (ix2 1 j) = (V m c main_v230 : Vec Ideal S3584 .i32) (ix1 j) := by
  rw [V_eq, V_eq]
  exact row1 _ j

theorem tab2 : (V m c main_v247 : Vec Ideal S4x3584 .i32) (ix2 2 j) = rndOf ((V m c main_v232 : Vec Ideal S3584 .i32) (ix1 j)) := by
  rw [V_eq, V_eq]
  exact row2 _ j

theorem tab3 : (V m c main_v247 : Vec Ideal S4x3584 .i32) (ix2 3 j) = shiftOf ((V m c main_v232 : Vec Ideal S3584 .i32) (ix1 j)) := by
  rw [V_eq, V_eq]
  exact row3 _ j

end Cert.Proof.DownTable

end
-- ==== Proof.UpRows.lean ====
/-
  Hand-written, untrusted. THE REFERENCE'S EIGHT ROWS OF THE HIDDEN LAYER (`ReferenceIdeal`), read at a column: each is one buffer of
  the host line.
-/
module

public import proofs.«01_k».proof.Proof.Gen.ReferenceIdeal.Frame
public import proofs.«01_k».proof.Proof.Ints
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Proof.UpRows

open Cert.ReferenceIdeal Cert.ReferenceIdeal.Gen Idealize.ShloMosaic Idealize.ShloMosaic.TcCoe Idealize.SL.Sem
open Cert.Proof.Ints

/-- The end of the host line, over what the operations before it leave. -/
abbrev U (W : Valuation τ sig (Elt Ideal)) : Valuation τ sig (Elt Ideal) :=
  StableHlo.after (List.flatten [hostOps0_12 (F := Ideal)]) W

/-- What the operations before leave. -/
abbrev W₀ (m : (ℓ : Loc nD τ sig) → Buf (Elt Ideal) ℓ) (c : Dev nD) : Valuation τ sig (Elt Ideal) :=
  StableHlo.after (List.flatten [hostOps0 (F := Ideal), hostOps0_1, hostOps0_2, hostOps0_3, hostOps0_4, hostOps0_5, hostOps0_6, hostOps0_7, hostOps0_8, hostOps0_9, hostOps0_10, hostOps0_11]) (fun b => m (c, b))

/-- The host line is its two parts. -/
theorem V_eq (m : (ℓ : Loc nD τ sig) → Buf (Elt Ideal) ℓ) (c : Dev nD) (b : Ref sig .tc) : V m c b = U (W₀ m c) b := by
  show StableHlo.after (List.flatten ([hostOps0 (F := Ideal), hostOps0_1, hostOps0_2, hostOps0_3, hostOps0_4, hostOps0_5, hostOps0_6, hostOps0_7, hostOps0_8, hostOps0_9, hostOps0_10, hostOps0_11] ++ [hostOps0_12 (F := Ideal)])) _ _ = _
  rw [List.flatten_append, StableHlo.after_append]

section

variable (W : Valuation τ sig (Elt Ideal)) (j : Fin 18944)

theorem row0 : (U W main_v208 : Vec Ideal S1x18944 .i32) (ix2 0 j) = (U W main_arg4 : Vec Ideal S18944 .i32) (ix1 j) := by
  unfold U
  after_reads_simp
  pointwise
  all_goals after_reads_simp
  all_goals pointwise
  all_goals rfl

theorem row1 : (U W main_v209 : Vec Ideal S1x18944 .i32) (ix2 0 j) = (U W main_v41 : Vec Ideal S18944 .i32) (ix1 j) := by
  unfold U
  after_reads_simp
  pointwise
  all_goals after_reads_simp
  all_goals pointwise
  all_goals rfl

theorem row2 : (U W main_v210 : Vec Ideal S1x18944 .i32) (ix2 0 j) = (U W main_v60 : Vec Ideal S18944 .i32) (ix1 j) := by
  unfold U
  after_reads_simp
  pointwise
  all_goals after_reads_simp
  all_goals pointwise
  all_goals rfl

theorem row3 : (U W main_v211 : Vec Ideal S1x18944 .i32) (ix2 0 j) = (U W main_v65 : Vec Ideal S18944 .i32) (ix1 j) := by
  unfold U
  after_reads_simp
  pointwise
  all_goals after_reads_simp
  all_goals pointwise
  all_goals rfl

theorem row4 : (U W main_v212 : Vec Ideal S1x18944 .i32) (ix2 0 j) = (U W main_v102 : Vec Ideal S18944 .i32) (ix1 j) := by
  unfold U
  after_reads_simp
  pointwise
  all_goals after_reads_simp
  all_goals pointwise
  all_goals rfl

theorem row5 : (U W main_v213 : Vec Ideal S1x18944 .i32) (ix2 0 j) = (U W main_v121 : Vec Ideal S18944 .i32) (ix1 j) := by
  unfold U
  after_reads_simp
  pointwise
  all_goals after_reads_simp
  all_goals pointwise
  all_goals rfl

theorem row6 : (U W main_v214 : Vec Ideal S1x18944 .i32) (ix2 0 j) = (U W main_v162 : Vec Ideal S18944 .i32) (ix1 j) := by
  unfold U
  after_reads_simp
  pointwise
  all_goals after_reads_simp
  all_goals pointwise
  all_goals rfl

theorem row7 : (U W main_v215 : Vec Ideal S1x18944 .i32) (ix2 0 j) = (U W main_v164 : Vec Ideal S18944 .i32) (ix1 j) := by
  unfold U
  after_reads_simp
  pointwise
  all_goals after_reads_simp
  all_goals pointwise
  all_goals rfl

end

variable (m : (ℓ : Loc nD τ sig) → Buf (Elt Ideal) ℓ) (c : Dev nD) (j : Fin 18944)

theorem tab0 : (V m c main_v208 : Vec Ideal S1x18944 .i32) (ix2 0 j) = (V m c main_arg4 : Vec Ideal S18944 .i32) (ix1 j) := by
  rw [V_eq, V_eq]
  exact row0 _ j

theorem tab1 : (V m c main_v209 : Vec Ideal S1x18944 .i32) (ix2 0 j) = (V m c main_v41 : Vec Ideal S18944 .i32) (ix1 j) := by
  rw [V_eq, V_eq]
  exact row1 _ j

theorem tab2 : (V m c main_v210 : Vec Ideal S1x18944 .i32) (ix2 0 j) = (V m c main_v60 : Vec Ideal S18944 .i32) (ix1 j) := by
  rw [V_eq, V_eq]
  exact row2 _ j

theorem tab3 : (V m c main_v211 : Vec Ideal S1x18944 .i32) (ix2 0 j) = (V m c main_v65 : Vec Ideal S18944 .i32) (ix1 j) := by
  rw [V_eq, V_eq]
  exact row3 _ j

theorem tab4 : (V m c main_v212 : Vec Ideal S1x18944 .i32) (ix2 0 j) = (V m c main_v102 : Vec Ideal S18944 .i32) (ix1 j) := by
  rw [V_eq, V_eq]
  exact row4 _ j

theorem tab5 : (V m c main_v213 : Vec Ideal S1x18944 .i32) (ix2 0 j) = (V m c main_v121 : Vec Ideal S18944 .i32) (ix1 j) := by
  rw [V_eq, V_eq]
  exact row5 _ j

theorem tab6 : (V m c main_v214 : Vec Ideal S1x18944 .i32) (ix2 0 j) = (V m c main_v162 : Vec Ideal S18944 .i32) (ix1 j) := by
  rw [V_eq, V_eq]
  exact row6 _ j

theorem tab7 : (V m c main_v215 : Vec Ideal S1x18944 .i32) (ix2 0 j) = (V m c main_v164 : Vec Ideal S18944 .i32) (ix1 j) := by
  rw [V_eq, V_eq]
  exact row7 _ j

end Cert.Proof.UpRows

end
-- ==== Proof.DownRows.lean ====
/-
  Hand-written, untrusted. THE REFERENCE'S THREE ROWS OF THE RESULT (`ReferenceIdeal`), read at a column: each is one buffer of the host
  line.
-/
module

public import proofs.«01_k».proof.Proof.Gen.ReferenceIdeal.Frame
public import proofs.«01_k».proof.Proof.Ints
public import Idealize.ShloMosaic.Lib.Pointwise
public import Idealize.ShloMosaic.Lib.StableHlo.ReadAt
public import Idealize.ShloMosaic.Lib.Pipeline.ValueKit

@[expose] public section

set_option maxRecDepth 16384

noncomputable section

namespace Cert.Proof.DownRows

open Cert.ReferenceIdeal Cert.ReferenceIdeal.Gen Idealize.ShloMosaic Idealize.ShloMosaic.TcCoe Idealize.SL.Sem
open Cert.Proof.Ints

/-- The end of the host line, over what the operations before it leave. -/
abbrev U (W : Valuation τ sig (Elt Ideal)) : Valuation τ sig (Elt Ideal) :=
  StableHlo.after (List.flatten [hostOps0_12 (F := Ideal)]) W

/-- What the operations before leave. -/
abbrev W₀ (m : (ℓ : Loc nD τ sig) → Buf (Elt Ideal) ℓ) (c : Dev nD) : Valuation τ sig (Elt Ideal) :=
  StableHlo.after (List.flatten [hostOps0 (F := Ideal), hostOps0_1, hostOps0_2, hostOps0_3, hostOps0_4, hostOps0_5, hostOps0_6, hostOps0_7, hostOps0_8, hostOps0_9, hostOps0_10, hostOps0_11]) (fun b => m (c, b))

/-- The host line is its two parts. -/
theorem V_eq (m : (ℓ : Loc nD τ sig) → Buf (Elt Ideal) ℓ) (c : Dev nD) (b : Ref sig .tc) : V m c b = U (W₀ m c) b := by
  show StableHlo.after (List.flatten ([hostOps0 (F := Ideal), hostOps0_1, hostOps0_2, hostOps0_3, hostOps0_4, hostOps0_5, hostOps0_6, hostOps0_7, hostOps0_8, hostOps0_9, hostOps0_10, hostOps0_11] ++ [hostOps0_12 (F := Ideal)])) _ _ = _
  rw [List.flatten_append, StableHlo.after_append]

section

variable (W : Valuation τ sig (Elt Ideal)) (j : Fin 3584)

theorem row0 : (U W main_v216 : Vec Ideal S1x3584 .i32) (ix2 0 j) = (U W main_arg8 : Vec Ideal S3584 .i32) (ix1 j) := by
  unfold U
  after_reads_simp
  pointwise
  all_goals after_reads_simp
  all_goals pointwise
  all_goals rfl

theorem row1 : (U W main_v217 : Vec Ideal S1x3584 .i32) (ix2 0 j) = (U W main_v204 : Vec Ideal S3584 .i32) (ix1 j) := by
  unfold U
  after_reads_simp
  pointwise
  all_goals after_reads_simp
  all_goals pointwise
  all_goals rfl

theorem row2 : (U W main_v218 : Vec Ideal S1x3584 .i32) (ix2 0 j) = (U W main_v206 : Vec Ideal S3584 .i32) (ix1 j) := by
  unfold U
  after_reads_simp
  pointwise
  all_goals after_reads_simp
  all_goals pointwise
  all_goals rfl

end

variable (m : (ℓ : Loc nD τ sig) → Buf (Elt Ideal) ℓ) (c : Dev nD) (j : Fin 3584)

theorem tab0 : (V m c main_v216 : Vec Ideal S1x3584 .i32) (ix2 0 j) = (V m c main_arg8 : Vec Ideal S3584 .i32) (ix1 j) := by
  rw [V_eq, V_eq]
  exact row0 _ j

theorem tab1 : (V m c main_v217 : Vec Ideal S1x3584 .i32) (ix2 0 j) = (V m c main_v204 : Vec Ideal S3584 .i32) (ix1 j) := by
  rw [V_eq, V_eq]
  exact row1 _ j

theorem tab2 : (V m c main_v218 : Vec Ideal S1x3584 .i32) (ix2 0 j) = (V m c main_v206 : Vec Ideal S3584 .i32) (ix1 j) := by
  rw [V_eq, V_eq]
  exact row2 _ j

end Cert.Proof.DownRows

end
-- ==== Proof.UpTies1.lean ====
/-
  Hand-written, untrusted. HOST VALUES OF KERNEL AND REFERENCE, which run the same float and integer operations on the host: from equal
  arguments the buffers named here hold equal arrays.
-/
module

public import proofs.«01_k».proof.Proof.Host
public import proofs.«01_k».proof.Proof.Gen.ReferenceIdeal.Frame
public import proofs.«01_k».proof.Proof.Ints
public import Idealize.ShloMosaic.Lib.Pointwise
public import Idealize.ShloMosaic.Lib.StableHlo.ReadAt
public import Idealize.ShloMosaic.Lib.Pipeline.ValueKit

@[expose] public section

set_option maxRecDepth 16384
set_option maxHeartbeats 4000000

noncomputable section

namespace Cert.Proof.UpTies1

open Idealize.ShloMosaic Idealize.ShloMosaic.TcCoe Idealize.SL.Sem
open Cert.Proof.Ints

variable (c : Dev KernelIdeal.nD) (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

theorem v42 (h1 : m' (c, ReferenceIdeal.main_arg1) = m (c, KernelIdeal.main_arg1)) (h3 : m' (c, ReferenceIdeal.main_arg3) = m (c, KernelIdeal.main_arg3)) :
    (KernelIdeal.Host.V m c KernelIdeal.main_v42 : Vec Ideal KernelIdeal.S18944 .i32) = ReferenceIdeal.Gen.V m' c ReferenceIdeal.main_v41 := by
  unfold KernelIdeal.Host.V ReferenceIdeal.Gen.V
  after_reads_simp
  rw [h1, h3]
  rfl

theorem v61 (h1 : m' (c, ReferenceIdeal.main_arg1) = m (c, KernelIdeal.main_arg1)) (h3 : m' (c, ReferenceIdeal.main_arg3) = m (c, KernelIdeal.main_arg3)) :
    (KernelIdeal.Host.V m c KernelIdeal.main_v61 : Vec Ideal KernelIdeal.S18944 .i32) = ReferenceIdeal.Gen.V m' c ReferenceIdeal.main_v60 := by
  unfold KernelIdeal.Host.V ReferenceIdeal.Gen.V
  after_reads_simp
  rw [h1, h3]
  rfl

theorem v66 (h1 : m' (c, ReferenceIdeal.main_arg1) = m (c, KernelIdeal.main_arg1)) (h3 : m' (c, ReferenceIdeal.main_arg3) = m (c, KernelIdeal.main_arg3)) :
    (KernelIdeal.Host.V m c KernelIdeal.main_v66 : Vec Ideal KernelIdeal.S18944 .i32) = ReferenceIdeal.Gen.V m' c ReferenceIdeal.main_v65 := by
  unfold KernelIdeal.Host.V ReferenceIdeal.Gen.V
  after_reads_simp
  rw [h1, h3]
  rfl

end Cert.Proof.UpTies1

end
-- ==== Proof.UpTies2.lean ====
/-
  Hand-written, untrusted. HOST VALUES OF KERNEL AND REFERENCE, which run the same float and integer operations on the host: from equal
  arguments the buffers named here hold equal arrays.
-/
module

public import proofs.«01_k».proof.Proof.Host
public import proofs.«01_k».proof.Proof.Gen.ReferenceIdeal.Frame
public import proofs.«01_k».proof.Proof.Ints
public import Idealize.ShloMosaic.Lib.Pointwise
public import Idealize.ShloMosaic.Lib.StableHlo.ReadAt
public import Idealize.ShloMosaic.Lib.Pipeline.ValueKit

@[expose] public section

set_option maxRecDepth 16384
set_option maxHeartbeats 4000000

noncomputable section

namespace Cert.Proof.UpTies2

open Idealize.ShloMosaic Idealize.ShloMosaic.TcCoe Idealize.SL.Sem
open Cert.Proof.Ints

variable (c : Dev KernelIdeal.nD) (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

theorem v103 (h1 : m' (c, ReferenceIdeal.main_arg1) = m (c, KernelIdeal.main_arg1)) (h3 : m' (c, ReferenceIdeal.main_arg3) = m (c, KernelIdeal.main_arg3)) :
    (KernelIdeal.Host.V m c KernelIdeal.main_v103 : Vec Ideal KernelIdeal.S18944 .i32) = ReferenceIdeal.Gen.V m' c ReferenceIdeal.main_v102 := by
  unfold KernelIdeal.Host.V ReferenceIdeal.Gen.V
  after_reads_simp
  rw [h1, h3]
  rfl

theorem v122 (h1 : m' (c, ReferenceIdeal.main_arg1) = m (c, KernelIdeal.main_arg1)) (h3 : m' (c, ReferenceIdeal.main_arg3) = m (c, KernelIdeal.main_arg3)) :
    (KernelIdeal.Host.V m c KernelIdeal.main_v122 : Vec Ideal KernelIdeal.S18944 .i32) = ReferenceIdeal.Gen.V m' c ReferenceIdeal.main_v121 := by
  unfold KernelIdeal.Host.V ReferenceIdeal.Gen.V
  after_reads_simp
  rw [h1, h3]
  rfl

end Cert.Proof.UpTies2

end
-- ==== Proof.UpTies3.lean ====
/-
  Hand-written, untrusted. HOST VALUES OF KERNEL AND REFERENCE, which run the same float and integer operations on the host: from equal
  arguments the buffers named here hold equal arrays.
-/
module

public import proofs.«01_k».proof.Proof.Host
public import proofs.«01_k».proof.Proof.Gen.ReferenceIdeal.Frame
public import proofs.«01_k».proof.Proof.Ints
public import Idealize.ShloMosaic.Lib.Pointwise
public import Idealize.ShloMosaic.Lib.StableHlo.ReadAt
public import Idealize.ShloMosaic.Lib.Pipeline.ValueKit

@[expose] public section

set_option maxRecDepth 16384
set_option maxHeartbeats 4000000

noncomputable section

namespace Cert.Proof.UpTies3

open Idealize.ShloMosaic Idealize.ShloMosaic.TcCoe Idealize.SL.Sem
open Cert.Proof.Ints

variable (c : Dev KernelIdeal.nD) (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

theorem v163 (h1 : m' (c, ReferenceIdeal.main_arg1) = m (c, KernelIdeal.main_arg1)) (h3 : m' (c, ReferenceIdeal.main_arg3) = m (c, KernelIdeal.main_arg3)) (h5 : m' (c, ReferenceIdeal.main_arg5) = m (c, KernelIdeal.main_arg5)) :
    (KernelIdeal.Host.V m c KernelIdeal.main_v163 : Vec Ideal KernelIdeal.S18944 .i32) = ReferenceIdeal.Gen.V m' c ReferenceIdeal.main_v162 := by
  unfold KernelIdeal.Host.V ReferenceIdeal.Gen.V
  after_reads_simp
  rw [h1, h3, h5]
  rfl

end Cert.Proof.UpTies3

end
-- ==== Proof.UpTies4.lean ====
/-
  Hand-written, untrusted. HOST VALUES OF KERNEL AND REFERENCE, which run the same float and integer operations on the host: from equal
  arguments the buffers named here hold equal arrays.
-/
module

public import proofs.«01_k».proof.Proof.Host
public import proofs.«01_k».proof.Proof.Gen.ReferenceIdeal.Frame
public import proofs.«01_k».proof.Proof.Ints
public import Idealize.ShloMosaic.Lib.Pointwise
public import Idealize.ShloMosaic.Lib.StableHlo.ReadAt
public import Idealize.ShloMosaic.Lib.Pipeline.ValueKit

@[expose] public section

set_option maxRecDepth 16384
set_option maxHeartbeats 4000000

noncomputable section

namespace Cert.Proof.UpTies4

open Idealize.ShloMosaic Idealize.ShloMosaic.TcCoe Idealize.SL.Sem
open Cert.Proof.Ints

variable (c : Dev KernelIdeal.nD) (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

theorem v165 (h1 : m' (c, ReferenceIdeal.main_arg1) = m (c, KernelIdeal.main_arg1)) (h3 : m' (c, ReferenceIdeal.main_arg3) = m (c, KernelIdeal.main_arg3)) (h5 : m' (c, ReferenceIdeal.main_arg5) = m (c, KernelIdeal.main_arg5)) :
    (KernelIdeal.Host.V m c KernelIdeal.main_v165 : Vec Ideal KernelIdeal.S18944 .i32) = ReferenceIdeal.Gen.V m' c ReferenceIdeal.main_v164 := by
  unfold KernelIdeal.Host.V ReferenceIdeal.Gen.V
  after_reads_simp
  rw [h1, h3, h5]
  rfl

end Cert.Proof.UpTies4

end
-- ==== Proof.DownTies.lean ====
/-
  Hand-written, untrusted. HOST VALUES OF KERNEL AND REFERENCE, which run the same float and integer operations on the host: from equal
  arguments the buffers named here hold equal arrays.
-/
module

public import proofs.«01_k».proof.Proof.Host
public import proofs.«01_k».proof.Proof.Gen.ReferenceIdeal.Frame
public import proofs.«01_k».proof.Proof.Ints
public import Idealize.ShloMosaic.Lib.Pointwise
public import Idealize.ShloMosaic.Lib.StableHlo.ReadAt
public import Idealize.ShloMosaic.Lib.Pipeline.ValueKit

@[expose] public section

set_option maxRecDepth 16384
set_option maxHeartbeats 4000000

noncomputable section

namespace Cert.Proof.DownTies

open Idealize.ShloMosaic Idealize.ShloMosaic.TcCoe Idealize.SL.Sem
open Cert.Proof.Ints

variable (c : Dev KernelIdeal.nD) (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ)

theorem v230 (h5 : m' (c, ReferenceIdeal.main_arg5) = m (c, KernelIdeal.main_arg5)) (h7 : m' (c, ReferenceIdeal.main_arg7) = m (c, KernelIdeal.main_arg7)) (h9 : m' (c, ReferenceIdeal.main_arg9) = m (c, KernelIdeal.main_arg9)) :
    (KernelIdeal.Host.V m c KernelIdeal.main_v230 : Vec Ideal KernelIdeal.S3584 .i32) = ReferenceIdeal.Gen.V m' c ReferenceIdeal.main_v204 := by
  unfold KernelIdeal.Host.V ReferenceIdeal.Gen.V
  after_reads_simp
  rw [h5, h7, h9]
  rfl

theorem v232 (h5 : m' (c, ReferenceIdeal.main_arg5) = m (c, KernelIdeal.main_arg5)) (h7 : m' (c, ReferenceIdeal.main_arg7) = m (c, KernelIdeal.main_arg7)) (h9 : m' (c, ReferenceIdeal.main_arg9) = m (c, KernelIdeal.main_arg9)) :
    (KernelIdeal.Host.V m c KernelIdeal.main_v232 : Vec Ideal KernelIdeal.S3584 .i32) = ReferenceIdeal.Gen.V m' c ReferenceIdeal.main_v206 := by
  unfold KernelIdeal.Host.V ReferenceIdeal.Gen.V
  after_reads_simp
  rw [h5, h7, h9]
  rfl

end Cert.Proof.DownTies

end
-- ==== Proof.Claims.lean ====
/-
  Hand-written, untrusted. THE VALUE CLAIM: from equal arguments `KernelIdeal` and `ReferenceIdeal` leave equal results, all four.
  The first call's array is the reference's array of hidden codes (`hidden_eq`); so the second call, which reads it, leaves the
  reference's array of the result's codes (`result_eq`); both programs reshape the two arrays alike; the two scales are arguments.
-/
module

public import proofs.«01_k».proof.Defs
public import proofs.«01_k».proof.Proof.UpKernel
public import proofs.«01_k».proof.Proof.DownKernel
public import proofs.«01_k».proof.Proof.Host
public import proofs.«01_k».proof.Proof.Reference
public import proofs.«01_k».proof.Proof.UpTable
public import proofs.«01_k».proof.Proof.DownTable
public import proofs.«01_k».proof.Proof.UpRows
public import proofs.«01_k».proof.Proof.DownRows
public import proofs.«01_k».proof.Proof.UpTies1
public import proofs.«01_k».proof.Proof.UpTies2
public import proofs.«01_k».proof.Proof.UpTies3
public import proofs.«01_k».proof.Proof.UpTies4
public import proofs.«01_k».proof.Proof.DownTies

@[expose] public section

set_option maxRecDepth 16384

noncomputable section

namespace Cert.Proof.Claims

open Idealize.ShloMosaic Idealize.ShloMosaic.TcCoe Idealize.SL.Sem
open Cert.Proof.Ints Cert.Proof.Scalars

variable (c : Dev KernelIdeal.nD) (m : (ℓ : Loc KernelIdeal.nD KernelIdeal.τ KernelIdeal.sig) → Buf (Elt Ideal) ℓ) (ρ : Dev KernelIdeal.nD → PrngReg)
  (m' : (ℓ : Loc ReferenceIdeal.nD ReferenceIdeal.τ ReferenceIdeal.sig) → Buf (Elt Ideal) ℓ)

/-- The activations, reshaped alike. -/
theorem x_eq (h0 : m' (c, ReferenceIdeal.main_arg0) = m (c, KernelIdeal.main_arg0)) :
    (KernelIdeal.Host.V m c KernelIdeal.main_v4 : Vec Ideal KernelIdeal.S1536x3584 .i8) = ReferenceIdeal.Gen.V m' c ReferenceIdeal.main_v207 := by
  unfold KernelIdeal.Host.V ReferenceIdeal.Gen.V
  after_reads_simp
  rw [h0]
  rfl

/-- The first weights. -/
theorem w1_eq (h2 : m' (c, ReferenceIdeal.main_arg2) = m (c, KernelIdeal.main_arg2)) :
    (KernelIdeal.Host.V m c KernelIdeal.main_arg2 : Vec Ideal KernelIdeal.S3584x18944 .i8) = ReferenceIdeal.Gen.V m' c ReferenceIdeal.main_arg2 :=
  (KernelIdeal.Host.V_arg m c KernelIdeal.main_arg2 (by decide)).trans (h2.symm.trans (ReferenceIdeal.Gen.V_main_arg2 m' c).symm)

/-- The first biases. -/
theorem b1_eq (h4 : m' (c, ReferenceIdeal.main_arg4) = m (c, KernelIdeal.main_arg4)) :
    (KernelIdeal.Host.V m c KernelIdeal.main_arg4 : Vec Ideal KernelIdeal.S18944 .i32) = ReferenceIdeal.Gen.V m' c ReferenceIdeal.main_arg4 :=
  (KernelIdeal.Host.V_arg m c KernelIdeal.main_arg4 (by decide)).trans (h4.symm.trans (ReferenceIdeal.Gen.V_main_arg4 m' c).symm)

/-- The second weights. -/
theorem w2_eq (h6 : m' (c, ReferenceIdeal.main_arg6) = m (c, KernelIdeal.main_arg6)) :
    (KernelIdeal.Host.V m c KernelIdeal.main_arg6 : Vec Ideal KernelIdeal.S18944x3584 .i8) = ReferenceIdeal.Gen.V m' c ReferenceIdeal.main_arg6 :=
  (KernelIdeal.Host.V_arg m c KernelIdeal.main_arg6 (by decide)).trans (h6.symm.trans (ReferenceIdeal.Gen.V_main_arg6 m' c).symm)

/-- The second biases. -/
theorem b2_eq (h8 : m' (c, ReferenceIdeal.main_arg8) = m (c, KernelIdeal.main_arg8)) :
    (KernelIdeal.Host.V m c KernelIdeal.main_arg8 : Vec Ideal KernelIdeal.S3584 .i32) = ReferenceIdeal.Gen.V m' c ReferenceIdeal.main_arg8 :=
  (KernelIdeal.Host.V_arg m c KernelIdeal.main_arg8 (by decide)).trans (h8.symm.trans (ReferenceIdeal.Gen.V_main_arg8 m' c).symm)

/-- One hidden code: the reference's formula over its host values is the kernel's over its own. -/
theorem up_code (i : Fin 1536) (j : Fin 18944)
    (h0 : m' (c, ReferenceIdeal.main_arg0) = m (c, KernelIdeal.main_arg0))
    (h1 : m' (c, ReferenceIdeal.main_arg1) = m (c, KernelIdeal.main_arg1))
    (h2 : m' (c, ReferenceIdeal.main_arg2) = m (c, KernelIdeal.main_arg2))
    (h3 : m' (c, ReferenceIdeal.main_arg3) = m (c, KernelIdeal.main_arg3))
    (h4 : m' (c, ReferenceIdeal.main_arg4) = m (c, KernelIdeal.main_arg4))
    (h5 : m' (c, ReferenceIdeal.main_arg5) = m (c, KernelIdeal.main_arg5)) :
    upR (fun x => (ReferenceIdeal.Gen.V m' c ReferenceIdeal.main_v207 : Vec Ideal ReferenceIdeal.S1536x3584 .i8) (ix2 i x))
      (fun x => (ReferenceIdeal.Gen.V m' c ReferenceIdeal.main_arg2 : Vec Ideal ReferenceIdeal.S3584x18944 .i8) (ix2 x j))
      ((ReferenceIdeal.Gen.V m' c ReferenceIdeal.main_v208 : Vec Ideal ReferenceIdeal.S1x18944 .i32) (ix2 0 j))
      ((ReferenceIdeal.Gen.V m' c ReferenceIdeal.main_v209 : Vec Ideal ReferenceIdeal.S1x18944 .i32) (ix2 0 j))
      ((ReferenceIdeal.Gen.V m' c ReferenceIdeal.main_v210 : Vec Ideal ReferenceIdeal.S1x18944 .i32) (ix2 0 j))
      ((ReferenceIdeal.Gen.V m' c ReferenceIdeal.main_v211 : Vec Ideal ReferenceIdeal.S1x18944 .i32) (ix2 0 j))
      ((ReferenceIdeal.Gen.V m' c ReferenceIdeal.main_v212 : Vec Ideal ReferenceIdeal.S1x18944 .i32) (ix2 0 j))
      ((ReferenceIdeal.Gen.V m' c ReferenceIdeal.main_v213 : Vec Ideal ReferenceIdeal.S1x18944 .i32) (ix2 0 j))
      ((ReferenceIdeal.Gen.V m' c ReferenceIdeal.main_v214 : Vec Ideal ReferenceIdeal.S1x18944 .i32) (ix2 0 j))
      ((ReferenceIdeal.Gen.V m' c ReferenceIdeal.main_v215 : Vec Ideal ReferenceIdeal.S1x18944 .i32) (ix2 0 j))
    = upK (fun x => (KernelIdeal.Host.V m c KernelIdeal.main_v4 : Vec Ideal KernelIdeal.S1536x3584 .i8) (ix2 i x))
      (fun x => (KernelIdeal.Host.V m c KernelIdeal.main_arg2 : Vec Ideal KernelIdeal.S3584x18944 .i8) (ix2 x j))
      (fun r => (KernelIdeal.Host.V m c KernelIdeal.main_v190 : Vec Ideal KernelIdeal.S10x18944 .i32) (ix2 r j)) :=
  up_of (funext fun x => congrFun (x_eq c m m' h0) (ix2 i x)) (funext fun x => congrFun (w1_eq c m m' h2) (ix2 x j))
    ((UpTable.tab0 m c j).trans ((congrFun (b1_eq c m m' h4) _).trans (UpRows.tab0 m' c j).symm))
    ((UpTable.tab1 m c j).trans (congrArg leftOf ((congrFun (UpTies1.v42 c m m' h1 h3) _).trans (UpRows.tab1 m' c j).symm)))
    ((UpTable.tab2 m c j).trans (congrArg rightOf ((congrFun (UpTies1.v42 c m m' h1 h3) _).trans (UpRows.tab1 m' c j).symm)))
    ((UpTable.tab3 m c j).trans ((congrFun (UpTies1.v61 c m m' h1 h3) _).trans (UpRows.tab2 m' c j).symm))
    ((UpTable.tab4 m c j).trans ((congrFun (UpTies1.v66 c m m' h1 h3) _).trans (UpRows.tab3 m' c j).symm))
    ((UpTable.tab5 m c j).trans ((congrFun (UpTies2.v103 c m m' h1 h3) _).trans (UpRows.tab4 m' c j).symm))
    ((UpTable.tab6 m c j).trans ((congrFun (UpTies2.v122 c m m' h1 h3) _).trans (UpRows.tab5 m' c j).symm))
    ((UpTable.tab7 m c j).trans ((congrFun (UpTies3.v163 c m m' h1 h3 h5) _).trans (UpRows.tab6 m' c j).symm))
    ((UpTable.tab8 m c j).trans (congrArg rndOf ((congrFun (UpTies4.v165 c m m' h1 h3 h5) _).trans (UpRows.tab7 m' c j).symm)))
    ((UpTable.tab9 m c j).trans (congrArg shiftOf ((congrFun (UpTies4.v165 c m m' h1 h3 h5) _).trans (UpRows.tab7 m' c j).symm)))

/-- The first call finds what the host line leaves, all its buffers together. -/
theorem V19_fun : KernelIdeal.Whole.V19 m ρ = fun c b => KernelIdeal.Host.V m c b :=
  funext fun c => funext fun b => KernelIdeal.Host.V19_eq m ρ c b

/-- The first call's array is the reference's hidden codes. -/
theorem hidden_eq
    (h0 : m' (c, ReferenceIdeal.main_arg0) = m (c, KernelIdeal.main_arg0))
    (h1 : m' (c, ReferenceIdeal.main_arg1) = m (c, KernelIdeal.main_arg1))
    (h2 : m' (c, ReferenceIdeal.main_arg2) = m (c, KernelIdeal.main_arg2))
    (h3 : m' (c, ReferenceIdeal.main_arg3) = m (c, KernelIdeal.main_arg3))
    (h4 : m' (c, ReferenceIdeal.main_arg4) = m (c, KernelIdeal.main_arg4))
    (h5 : m' (c, ReferenceIdeal.main_arg5) = m (c, KernelIdeal.main_arg5)) :
    Reference.hidden m' c = UpKernel.result (KernelIdeal.Whole.V19 m ρ) c := by
  refine Eq.trans ?_ (congrArg (fun W => UpKernel.result W c) (V19_fun m ρ)).symm
  funext y
  exact up_code c m m' (y 0) (y 1) h0 h1 h2 h3 h4 h5

/-- The second call reads the reference's hidden codes. -/
theorem hidden_read
    (h0 : m' (c, ReferenceIdeal.main_arg0) = m (c, KernelIdeal.main_arg0))
    (h1 : m' (c, ReferenceIdeal.main_arg1) = m (c, KernelIdeal.main_arg1))
    (h2 : m' (c, ReferenceIdeal.main_arg2) = m (c, KernelIdeal.main_arg2))
    (h3 : m' (c, ReferenceIdeal.main_arg3) = m (c, KernelIdeal.main_arg3))
    (h4 : m' (c, ReferenceIdeal.main_arg4) = m (c, KernelIdeal.main_arg4))
    (h5 : m' (c, ReferenceIdeal.main_arg5) = m (c, KernelIdeal.main_arg5)) :
    (KernelIdeal.Whole.V20 m ρ c KernelIdeal.main_v248 : Vec Ideal KernelIdeal.S1536x18944 .i8) = Reference.hidden m' c :=
  (KernelIdeal.Host.V20_hidden m ρ c).trans ((UpKernel.fin (KernelIdeal.Whole.V19 m ρ) c).trans (hidden_eq c m ρ m' h0 h1 h2 h3 h4 h5).symm)

/-- The second weights, as the second call finds them. -/
theorem w2_read (h6 : m' (c, ReferenceIdeal.main_arg6) = m (c, KernelIdeal.main_arg6)) :
    (KernelIdeal.Whole.V20 m ρ c KernelIdeal.main_arg6 : Vec Ideal KernelIdeal.S18944x3584 .i8) = ReferenceIdeal.Gen.V m' c ReferenceIdeal.main_arg6 :=
  (KernelIdeal.Host.V20_arg m ρ c KernelIdeal.main_arg6 (by decide)).trans (h6.symm.trans (ReferenceIdeal.Gen.V_main_arg6 m' c).symm)

/-- One word of the second call's table, as it finds it. -/
theorem table_read (y : KernelIdeal.S4x3584.Idx) :
    (KernelIdeal.Whole.V20 m ρ c KernelIdeal.main_v247 : Vec Ideal KernelIdeal.S4x3584 .i32) y = (KernelIdeal.Host.V m c KernelIdeal.main_v247 : Vec Ideal KernelIdeal.S4x3584 .i32) y :=
  congrFun (KernelIdeal.Host.V20_table m ρ c) y

/-- The second call's array is the reference's result codes. -/
theorem result_eq
    (h0 : m' (c, ReferenceIdeal.main_arg0) = m (c, KernelIdeal.main_arg0))
    (h1 : m' (c, ReferenceIdeal.main_arg1) = m (c, KernelIdeal.main_arg1))
    (h2 : m' (c, ReferenceIdeal.main_arg2) = m (c, KernelIdeal.main_arg2))
    (h3 : m' (c, ReferenceIdeal.main_arg3) = m (c, KernelIdeal.main_arg3))
    (h4 : m' (c, ReferenceIdeal.main_arg4) = m (c, KernelIdeal.main_arg4))
    (h5 : m' (c, ReferenceIdeal.main_arg5) = m (c, KernelIdeal.main_arg5))
    (h6 : m' (c, ReferenceIdeal.main_arg6) = m (c, KernelIdeal.main_arg6))
    (h7 : m' (c, ReferenceIdeal.main_arg7) = m (c, KernelIdeal.main_arg7))
    (h8 : m' (c, ReferenceIdeal.main_arg8) = m (c, KernelIdeal.main_arg8))
    (h9 : m' (c, ReferenceIdeal.main_arg9) = m (c, KernelIdeal.main_arg9)) :
    Reference.result m' c = DownKernel.result (KernelIdeal.Whole.V20 m ρ) c := by
  funext y
  have e : ∀ x, (KernelIdeal.Whole.V20 m ρ c KernelIdeal.main_v248 : Vec Ideal KernelIdeal.S1536x18944 .i8) x = Reference.hidden m' c x :=
    congrFun (hidden_read c m ρ m' h0 h1 h2 h3 h4 h5)
  have ew : ∀ x, (KernelIdeal.Whole.V20 m ρ c KernelIdeal.main_arg6 : Vec Ideal KernelIdeal.S18944x3584 .i8) x = ReferenceIdeal.Gen.V m' c ReferenceIdeal.main_arg6 x :=
    congrFun (w2_read c m ρ m' h6)
  have et := table_read c m ρ
  exact down_of (funext fun x => e (ix2 (y 0) x)) (funext fun x => ew (ix2 x (y 1)))
    ((et (ix2 0 (y 1))).trans ((DownTable.tab0 m c (y 1)).trans ((congrFun (b2_eq c m m' h8) _).trans (DownRows.tab0 m' c (y 1)).symm)))
    ((et (ix2 1 (y 1))).trans ((DownTable.tab1 m c (y 1)).trans ((congrFun (DownTies.v230 c m m' h5 h7 h9) _).trans (DownRows.tab1 m' c (y 1)).symm)))
    ((et (ix2 2 (y 1))).trans ((DownTable.tab2 m c (y 1)).trans (congrArg rndOf ((congrFun (DownTies.v232 c m m' h5 h7 h9) _).trans (DownRows.tab2 m' c (y 1)).symm))))
    ((et (ix2 3 (y 1))).trans ((DownTable.tab3 m c (y 1)).trans (congrArg shiftOf ((congrFun (DownTies.v232 c m m' h5 h7 h9) _).trans (DownRows.tab2 m' c (y 1)).symm))))

/-- The third result, the hidden codes in three dimensions. -/
theorem end_hidden
    (h0 : m' (c, ReferenceIdeal.main_arg0) = m (c, KernelIdeal.main_arg0))
    (h1 : m' (c, ReferenceIdeal.main_arg1) = m (c, KernelIdeal.main_arg1))
    (h2 : m' (c, ReferenceIdeal.main_arg2) = m (c, KernelIdeal.main_arg2))
    (h3 : m' (c, ReferenceIdeal.main_arg3) = m (c, KernelIdeal.main_arg3))
    (h4 : m' (c, ReferenceIdeal.main_arg4) = m (c, KernelIdeal.main_arg4))
    (h5 : m' (c, ReferenceIdeal.main_arg5) = m (c, KernelIdeal.main_arg5)) :
    ((ReferenceIdeal.Gen.dats m' 0 c).arrAt 14 ReferenceIdeal.cfg0.N : Vec Ideal KernelIdeal.S12x128x18944 .i8)
      = KernelIdeal.Whole.W22 m ρ c (Proc.devRef .tc KernelIdeal.main_v251) := by
  have e : (KernelIdeal.Whole.V21 m ρ c KernelIdeal.main_v248 : Vec Ideal KernelIdeal.S1536x18944 .i8) = Reference.hidden m' c :=
    (KernelIdeal.Host.V21_hidden m ρ c).trans ((UpKernel.fin (KernelIdeal.Whole.V19 m ρ) c).trans (hidden_eq c m ρ m' h0 h1 h2 h3 h4 h5).symm)
  exact (Reference.fin_hidden m' c).trans ((congrArg (fun A : Vec Ideal KernelIdeal.S1536x18944 .i8 =>
    shapeCast KernelIdeal.S12x128x18944 A KernelIdeal.Gen.facts.shapeCasts_S1536x18944_S12x128x18944) e.symm).trans (KernelIdeal.Host.end_hidden m ρ c).symm)

/-- The first result, the result's codes in three dimensions. -/
theorem end_out
    (h0 : m' (c, ReferenceIdeal.main_arg0) = m (c, KernelIdeal.main_arg0))
    (h1 : m' (c, ReferenceIdeal.main_arg1) = m (c, KernelIdeal.main_arg1))
    (h2 : m' (c, ReferenceIdeal.main_arg2) = m (c, KernelIdeal.main_arg2))
    (h3 : m' (c, ReferenceIdeal.main_arg3) = m (c, KernelIdeal.main_arg3))
    (h4 : m' (c, ReferenceIdeal.main_arg4) = m (c, KernelIdeal.main_arg4))
    (h5 : m' (c, ReferenceIdeal.main_arg5) = m (c, KernelIdeal.main_arg5))
    (h6 : m' (c, ReferenceIdeal.main_arg6) = m (c, KernelIdeal.main_arg6))
    (h7 : m' (c, ReferenceIdeal.main_arg7) = m (c, KernelIdeal.main_arg7))
    (h8 : m' (c, ReferenceIdeal.main_arg8) = m (c, KernelIdeal.main_arg8))
    (h9 : m' (c, ReferenceIdeal.main_arg9) = m (c, KernelIdeal.main_arg9)) :
    ((ReferenceIdeal.Gen.dats m' 0 c).arrAt 15 ReferenceIdeal.cfg0.N : Vec Ideal KernelIdeal.S12x128x3584 .i8)
      = KernelIdeal.Whole.W22 m ρ c (Proc.devRef .tc KernelIdeal.main_v250) := by
  have e : (KernelIdeal.Whole.V21 m ρ c KernelIdeal.main_v249 : Vec Ideal KernelIdeal.S1536x3584 .i8) = Reference.result m' c :=
    (KernelIdeal.Host.V21_out m ρ c).trans ((DownKernel.fin (KernelIdeal.Whole.V20 m ρ) c).trans (result_eq c m ρ m' h0 h1 h2 h3 h4 h5 h6 h7 h8 h9).symm)
  exact (Reference.fin_result m' c).trans ((congrArg (fun A : Vec Ideal KernelIdeal.S1536x3584 .i8 =>
    shapeCast KernelIdeal.S12x128x3584 A KernelIdeal.Gen.facts.shapeCasts_S1536x3584_S12x128x3584) e.symm).trans (KernelIdeal.Host.end_out m ρ c).symm)

/-- `Cert.algebraic_KernelIdeal_ReferenceIdeal`. -/
theorem algebraic : Cert.algebraic_KernelIdeal_ReferenceIdeal (hKernelIdeal := Cert.KernelIdeal.Gen.facts)
    (hReferenceIdeal := Cert.ReferenceIdeal.Gen.facts) := by
  intro m g m' g' _ hargs
  refine ⟨fun c => KernelIdeal.Whole.W22 m g c (Proc.devRef .tc KernelIdeal.main_v250), fun c => m (c, KernelIdeal.main_arg9),
    fun c => KernelIdeal.Whole.W22 m g c (Proc.devRef .tc KernelIdeal.main_v251), fun c => m (c, KernelIdeal.main_arg5), ?_, ?_⟩
  · refine (θ_run (Cert.KernelIdeal.defs (F := Ideal)) _ _).mono (fun r h c => ?_) (KernelIdeal.Whole.run_whole (F := Ideal) m g)
    have ha : ∀ a ∈ KernelIdeal.Whole.argRefs, ¬ (Proc.devRef .tc a : DevRef KernelIdeal.τ KernelIdeal.sig).isScoped →
        r.2.mem ((c.tc : Thread KernelIdeal.nD KernelIdeal.τ).loc a) = m ((c.tc : Thread KernelIdeal.nD KernelIdeal.τ).loc a) :=
      fun a h1 h2 => (h.1 c _ (KernelIdeal.Whole.mem_uc a h2)).trans (KernelIdeal.Whole.W22_args m g c a h1)
    exact ⟨h.1 c _ (KernelIdeal.Whole.mem_uc KernelIdeal.main_v250 (by decide)), ha _ (by decide) (by decide),
      h.1 c _ (KernelIdeal.Whole.mem_uc KernelIdeal.main_v251 (by decide)), ha _ (by decide) (by decide),
      ha _ (by decide) (by decide), ha _ (by decide) (by decide), ha _ (by decide) (by decide), ha _ (by decide) (by decide), ha _ (by decide) (by decide),
      ha _ (by decide) (by decide), ha _ (by decide) (by decide), ha _ (by decide) (by decide), ha _ (by decide) (by decide), ha _ (by decide) (by decide)⟩
  · refine (θ_run (Cert.ReferenceIdeal.defs (F := Ideal)) _ _).mono (fun r h c => ?_) (ReferenceRun.run_blocks (F := Ideal) m' g')
    obtain ⟨h0, h1, h2, h3, h4, h5, h6, h7, h8, h9⟩ := hargs c
    obtain ⟨eh, ey, ea⟩ := h c
    obtain ⟨-, -, -, -, -, e5, -, -, -, e9⟩ := ea
    exact ⟨ey.trans (end_out c m g m' h0 h1 h2 h3 h4 h5 h6 h7 h8 h9), e9.trans h9,
      eh.trans (end_hidden c m g m' h0 h1 h2 h3 h4 h5), e5.trans h5, (h c).2.2⟩

end Cert.Proof.Claims

end
-- ==== Proof.lean ====
/-
  Hand-written, untrusted. The proof of `Cert.Claim` (proof/Defs.lean): the kernel's frames (Proof/WholeBitsRun.lean,
  Proof/WholeIdealRun.lean), the reference's generated one, the `preserves` claim (no rewrite, so `trivial`), and the value claim
  (Proof/Claims.lean).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.WholeBitsRun
public import proofs.«01_k».proof.Proof.WholeIdealRun
public import proofs.«01_k».proof.Proof.Claims

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts,
    fun m ρ _ => Cert.Kernel.Whole.frame m ρ, fun m ρ _ => Cert.KernelIdeal.Whole.frame m ρ,
    fun m ρ _ => Cert.ReferenceIdeal.Gen.frame m ρ, trivial, Claims.algebraic⟩

end Cert.Proof

end
